-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_finite [hPre_finite : Cert.Pre_finite.Facts] (m : (ℓ : Loc Cert.QkvIdeal.nD Cert.QkvIdeal.τ Cert.QkvIdeal.sig) → Buf (Elt Ideal) ℓ) : Prop :=
  ∀ c : Dev Cert.QkvIdeal.nD,
    (Cert.Pre_finite.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_finite [hPre_finite : Cert.Pre_finite.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_finite.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9)) (m ((c.tc : Thread Cert.QkvRefIdeal.nD Cert.QkvRefIdeal.τ).loc Cert.QkvRefIdeal.main_arg10)) (m ((c.tc : Thread Cert.QkvRefIdeal.nD Cert.QkvRefIdeal.τ).loc Cert.QkvRefIdeal.main_arg11))) = (fun _ => 1#1)

def Pre_TopK (m : (ℓ : Loc Cert.TopK.nD Cert.TopK.τ Cert.TopK.sig) → Buf (Elt Bits) ℓ) : Prop :=
  True

def Pre_TopKIdeal (m : (ℓ : Loc Cert.TopKIdeal.nD Cert.TopKIdeal.τ Cert.TopKIdeal.sig) → Buf (Elt Ideal) ℓ) : Prop :=
  True

def Pre_TopKIdeal_finite2 [hPre_finite2 : Cert.Pre_finite2.Facts] (m : (ℓ : Loc Cert.TopKIdeal.nD Cert.TopKIdeal.τ Cert.TopKIdeal.sig) → Buf (Elt Ideal) ℓ) : Prop :=
  ∀ c : Dev Cert.TopKIdeal.nD,
    (Cert.Pre_finite2.fn (F := Ideal) (m ((c.tc : Thread Cert.TopKIdeal.nD Cert.TopKIdeal.τ).loc Cert.TopKIdeal.main_arg0)) (m ((c.tc : Thread Cert.TopKIdeal.nD Cert.TopKIdeal.τ).loc Cert.TopKIdeal.main_arg1))) = (fun _ => 1#1)

def Pre_TopKRefIdeal (m : (ℓ : Loc Cert.TopKRefIdeal.nD Cert.TopKRefIdeal.τ Cert.TopKRefIdeal.sig) → Buf (Elt Ideal) ℓ) : Prop :=
  True

def Pre_TopKRefIdeal_finite2 [hPre_finite2 : Cert.Pre_finite2.Facts] (m : (ℓ : Loc Cert.TopKRefIdeal.nD Cert.TopKRefIdeal.τ Cert.TopKRefIdeal.sig) → Buf (Elt Ideal) ℓ) : Prop :=
  ∀ c : Dev Cert.TopKRefIdeal.nD,
    (Cert.Pre_finite2.fn (F := Ideal) (m ((c.tc : Thread Cert.TopKRefIdeal.nD Cert.TopKRefIdeal.τ).loc Cert.TopKRefIdeal.main_arg0)) (m ((c.tc : Thread Cert.TopKRefIdeal.nD Cert.TopKRefIdeal.τ).loc Cert.TopKRefIdeal.main_arg1))) = (fun _ => 1#1)

def Pre_Att [hPre_in_range : Cert.Pre_in_range.Facts] (m : (ℓ : Loc Cert.Att.nD Cert.Att.τ Cert.Att.sig) → Buf (Elt Bits) ℓ) : Prop :=
  ∀ c : Dev Cert.Att.nD,
    (Cert.Pre_in_range.fn (F := Bits) (m ((c.tc : Thread Cert.Att.nD Cert.Att.τ).loc Cert.Att.main_arg0)) (m ((c.tc : Thread Cert.Att.nD Cert.Att.τ).loc Cert.Att.main_arg1)) (m ((c.tc : Thread Cert.Att.nD Cert.Att.τ).loc Cert.Att.main_arg2)) (m ((c.tc : Thread Cert.Att.nD Cert.Att.τ).loc Cert.Att.main_arg3))) = (fun _ => 1#1)

def Pre_AttIdeal [hPre_in_range : Cert.Pre_in_range.Facts] (m : (ℓ : Loc Cert.AttIdeal.nD Cert.AttIdeal.τ Cert.AttIdeal.sig) → Buf (Elt Ideal) ℓ) : Prop :=
  ∀ c : Dev Cert.AttIdeal.nD,
    (Cert.Pre_in_range.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_in_range [hPre_in_range : Cert.Pre_in_range.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_in_range.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3))) = (fun _ => 1#1)

def Pre_Lepe (m : (ℓ : Loc Cert.Lepe.nD Cert.Lepe.τ Cert.Lepe.sig) → Buf (Elt Bits) ℓ) : Prop :=
  True

def Pre_LepeIdeal (m : (ℓ : Loc Cert.LepeIdeal.nD Cert.LepeIdeal.τ Cert.LepeIdeal.sig) → Buf (Elt Ideal) ℓ) : Prop :=
  True

def Pre_LepeRefIdeal (m : (ℓ : Loc Cert.LepeRefIdeal.nD Cert.LepeRefIdeal.τ Cert.LepeRefIdeal.sig) → Buf (Elt Ideal) ℓ) : Prop :=
  True

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ r.2.sem = fun _ => 0)

def quiescent_QkvIdeal_pre_finite [hQkvIdeal : Cert.QkvIdeal.Facts] [hPre_finite : Cert.Pre_finite.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_finite m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11))
      ∧ r.2.sem = fun _ => 0)

def quiescent_QkvRefIdeal_pre_finite [hQkvRefIdeal : Cert.QkvRefIdeal.Facts] [hPre_finite : Cert.Pre_finite.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_finite m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11))
      ∧ r.2.sem = fun _ => 0)

def quiescent_TopK [hTopK : Cert.TopK.Facts] : Prop :=
  ∀ (m : (ℓ : Loc Cert.TopK.nD Cert.TopK.τ Cert.TopK.sig) → Buf (Elt Bits) ℓ) (g : Dev Cert.TopK.nD → PrngReg), Pre_TopK m →
    θ_run (Cert.TopK.defs (F := Bits)) (onTc (τ := Cert.TopK.τ) (Cert.TopK.main (F := Bits))) ⟨m, fun _ => 0, g⟩ (fun r => (∀ c : Dev Cert.TopK.nD,
      r.2.mem ((c.tc : Thread Cert.TopK.nD Cert.TopK.τ).loc Cert.TopK.main_arg0) = m ((c.tc : Thread Cert.TopK.nD Cert.TopK.τ).loc Cert.TopK.main_arg0)
      ∧ r.2.mem ((c.tc : Thread Cert.TopK.nD Cert.TopK.τ).loc Cert.TopK.main_arg1) = m ((c.tc : Thread Cert.TopK.nD Cert.TopK.τ).loc Cert.TopK.main_arg1))
      ∧ r.2.sem = fun _ => 0)

def quiescent_TopKIdeal [hTopKIdeal : Cert.TopKIdeal.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0)
      ∧ r.2.mem ((c.tc : Thread Cert.TopKIdeal.nD Cert.TopKIdeal.τ).loc Cert.TopKIdeal.main_arg1) = m ((c.tc : Thread Cert.TopKIdeal.nD Cert.TopKIdeal.τ).loc Cert.TopKIdeal.main_arg1))
      ∧ r.2.sem = fun _ => 0)

def quiescent_TopKIdeal_pre_finite2 [hTopKIdeal : Cert.TopKIdeal.Facts] [hPre_finite2 : Cert.Pre_finite2.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal_finite2 m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0)
      ∧ r.2.mem ((c.tc : Thread Cert.TopKIdeal.nD Cert.TopKIdeal.τ).loc Cert.TopKIdeal.main_arg1) = m ((c.tc : Thread Cert.TopKIdeal.nD Cert.TopKIdeal.τ).loc Cert.TopKIdeal.main_arg1))
      ∧ r.2.sem = fun _ => 0)

def quiescent_TopKRefIdeal [hTopKRefIdeal : Cert.TopKRefIdeal.Facts] : Prop :=
  ∀ (m : (ℓ : Loc Cert.TopKRefIdeal.nD Cert.TopKRefIdeal.τ Cert.TopKRefIdeal.sig) → Buf (Elt Ideal) ℓ) (g : Dev Cert.TopKRefIdeal.nD → PrngReg), Pre_TopKRefIdeal m →
    θ_run (Cert.TopKRefIdeal.defs (F := Ideal)) (onTc (τ := Cert.TopKRefIdeal.τ) (Cert.TopKRefIdeal.main (F := Ideal))) ⟨m, fun _ => 0, g⟩ (fun r => (∀ c : Dev Cert.TopKRefIdeal.nD,
      r.2.mem ((c.tc : Thread Cert.TopKRefIdeal.nD Cert.TopKRefIdeal.τ).loc Cert.TopKRefIdeal.main_arg0) = m ((c.tc : Thread Cert.TopKRefIdeal.nD Cert.TopKRefIdeal.τ).loc Cert.TopKRefIdeal.main_arg0)
      ∧ r.2.mem ((c.tc : Thread Cert.TopKRefIdeal.nD Cert.TopKRefIdeal.τ).loc Cert.TopKRefIdeal.main_arg1) = m ((c.tc : Thread Cert.TopKRefIdeal.nD Cert.TopKRefIdeal.τ).loc Cert.TopKRefIdeal.main_arg1))
      ∧ r.2.sem = fun _ => 0)

def quiescent_TopKRefIdeal_pre_finite2 [hTopKRefIdeal : Cert.TopKRefIdeal.Facts] [hPre_finite2 : Cert.Pre_finite2.Facts] : Prop :=
  ∀ (m : (ℓ : Loc Cert.TopKRefIdeal.nD Cert.TopKRefIdeal.τ Cert.TopKRefIdeal.sig) → Buf (Elt Ideal) ℓ) (g : Dev Cert.TopKRefIdeal.nD → PrngReg), Pre_TopKRefIdeal_finite2 m →
    θ_run (Cert.TopKRefIdeal.defs (F := Ideal)) (onTc (τ := Cert.TopKRefIdeal.τ) (Cert.TopKRefIdeal.main (F := Ideal))) ⟨m, fun _ => 0, g⟩ (fun r => (∀ c : Dev Cert.TopKRefIdeal.nD,
      r.2.mem ((c.tc : Thread Cert.TopKRefIdeal.nD Cert.TopKRefIdeal.τ).loc Cert.TopKRefIdeal.main_arg0) = m ((c.tc : Thread Cert.TopKRefIdeal.nD Cert.TopKRefIdeal.τ).loc Cert.TopKRefIdeal.main_arg0)
      ∧ r.2.mem ((c.tc : Thread Cert.TopKRefIdeal.nD Cert.TopKRefIdeal.τ).loc Cert.TopKRefIdeal.main_arg1) = m ((c.tc : Thread Cert.TopKRefIdeal.nD Cert.TopKRefIdeal.τ).loc Cert.TopKRefIdeal.main_arg1))
      ∧ r.2.sem = fun _ => 0)

def quiescent_Att [hAtt : Cert.Att.Facts] [hPre_in_range : Cert.Pre_in_range.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2)
      ∧ r.2.mem ((c.tc : Thread Cert.Att.nD Cert.Att.τ).loc Cert.Att.main_arg3) = m ((c.tc : Thread Cert.Att.nD Cert.Att.τ).loc Cert.Att.main_arg3))
      ∧ r.2.sem = fun _ => 0)

def quiescent_AttIdeal [hAttIdeal : Cert.AttIdeal.Facts] [hPre_in_range : Cert.Pre_in_range.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3))
      ∧ r.2.sem = fun _ => 0)

def quiescent_AttRefIdeal_pre_in_range [hAttRefIdeal : Cert.AttRefIdeal.Facts] [hPre_in_range : Cert.Pre_in_range.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_in_range m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3))
      ∧ r.2.sem = fun _ => 0)

def quiescent_Lepe [hLepe : Cert.Lepe.Facts] : Prop :=
  ∀ (m : (ℓ : Loc Cert.Lepe.nD Cert.Lepe.τ Cert.Lepe.sig) → Buf (Elt Bits) ℓ) (g : Dev Cert.Lepe.nD → PrngReg), Pre_Lepe m →
    θ_run (Cert.Lepe.defs (F := Bits)) (onTc (τ := Cert.Lepe.τ) (Cert.Lepe.main (F := Bits))) ⟨m, fun _ => 0, g⟩ (fun r => (∀ c : Dev Cert.Lepe.nD,
      r.2.mem ((c.tc : Thread Cert.Lepe.nD Cert.Lepe.τ).loc Cert.Lepe.main_arg0) = m ((c.tc : Thread Cert.Lepe.nD Cert.Lepe.τ).loc Cert.Lepe.main_arg0)
      ∧ r.2.mem ((c.tc : Thread Cert.Lepe.nD Cert.Lepe.τ).loc Cert.Lepe.main_arg1) = m ((c.tc : Thread Cert.Lepe.nD Cert.Lepe.τ).loc Cert.Lepe.main_arg1)
      ∧ r.2.mem ((c.tc : Thread Cert.Lepe.nD Cert.Lepe.τ).loc Cert.Lepe.main_arg2) = m ((c.tc : Thread Cert.Lepe.nD Cert.Lepe.τ).loc Cert.Lepe.main_arg2)
      ∧ r.2.mem ((c.tc : Thread Cert.Lepe.nD Cert.Lepe.τ).loc Cert.Lepe.main_arg3) = m ((c.tc : Thread Cert.Lepe.nD Cert.Lepe.τ).loc Cert.Lepe.main_arg3)
      ∧ r.2.mem ((c.tc : Thread Cert.Lepe.nD Cert.Lepe.τ).loc Cert.Lepe.main_arg4) = m ((c.tc : Thread Cert.Lepe.nD Cert.Lepe.τ).loc Cert.Lepe.main_arg4)
      ∧ r.2.mem ((c.tc : Thread Cert.Lepe.nD Cert.Lepe.τ).loc Cert.Lepe.main_arg5) = m ((c.tc : Thread Cert.Lepe.nD Cert.Lepe.τ).loc Cert.Lepe.main_arg5))
      ∧ r.2.sem = fun _ => 0)

def quiescent_LepeIdeal [hLepeIdeal : Cert.LepeIdeal.Facts] : Prop :=
  ∀ (m : (ℓ : Loc Cert.LepeIdeal.nD Cert.LepeIdeal.τ Cert.LepeIdeal.sig) → Buf (Elt Ideal) ℓ) (g : Dev Cert.LepeIdeal.nD → PrngReg), Pre_LepeIdeal m →
    θ_run (Cert.LepeIdeal.defs (F := Ideal)) (onTc (τ := Cert.LepeIdeal.τ) (Cert.LepeIdeal.main (F := Ideal))) ⟨m, fun _ => 0, g⟩ (fun r => (∀ c : Dev Cert.LepeIdeal.nD,
      r.2.mem ((c.tc : Thread Cert.LepeIdeal.nD Cert.LepeIdeal.τ).loc Cert.LepeIdeal.main_arg0) = m ((c.tc : Thread Cert.LepeIdeal.nD Cert.LepeIdeal.τ).loc Cert.LepeIdeal.main_arg0)
      ∧ r.2.mem ((c.tc : Thread Cert.LepeIdeal.nD Cert.LepeIdeal.τ).loc Cert.LepeIdeal.main_arg1) = m ((c.tc : Thread Cert.LepeIdeal.nD Cert.LepeIdeal.τ).loc Cert.LepeIdeal.main_arg1)
      ∧ r.2.mem ((c.tc : Thread Cert.LepeIdeal.nD Cert.LepeIdeal.τ).loc Cert.LepeIdeal.main_arg2) = m ((c.tc : Thread Cert.LepeIdeal.nD Cert.LepeIdeal.τ).loc Cert.LepeIdeal.main_arg2)
      ∧ r.2.mem ((c.tc : Thread Cert.LepeIdeal.nD Cert.LepeIdeal.τ).loc Cert.LepeIdeal.main_arg3) = m ((c.tc : Thread Cert.LepeIdeal.nD Cert.LepeIdeal.τ).loc Cert.LepeIdeal.main_arg3)
      ∧ r.2.mem ((c.tc : Thread Cert.LepeIdeal.nD Cert.LepeIdeal.τ).loc Cert.LepeIdeal.main_arg4) = m ((c.tc : Thread Cert.LepeIdeal.nD Cert.LepeIdeal.τ).loc Cert.LepeIdeal.main_arg4)
      ∧ r.2.mem ((c.tc : Thread Cert.LepeIdeal.nD Cert.LepeIdeal.τ).loc Cert.LepeIdeal.main_arg5) = m ((c.tc : Thread Cert.LepeIdeal.nD Cert.LepeIdeal.τ).loc Cert.LepeIdeal.main_arg5))
      ∧ r.2.sem = fun _ => 0)

def quiescent_LepeRefIdeal [hLepeRefIdeal : Cert.LepeRefIdeal.Facts] : Prop :=
  ∀ (m : (ℓ : Loc Cert.LepeRefIdeal.nD Cert.LepeRefIdeal.τ Cert.LepeRefIdeal.sig) → Buf (Elt Ideal) ℓ) (g : Dev Cert.LepeRefIdeal.nD → PrngReg), Pre_LepeRefIdeal m →
    θ_run (Cert.LepeRefIdeal.defs (F := Ideal)) (onTc (τ := Cert.LepeRefIdeal.τ) (Cert.LepeRefIdeal.main (F := Ideal))) ⟨m, fun _ => 0, g⟩ (fun r => (∀ c : Dev Cert.LepeRefIdeal.nD,
      r.2.mem ((c.tc : Thread Cert.LepeRefIdeal.nD Cert.LepeRefIdeal.τ).loc Cert.LepeRefIdeal.main_arg0) = m ((c.tc : Thread Cert.LepeRefIdeal.nD Cert.LepeRefIdeal.τ).loc Cert.LepeRefIdeal.main_arg0)
      ∧ r.2.mem ((c.tc : Thread Cert.LepeRefIdeal.nD Cert.LepeRefIdeal.τ).loc Cert.LepeRefIdeal.main_arg1) = m ((c.tc : Thread Cert.LepeRefIdeal.nD Cert.LepeRefIdeal.τ).loc Cert.LepeRefIdeal.main_arg1)
      ∧ r.2.mem ((c.tc : Thread Cert.LepeRefIdeal.nD Cert.LepeRefIdeal.τ).loc Cert.LepeRefIdeal.main_arg2) = m ((c.tc : Thread Cert.LepeRefIdeal.nD Cert.LepeRefIdeal.τ).loc Cert.LepeRefIdeal.main_arg2)
      ∧ r.2.mem ((c.tc : Thread Cert.LepeRefIdeal.nD Cert.LepeRefIdeal.τ).loc Cert.LepeRefIdeal.main_arg3) = m ((c.tc : Thread Cert.LepeRefIdeal.nD Cert.LepeRefIdeal.τ).loc Cert.LepeRefIdeal.main_arg3)
      ∧ r.2.mem ((c.tc : Thread Cert.LepeRefIdeal.nD Cert.LepeRefIdeal.τ).loc Cert.LepeRefIdeal.main_arg4) = m ((c.tc : Thread Cert.LepeRefIdeal.nD Cert.LepeRefIdeal.τ).loc Cert.LepeRefIdeal.main_arg4)
      ∧ r.2.mem ((c.tc : Thread Cert.LepeRefIdeal.nD Cert.LepeRefIdeal.τ).loc Cert.LepeRefIdeal.main_arg5) = m ((c.tc : Thread Cert.LepeRefIdeal.nD Cert.LepeRefIdeal.τ).loc Cert.LepeRefIdeal.main_arg5))
      ∧ r.2.sem = fun _ => 0)

def preserves_Qkv_QkvIdeal : Prop :=
  True

def algebraic_QkvIdeal_QkvRefIdeal_pre_finite [hQkvIdeal : Cert.QkvIdeal.Facts] [hQkvRefIdeal : Cert.QkvRefIdeal.Facts] [hPre_finite : Cert.Pre_finite.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_finite m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)) →
    ∃ (v0 : (c : Dev Cert.QkvIdeal.nD) → Buf (Elt Ideal) ((c.tc : Thread Cert.QkvIdeal.nD Cert.QkvIdeal.τ).loc Cert.QkvIdeal.main_v58_0)) (v1 : (c : Dev Cert.QkvIdeal.nD) → Buf (Elt Ideal) ((c.tc : Thread Cert.QkvIdeal.nD Cert.QkvIdeal.τ).loc Cert.QkvIdeal.main_v58_1)) (v2 : (c : Dev Cert.QkvIdeal.nD) → Buf (Elt Ideal) ((c.tc : Thread Cert.QkvIdeal.nD Cert.QkvIdeal.τ).loc Cert.QkvIdeal.main_v58_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v58_0) = v0 c
          ∧ r.2.mem ((c.tc : Thread Cert.QkvIdeal.nD Cert.QkvIdeal.τ).loc Cert.QkvIdeal.main_v58_1) = v1 c
          ∧ r.2.mem ((c.tc : Thread Cert.QkvIdeal.nD Cert.QkvIdeal.τ).loc Cert.QkvIdeal.main_v58_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v184) = v0 c
          ∧ r.2.mem ((c.tc : Thread Cert.QkvRefIdeal.nD Cert.QkvRefIdeal.τ).loc Cert.QkvRefIdeal.main_v186) = v1 c
          ∧ r.2.mem ((c.tc : Thread Cert.QkvRefIdeal.nD Cert.QkvRefIdeal.τ).loc Cert.QkvRefIdeal.main_v188) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10)
          ∧ r.2.mem ((c.tc : Thread Cert.QkvRefIdeal.nD Cert.QkvRefIdeal.τ).loc Cert.QkvRefIdeal.main_arg11) = m' ((c.tc : Thread Cert.QkvRefIdeal.nD Cert.QkvRefIdeal.τ).loc Cert.QkvRefIdeal.main_arg11))

def preserves_TopK_TopKIdeal : Prop :=
  True

def algebraic_TopKIdeal_TopKRefIdeal_pre_finite2 [hTopKIdeal : Cert.TopKIdeal.Facts] [hTopKRefIdeal : Cert.TopKRefIdeal.Facts] [hPre_finite2 : Cert.Pre_finite2.Facts] : Prop :=
  ∀ (m : (ℓ : Loc Cert.TopKIdeal.nD Cert.TopKIdeal.τ Cert.TopKIdeal.sig) → Buf (Elt Ideal) ℓ) (g : Dev Cert.TopKIdeal.nD → PrngReg)
    (m' : (ℓ : Loc Cert.TopKRefIdeal.nD Cert.TopKRefIdeal.τ Cert.TopKRefIdeal.sig) → Buf (Elt Ideal) ℓ) (g' : Dev Cert.TopKRefIdeal.nD → PrngReg), Pre_TopKIdeal_finite2 m →
    (∀ c : Dev Cert.TopKIdeal.nD,
      m' ((c.tc : Thread Cert.TopKRefIdeal.nD Cert.TopKRefIdeal.τ).loc Cert.TopKRefIdeal.main_arg0) = m ((c.tc : Thread Cert.TopKIdeal.nD Cert.TopKIdeal.τ).loc Cert.TopKIdeal.main_arg0)
      ∧ m' ((c.tc : Thread Cert.TopKRefIdeal.nD Cert.TopKRefIdeal.τ).loc Cert.TopKRefIdeal.main_arg1) = m ((c.tc : Thread Cert.TopKIdeal.nD Cert.TopKIdeal.τ).loc Cert.TopKIdeal.main_arg1)) →
    ∃ (v0 : (c : Dev Cert.TopKIdeal.nD) → Buf (Elt Ideal) ((c.tc : Thread Cert.TopKIdeal.nD Cert.TopKIdeal.τ).loc Cert.TopKIdeal.main_v0)),
      θ_run (Cert.TopKIdeal.defs (F := Ideal)) (onTc (τ := Cert.TopKIdeal.τ) (Cert.TopKIdeal.main (F := Ideal))) ⟨m, fun _ => 0, g⟩ (fun r => ∀ c : Dev Cert.TopKIdeal.nD,
          r.2.mem ((c.tc : Thread Cert.TopKIdeal.nD Cert.TopKIdeal.τ).loc Cert.TopKIdeal.main_v0) = v0 c
          ∧ r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0)
          ∧ r.2.mem ((c.tc : Thread Cert.TopKIdeal.nD Cert.TopKIdeal.τ).loc Cert.TopKIdeal.main_arg1) = m ((c.tc : Thread Cert.TopKIdeal.nD Cert.TopKIdeal.τ).loc Cert.TopKIdeal.main_arg1))
      ∧ θ_run (Cert.TopKRefIdeal.defs (F := Ideal)) (onTc (τ := Cert.TopKRefIdeal.τ) (Cert.TopKRefIdeal.main (F := Ideal))) ⟨m', fun _ => 0, g'⟩ (fun r => ∀ c : Dev Cert.TopKRefIdeal.nD,
          r.2.mem ((c.tc : Thread Cert.TopKRefIdeal.nD Cert.TopKRefIdeal.τ).loc Cert.TopKRefIdeal.main_v19) = v0 c
          ∧ r.2.mem ((c.tc : Thread Cert.TopKRefIdeal.nD Cert.TopKRefIdeal.τ).loc Cert.TopKRefIdeal.main_arg0) = m' ((c.tc : Thread Cert.TopKRefIdeal.nD Cert.TopKRefIdeal.τ).loc Cert.TopKRefIdeal.main_arg0)
          ∧ r.2.mem ((c.tc : Thread Cert.TopKRefIdeal.nD Cert.TopKRefIdeal.τ).loc Cert.TopKRefIdeal.main_arg1) = m' ((c.tc : Thread Cert.TopKRefIdeal.nD Cert.TopKRefIdeal.τ).loc Cert.TopKRefIdeal.main_arg1))

def preserves_Att_AttIdeal : Prop :=
  True

def algebraic_AttIdeal_AttRefIdeal [hAttIdeal : Cert.AttIdeal.Facts] [hAttRefIdeal : Cert.AttRefIdeal.Facts] [hPre_in_range : Cert.Pre_in_range.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)
      ∧ m' ((c.tc : Thread Cert.AttRefIdeal.nD Cert.AttRefIdeal.τ).loc Cert.AttRefIdeal.main_arg3) = m ((c.tc : Thread Cert.AttIdeal.nD Cert.AttIdeal.τ).loc Cert.AttIdeal.main_arg3)) →
    ∃ (v0 : (c : Dev Cert.AttIdeal.nD) → Buf (Elt Ideal) ((c.tc : Thread Cert.AttIdeal.nD Cert.AttIdeal.τ).loc Cert.AttIdeal.main_v10)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v10) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
          ∧ r.2.mem ((c.tc : Thread Cert.AttIdeal.nD Cert.AttIdeal.τ).loc Cert.AttIdeal.main_arg3) = m ((c.tc : Thread Cert.AttIdeal.nD Cert.AttIdeal.τ).loc Cert.AttIdeal.main_arg3))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v44) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2)
          ∧ r.2.mem ((c.tc : Thread Cert.AttRefIdeal.nD Cert.AttRefIdeal.τ).loc Cert.AttRefIdeal.main_arg3) = m' ((c.tc : Thread Cert.AttRefIdeal.nD Cert.AttRefIdeal.τ).loc Cert.AttRefIdeal.main_arg3))

def preserves_Lepe_LepeIdeal : Prop :=
  True

def algebraic_LepeIdeal_LepeRefIdeal [hLepeIdeal : Cert.LepeIdeal.Facts] [hLepeRefIdeal : Cert.LepeRefIdeal.Facts] : Prop :=
  ∀ (m : (ℓ : Loc Cert.LepeIdeal.nD Cert.LepeIdeal.τ Cert.LepeIdeal.sig) → Buf (Elt Ideal) ℓ) (g : Dev Cert.LepeIdeal.nD → PrngReg)
    (m' : (ℓ : Loc Cert.LepeRefIdeal.nD Cert.LepeRefIdeal.τ Cert.LepeRefIdeal.sig) → Buf (Elt Ideal) ℓ) (g' : Dev Cert.LepeRefIdeal.nD → PrngReg), Pre_LepeIdeal m →
    (∀ c : Dev Cert.LepeIdeal.nD,
      m' ((c.tc : Thread Cert.LepeRefIdeal.nD Cert.LepeRefIdeal.τ).loc Cert.LepeRefIdeal.main_arg0) = m ((c.tc : Thread Cert.LepeIdeal.nD Cert.LepeIdeal.τ).loc Cert.LepeIdeal.main_arg0)
      ∧ m' ((c.tc : Thread Cert.LepeRefIdeal.nD Cert.LepeRefIdeal.τ).loc Cert.LepeRefIdeal.main_arg1) = m ((c.tc : Thread Cert.LepeIdeal.nD Cert.LepeIdeal.τ).loc Cert.LepeIdeal.main_arg1)
      ∧ m' ((c.tc : Thread Cert.LepeRefIdeal.nD Cert.LepeRefIdeal.τ).loc Cert.LepeRefIdeal.main_arg2) = m ((c.tc : Thread Cert.LepeIdeal.nD Cert.LepeIdeal.τ).loc Cert.LepeIdeal.main_arg2)
      ∧ m' ((c.tc : Thread Cert.LepeRefIdeal.nD Cert.LepeRefIdeal.τ).loc Cert.LepeRefIdeal.main_arg3) = m ((c.tc : Thread Cert.LepeIdeal.nD Cert.LepeIdeal.τ).loc Cert.LepeIdeal.main_arg3)
      ∧ m' ((c.tc : Thread Cert.LepeRefIdeal.nD Cert.LepeRefIdeal.τ).loc Cert.LepeRefIdeal.main_arg4) = m ((c.tc : Thread Cert.LepeIdeal.nD Cert.LepeIdeal.τ).loc Cert.LepeIdeal.main_arg4)
      ∧ m' ((c.tc : Thread Cert.LepeRefIdeal.nD Cert.LepeRefIdeal.τ).loc Cert.LepeRefIdeal.main_arg5) = m ((c.tc : Thread Cert.LepeIdeal.nD Cert.LepeIdeal.τ).loc Cert.LepeIdeal.main_arg5)) →
    ∃ (v0 : (c : Dev Cert.LepeIdeal.nD) → Buf (Elt Ideal) ((c.tc : Thread Cert.LepeIdeal.nD Cert.LepeIdeal.τ).loc Cert.LepeIdeal.main_v11)),
      θ_run (Cert.LepeIdeal.defs (F := Ideal)) (onTc (τ := Cert.LepeIdeal.τ) (Cert.LepeIdeal.main (F := Ideal))) ⟨m, fun _ => 0, g⟩ (fun r => ∀ c : Dev Cert.LepeIdeal.nD,
          r.2.mem ((c.tc : Thread Cert.LepeIdeal.nD Cert.LepeIdeal.τ).loc Cert.LepeIdeal.main_v11) = v0 c
          ∧ r.2.mem ((c.tc : Thread Cert.LepeIdeal.nD Cert.LepeIdeal.τ).loc Cert.LepeIdeal.main_arg0) = m ((c.tc : Thread Cert.LepeIdeal.nD Cert.LepeIdeal.τ).loc Cert.LepeIdeal.main_arg0)
          ∧ r.2.mem ((c.tc : Thread Cert.LepeIdeal.nD Cert.LepeIdeal.τ).loc Cert.LepeIdeal.main_arg1) = m ((c.tc : Thread Cert.LepeIdeal.nD Cert.LepeIdeal.τ).loc Cert.LepeIdeal.main_arg1)
          ∧ r.2.mem ((c.tc : Thread Cert.LepeIdeal.nD Cert.LepeIdeal.τ).loc Cert.LepeIdeal.main_arg2) = m ((c.tc : Thread Cert.LepeIdeal.nD Cert.LepeIdeal.τ).loc Cert.LepeIdeal.main_arg2)
          ∧ r.2.mem ((c.tc : Thread Cert.LepeIdeal.nD Cert.LepeIdeal.τ).loc Cert.LepeIdeal.main_arg3) = m ((c.tc : Thread Cert.LepeIdeal.nD Cert.LepeIdeal.τ).loc Cert.LepeIdeal.main_arg3)
          ∧ r.2.mem ((c.tc : Thread Cert.LepeIdeal.nD Cert.LepeIdeal.τ).loc Cert.LepeIdeal.main_arg4) = m ((c.tc : Thread Cert.LepeIdeal.nD Cert.LepeIdeal.τ).loc Cert.LepeIdeal.main_arg4)
          ∧ r.2.mem ((c.tc : Thread Cert.LepeIdeal.nD Cert.LepeIdeal.τ).loc Cert.LepeIdeal.main_arg5) = m ((c.tc : Thread Cert.LepeIdeal.nD Cert.LepeIdeal.τ).loc Cert.LepeIdeal.main_arg5))
      ∧ θ_run (Cert.LepeRefIdeal.defs (F := Ideal)) (onTc (τ := Cert.LepeRefIdeal.τ) (Cert.LepeRefIdeal.main (F := Ideal))) ⟨m', fun _ => 0, g'⟩ (fun r => ∀ c : Dev Cert.LepeRefIdeal.nD,
          r.2.mem ((c.tc : Thread Cert.LepeRefIdeal.nD Cert.LepeRefIdeal.τ).loc Cert.LepeRefIdeal.main_v80) = v0 c
          ∧ r.2.mem ((c.tc : Thread Cert.LepeRefIdeal.nD Cert.LepeRefIdeal.τ).loc Cert.LepeRefIdeal.main_arg0) = m' ((c.tc : Thread Cert.LepeRefIdeal.nD Cert.LepeRefIdeal.τ).loc Cert.LepeRefIdeal.main_arg0)
          ∧ r.2.mem ((c.tc : Thread Cert.LepeRefIdeal.nD Cert.LepeRefIdeal.τ).loc Cert.LepeRefIdeal.main_arg1) = m' ((c.tc : Thread Cert.LepeRefIdeal.nD Cert.LepeRefIdeal.τ).loc Cert.LepeRefIdeal.main_arg1)
          ∧ r.2.mem ((c.tc : Thread Cert.LepeRefIdeal.nD Cert.LepeRefIdeal.τ).loc Cert.LepeRefIdeal.main_arg2) = m' ((c.tc : Thread Cert.LepeRefIdeal.nD Cert.LepeRefIdeal.τ).loc Cert.LepeRefIdeal.main_arg2)
          ∧ r.2.mem ((c.tc : Thread Cert.LepeRefIdeal.nD Cert.LepeRefIdeal.τ).loc Cert.LepeRefIdeal.main_arg3) = m' ((c.tc : Thread Cert.LepeRefIdeal.nD Cert.LepeRefIdeal.τ).loc Cert.LepeRefIdeal.main_arg3)
          ∧ r.2.mem ((c.tc : Thread Cert.LepeRefIdeal.nD Cert.LepeRefIdeal.τ).loc Cert.LepeRefIdeal.main_arg4) = m' ((c.tc : Thread Cert.LepeRefIdeal.nD Cert.LepeRefIdeal.τ).loc Cert.LepeRefIdeal.main_arg4)
          ∧ r.2.mem ((c.tc : Thread Cert.LepeRefIdeal.nD Cert.LepeRefIdeal.τ).loc Cert.LepeRefIdeal.main_arg5) = m' ((c.tc : Thread Cert.LepeRefIdeal.nD Cert.LepeRefIdeal.τ).loc Cert.LepeRefIdeal.main_arg5))

def Claim : Prop :=
  ∃ (hQkv : Cert.Qkv.Facts) (hQkvIdeal : Cert.QkvIdeal.Facts) (hQkvRefIdeal : Cert.QkvRefIdeal.Facts) (hTopK : Cert.TopK.Facts) (hTopKIdeal : Cert.TopKIdeal.Facts) (hTopKRefIdeal : Cert.TopKRefIdeal.Facts) (hAtt : Cert.Att.Facts) (hAttIdeal : Cert.AttIdeal.Facts) (hAttRefIdeal : Cert.AttRefIdeal.Facts) (hLepe : Cert.Lepe.Facts) (hLepeIdeal : Cert.LepeIdeal.Facts) (hLepeRefIdeal : Cert.LepeRefIdeal.Facts) (hPre_finite : Cert.Pre_finite.Facts) (hPre_finite2 : Cert.Pre_finite2.Facts) (hPre_in_range : Cert.Pre_in_range.Facts),
    quiescent_Qkv (hQkv := hQkv)
    ∧ quiescent_QkvIdeal (hQkvIdeal := hQkvIdeal)
    ∧ quiescent_QkvIdeal_pre_finite (hQkvIdeal := hQkvIdeal) (hPre_finite := hPre_finite)
    ∧ quiescent_QkvRefIdeal (hQkvRefIdeal := hQkvRefIdeal)
    ∧ quiescent_QkvRefIdeal_pre_finite (hQkvRefIdeal := hQkvRefIdeal) (hPre_finite := hPre_finite)
    ∧ quiescent_TopK (hTopK := hTopK)
    ∧ quiescent_TopKIdeal (hTopKIdeal := hTopKIdeal)
    ∧ quiescent_TopKIdeal_pre_finite2 (hTopKIdeal := hTopKIdeal) (hPre_finite2 := hPre_finite2)
    ∧ quiescent_TopKRefIdeal (hTopKRefIdeal := hTopKRefIdeal)
    ∧ quiescent_TopKRefIdeal_pre_finite2 (hTopKRefIdeal := hTopKRefIdeal) (hPre_finite2 := hPre_finite2)
    ∧ quiescent_Att (hAtt := hAtt) (hPre_in_range := hPre_in_range)
    ∧ quiescent_AttIdeal (hAttIdeal := hAttIdeal) (hPre_in_range := hPre_in_range)
    ∧ quiescent_AttRefIdeal (hAttRefIdeal := hAttRefIdeal)
    ∧ quiescent_AttRefIdeal_pre_in_range (hAttRefIdeal := hAttRefIdeal) (hPre_in_range := hPre_in_range)
    ∧ quiescent_Lepe (hLepe := hLepe)
    ∧ quiescent_LepeIdeal (hLepeIdeal := hLepeIdeal)
    ∧ quiescent_LepeRefIdeal (hLepeRefIdeal := hLepeRefIdeal)
    ∧ preserves_Qkv_QkvIdeal
    ∧ algebraic_QkvIdeal_QkvRefIdeal_pre_finite (hQkvIdeal := hQkvIdeal) (hQkvRefIdeal := hQkvRefIdeal) (hPre_finite := hPre_finite)
    ∧ preserves_TopK_TopKIdeal
    ∧ algebraic_TopKIdeal_TopKRefIdeal_pre_finite2 (hTopKIdeal := hTopKIdeal) (hTopKRefIdeal := hTopKRefIdeal) (hPre_finite2 := hPre_finite2)
    ∧ preserves_Att_AttIdeal
    ∧ algebraic_AttIdeal_AttRefIdeal (hAttIdeal := hAttIdeal) (hAttRefIdeal := hAttRefIdeal) (hPre_in_range := hPre_in_range)
    ∧ preserves_Lepe_LepeIdeal
    ∧ algebraic_LepeIdeal_LepeRefIdeal (hLepeIdeal := hLepeIdeal) (hLepeRefIdeal := hLepeRefIdeal)
-- ==== Pre_finite.lean ====
abbrev S1x192x8x32x32 : Shape := ⟨5, ![1, 192, 8, 32, 32]⟩
abbrev S192x192x3x3x3 : Shape := ⟨5, ![192, 192, 3, 3, 3]⟩
abbrev S192 : Shape := ⟨1, ![192]⟩
abbrev S192x192x1x1x1 : Shape := ⟨5, ![192, 192, 1, 1, 1]⟩
abbrev S_ : Shape := ⟨0, ![]⟩

class Facts : Prop where
  bcast_S_S1x192x8x32x32 : S_.BroadcastsInDim S1x192x8x32x32 (![] : Fin 0 → Fin S1x192x8x32x32.rank)
  reducesTo_S1x192x8x32x32_S_d0_1_2_3_4 : S1x192x8x32x32.ReducesTo [0, 1, 2, 3, 4] S_
  h_S_ : 0 < S_.numel
  bcast_S_S192x192x3x3x3 : S_.BroadcastsInDim S192x192x3x3x3 (![] : Fin 0 → Fin S192x192x3x3x3.rank)
  reducesTo_S192x192x3x3x3_S_d0_1_2_3_4 : S192x192x3x3x3.ReducesTo [0, 1, 2, 3, 4] S_
  bcast_S_S192 : S_.BroadcastsInDim S192 (![] : Fin 0 → Fin S192.rank)
  reducesTo_S192_S_d0 : S192.ReducesTo [0] S_

variable [Facts]

def fn_part2 {F : FTy → Type} [FloatOps F] (main_v29 : IVec S_ 1) (main_v31 : FVec F S192 .f32) (main_v32 : FVec F S192 .f32) : IVec S_ 1 :=
  let main_v33 : IVec S192 1 := cmpf .une main_v31 main_v32
  let main_c_13 : IVec S_ 1 := constantI S_ 1 1#1
  let main_v34 : IVec S_ 1 := (fun x v => Host.reduce IntOp.andi x v reducesTo_S192_S_d0 h_S_) main_v33 main_c_13
  let main_v35 : IVec S_ 1 := andi main_v29 main_v34
  main_v35

def fn_part1 {F : FTy → Type} [FloatOps F] (main_arg6 : FVec F S192x192x3x3x3 .f32) (main_arg7 : FVec F S192 .f32) (main_arg10 : FVec F S192 .f32) (main_v13 : IVec S_ 1) (main_v15 : FVec F S192 .f32) (main_cst_5 : FVec F S_ .f32) : IVec S_ 1 :=
  let main_v16 : FVec F S192 .f32 := broadcastInDim S192 ![] bcast_S_S192 main_cst_5
  let main_v17 : IVec S192 1 := cmpf .une main_v15 main_v16
  let main_c_6 : IVec S_ 1 := constantI S_ 1 1#1
  let main_v18 : IVec S_ 1 := (fun x v => Host.reduce IntOp.andi x v reducesTo_S192_S_d0 h_S_) main_v17 main_c_6
  let main_v19 : IVec S_ 1 := andi main_v13 main_v18
  let main_v20 : FVec F S192x192x3x3x3 .f32 := Host.absf main_arg6
  let main_cst_7 : FVec F S_ .f32 := constant S_ .f32 0x7F800000#32
  let main_v21 : FVec F S192x192x3x3x3 .f32 := broadcastInDim S192x192x3x3x3 ![] bcast_S_S192x192x3x3x3 main_cst_7
  let main_v22 : IVec S192x192x3x3x3 1 := cmpf .olt main_v20 main_v21
  let main_c_8 : IVec S_ 1 := constantI S_ 1 1#1
  let main_v23 : IVec S_ 1 := (fun x v => Host.reduce IntOp.andi x v reducesTo_S192x192x3x3x3_S_d0_1_2_3_4 h_S_) main_v22 main_c_8
  let main_v24 : IVec S_ 1 := andi main_v19 main_v23
  let main_v25 : FVec F S192 .f32 := Host.absf main_arg7
  let main_cst_9 : FVec F S_ .f32 := constant S_ .f32 0x7F800000#32
  let main_v26 : FVec F S192 .f32 := broadcastInDim S192 ![] bcast_S_S192 main_cst_9
  let main_v27 : IVec S192 1 := cmpf .olt main_v25 main_v26
  let main_c_10 : IVec S_ 1 := constantI S_ 1 1#1
  let main_v28 : IVec S_ 1 := (fun x v => Host.reduce IntOp.andi x v reducesTo_S192_S_d0 h_S_) main_v27 main_c_10
  let main_v29 : IVec S_ 1 := andi main_v24 main_v28
  let main_cst_11 : FVec F S_ .f32 := constant S_ .f32 0x3727C5AC#32
  let main_v30 : FVec F S192 .f32 := broadcastInDim S192 ![] bcast_S_S192 main_cst_11
  let main_v31 : FVec F S192 .f32 := addf main_arg10 main_v30
  let main_cst_12 : FVec F S_ .f32 := constant S_ .f32 0x00000000#32
  let main_v32 : FVec F S192 .f32 := broadcastInDim S192 ![] bcast_S_S192 main_cst_12
  fn_part2 (F := F) main_v29 main_v31 main_v32

def fn {F : FTy → Type} [FloatOps F] (main_arg0 : FVec F S1x192x8x32x32 .f32) (main_arg1 : FVec F S192x192x3x3x3 .f32) (main_arg2 : FVec F S192 .f32) (main_arg3 : FVec F S192 .f32) (main_arg4 : FVec F S192 .f32) (main_arg5 : FVec F S192 .f32) (main_arg6 : FVec F S192x192x3x3x3 .f32) (main_arg7 : FVec F S192 .f32) (main_arg8 : FVec F S192 .f32) (main_arg9 : FVec F S192 .f32) (main_arg10 : FVec F S192 .f32) (main_arg11 : FVec F S192x192x1x1x1 .f32) : IVec S_ 1 :=
  let main_v0 : FVec F S1x192x8x32x32 .f32 := Host.absf main_arg0
  let main_cst : FVec F S_ .f32 := constant S_ .f32 0x7F800000#32
  let main_v1 : FVec F S1x192x8x32x32 .f32 := broadcastInDim S1x192x8x32x32 ![] bcast_S_S1x192x8x32x32 main_cst
  let main_v2 : IVec S1x192x8x32x32 1 := cmpf .olt main_v0 main_v1
  let main_c : IVec S_ 1 := constantI S_ 1 1#1
  let main_v3 : IVec S_ 1 := (fun x v => Host.reduce IntOp.andi x v reducesTo_S1x192x8x32x32_S_d0_1_2_3_4 h_S_) main_v2 main_c
  let main_v4 : FVec F S192x192x3x3x3 .f32 := Host.absf main_arg1
  let main_cst_0 : FVec F S_ .f32 := constant S_ .f32 0x7F800000#32
  let main_v5 : FVec F S192x192x3x3x3 .f32 := broadcastInDim S192x192x3x3x3 ![] bcast_S_S192x192x3x3x3 main_cst_0
  let main_v6 : IVec S192x192x3x3x3 1 := cmpf .olt main_v4 main_v5
  let main_c_1 : IVec S_ 1 := constantI S_ 1 1#1
  let main_v7 : IVec S_ 1 := (fun x v => Host.reduce IntOp.andi x v reducesTo_S192x192x3x3x3_S_d0_1_2_3_4 h_S_) main_v6 main_c_1
  let main_v8 : IVec S_ 1 := andi main_v3 main_v7
  let main_v9 : FVec F S192 .f32 := Host.absf main_arg2
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_cst_4 : FVec F S_ .f32 := constant S_ .f32 0x3727C5AC#32
  let main_v14 : FVec F S192 .f32 := broadcastInDim S192 ![] bcast_S_S192 main_cst_4
  let main_v15 : FVec F S192 .f32 := addf main_arg5 main_v14
  let main_cst_5 : FVec F S_ .f32 := constant S_ .f32 0x00000000#32
  fn_part1 (F := F) main_arg6 main_arg7 main_arg10 main_v13 main_v15 main_cst_5
-- ==== Pre_finite2.lean ====
abbrev S8192x192 : Shape := ⟨2, ![8192, 192]⟩
abbrev S_ : Shape := ⟨0, ![]⟩

class Facts : Prop where
  bcast_S_S8192x192 : S_.BroadcastsInDim S8192x192 (![] : Fin 0 → Fin S8192x192.rank)
  reducesTo_S8192x192_S_d0_1 : S8192x192.ReducesTo [0, 1] S_
  h_S_ : 0 < S_.numel

variable [Facts]

def fn {F : FTy → Type} [FloatOps F] (main_arg0 : FVec F S8192x192 .f32) (main_arg1 : FVec F S8192x192 .f32) : IVec S_ 1 :=
  let main_v0 : FVec F S8192x192 .f32 := Host.absf main_arg0
  let main_cst : FVec F S_ .f32 := constant S_ .f32 0x7F800000#32
  let main_v1 : FVec F S8192x192 .f32 := broadcastInDim S8192x192 ![] bcast_S_S8192x192 main_cst
  let main_v2 : IVec S8192x192 1 := cmpf .olt main_v0 main_v1
  let main_c : IVec S_ 1 := constantI S_ 1 1#1
  let main_v3 : IVec S_ 1 := (fun x v => Host.reduce IntOp.andi x v reducesTo_S8192x192_S_d0_1 h_S_) main_v2 main_c
  let main_v4 : FVec F S8192x192 .f32 := Host.absf main_arg1
  let main_cst_0 : FVec F S_ .f32 := constant S_ .f32 0x7F800000#32
  let main_v5 : FVec F S8192x192 .f32 := broadcastInDim S8192x192 ![] bcast_S_S8192x192 main_cst_0
  let main_v6 : IVec S8192x192 1 := cmpf .olt main_v4 main_v5
  let main_c_1 : IVec S_ 1 := constantI S_ 1 1#1
  let main_v7 : IVec S_ 1 := (fun x v => Host.reduce IntOp.andi x v reducesTo_S8192x192_S_d0_1 h_S_) main_v6 main_c_1
  let main_v8 : IVec S_ 1 := andi main_v3 main_v7
  main_v8
-- ==== Pre_in_range.lean ====
abbrev S128x4 : Shape := ⟨2, ![128, 4]⟩
abbrev S8192x192 : Shape := ⟨2, ![8192, 192]⟩
abbrev S_ : Shape := ⟨0, ![]⟩

class Facts : Prop where
  bcast_S_S128x4 : S_.BroadcastsInDim S128x4 (![] : Fin 0 → Fin S128x4.rank)
  reducesTo_S128x4_S_d0_1 : S128x4.ReducesTo [0, 1] S_
  h_S_ : 0 < S_.numel

variable [Facts]

def fn {F : FTy → Type} [FloatOps F] (main_arg0 : IVec S128x4 32) (main_arg1 : FVec F S8192x192 .f32) (main_arg2 : FVec F S8192x192 .f32) (main_arg3 : FVec F S8192x192 .f32) : IVec S_ 1 :=
  let main_c : IVec S_ 32 := constantI S_ 32 0#32
  let main_v0 : IVec S128x4 32 := broadcastInDim S128x4 ![] bcast_S_S128x4 main_c
  let main_v1 : IVec S128x4 1 := cmpi .sge main_arg0 main_v0
  let main_c_0 : IVec S_ 32 := constantI S_ 32 128#32
  let main_v2 : IVec S128x4 32 := broadcastInDim S128x4 ![] bcast_S_S128x4 main_c_0
  let main_v3 : IVec S128x4 1 := cmpi .slt main_arg0 main_v2
  let main_v4 : IVec S128x4 1 := andi main_v1 main_v3
  let main_c_1 : IVec S_ 1 := constantI S_ 1 1#1
  let main_v5 : IVec S_ 1 := (fun x v => Host.reduce IntOp.andi x v reducesTo_S128x4_S_d0_1 h_S_) main_v4 main_c_1
  main_v5
-- ==== Qkv.lean ====
abbrev S1x192x8x32x32 : Shape := ⟨5, ![1, 192, 8, 32, 32]⟩
abbrev S192x192x3x3x3 : Shape := ⟨5, ![192, 192, 3, 3, 3]⟩
abbrev S192 : Shape := ⟨1, ![192]⟩
abbrev S192x192x1x1x1 : Shape := ⟨5, ![192, 192, 1, 1, 1]⟩
abbrev S192x8x32x32 : Shape := ⟨4, ![192, 8, 32, 32]⟩
abbrev S192x8192 : Shape := ⟨2, ![192, 8192]⟩
abbrev S8192x192 : Shape := ⟨2, ![8192, 192]⟩
abbrev S_ : Shape := ⟨0, ![]⟩
abbrev S10368x192 : Shape := ⟨2, ![10368, 192]⟩
abbrev S192x192x1x3x3 : Shape := ⟨5, ![192, 192, 1, 3, 3]⟩
abbrev S192x192x3x3 : Shape := ⟨4, ![192, 192, 3, 3]⟩
abbrev S192x192 : Shape := ⟨2, ![192, 192]⟩
abbrev S1 : Shape := ⟨1, ![1]⟩
abbrev S3 : Shape := ⟨1, ![3]⟩
abbrev S192x1x1x1x1 : Shape := ⟨5, ![192, 1, 1, 1, 1]⟩
abbrev S3x3x3x192x192 : Shape := ⟨5, ![3, 3, 3, 192, 192]⟩
abbrev S27x192x192 : Shape := ⟨3, ![27, 192, 192]⟩
abbrev S1x192 : Shape := ⟨2, ![1, 192]⟩
abbrev S1024x1 : Shape := ⟨2, ![1024, 1]⟩
abbrev S1024x192 : Shape := ⟨2, ![1024, 192]⟩
abbrev S1x192x192 : Shape := ⟨3, ![1, 192, 192]⟩

abbrev nBuf : Space → Nat
  | .hbm => 89
  | .vmem => 9
  | .smem => 0
  | _ => 0

abbrev bufTy : (tb : Table) → Fin (tcTables nBuf tb) → BufTy
  | .hbm, ⟨0, _⟩ => ⟨S1x192x8x32x32, .f32⟩
  | .hbm, ⟨1, _⟩ => ⟨S192x192x3x3x3, .f32⟩
  | .hbm, ⟨2, _⟩ => ⟨S192, .f32⟩
  | .hbm, ⟨3, _⟩ => ⟨S192, .f32⟩
  | .hbm, ⟨4, _⟩ => ⟨S192, .f32⟩
  | .hbm, ⟨5, _⟩ => ⟨S192, .f32⟩
  | .hbm, ⟨6, _⟩ => ⟨S192x192x3x3x3, .f32⟩
  | .hbm, ⟨7, _⟩ => ⟨S192, .f32⟩
  | .hbm, ⟨8, _⟩ => ⟨S192, .f32⟩
  | .hbm, ⟨9, _⟩ => ⟨S192, .f32⟩
  | .hbm, ⟨10, _⟩ => ⟨S192, .f32⟩
  | .hbm, ⟨11, _⟩ => ⟨S192x192x1x1x1, .f32⟩
  | .hbm, ⟨12, _⟩ => ⟨S192x8x32x32, .f32⟩
  | .hbm, ⟨13, _⟩ => ⟨S192x8192, .f32⟩
  | .hbm, ⟨14, _⟩ => ⟨S8192x192, .f32⟩
  | .hbm, ⟨15, _⟩ => ⟨S_, .i32⟩
  | .hbm, ⟨16, _⟩ => ⟨S_, .f32⟩
  | .hbm, ⟨17, _⟩ => ⟨S10368x192, .f32⟩
  | .hbm, ⟨18, _⟩ => ⟨S_, .f32⟩
  | .hbm, ⟨19, _⟩ => ⟨S192, .f32⟩
  | .hbm, ⟨20, _⟩ => ⟨S192, .f32⟩
  | .hbm, ⟨21, _⟩ => ⟨S192, .f32⟩
  | .hbm, ⟨22, _⟩ => ⟨S192, .f32⟩
  | .hbm, ⟨23, _⟩ => ⟨S192x192x1x3x3, .f32⟩
  | .hbm, ⟨24, _⟩ => ⟨S192x192x3x3, .f32⟩
  | .hbm, ⟨25, _⟩ => ⟨S_, .f32⟩
  | .hbm, ⟨26, _⟩ => ⟨S192x192, .f32⟩
  | .hbm, ⟨27, _⟩ => ⟨S192x192x1x3x3, .f32⟩
  | .hbm, ⟨28, _⟩ => ⟨S192x192x3x3, .f32⟩
  | .hbm, ⟨29, _⟩ => ⟨S_, .f32⟩
  | .hbm, ⟨30, _⟩ => ⟨S192x192, .f32⟩
  | .hbm, ⟨31, _⟩ => ⟨S192x192, .f32⟩
  | .hbm, ⟨32, _⟩ => ⟨S_, .f32⟩
  | .hbm, ⟨33, _⟩ => ⟨S192x192, .f32⟩
  | .hbm, ⟨34, _⟩ => ⟨S192x192, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S3, .i32⟩
  | .hbm, ⟨42, _⟩ => ⟨S192x192x3x3x3, .f32⟩
  | .hbm, ⟨43, _⟩ => ⟨S192x1x1x1x1, .f32⟩
  | .hbm, ⟨44, _⟩ => ⟨S192x192x3x3x3, .f32⟩
  | .hbm, ⟨45, _⟩ => ⟨S192x192x3x3x3, .f32⟩
  | .hbm, ⟨46, _⟩ => ⟨S192, .f32⟩
  | .hbm, ⟨47, _⟩ => ⟨S192, .f32⟩
  | .hbm, ⟨48, _⟩ => ⟨S3x3x3x192x192, .f32⟩
  | .hbm, ⟨49, _⟩ => ⟨S27x192x192, .f32⟩
  | .hbm, ⟨50, _⟩ => ⟨S1x192, .f32⟩
  | .hbm, ⟨51, _⟩ => ⟨S_, .f32⟩
  | .hbm, ⟨52, _⟩ => ⟨S192, .f32⟩
  | .hbm, ⟨53, _⟩ => ⟨S192, .f32⟩
  | .hbm, ⟨54, _⟩ => ⟨S192, .f32⟩
  | .hbm, ⟨55, _⟩ => ⟨S192, .f32⟩
  | .hbm, ⟨56, _⟩ => ⟨S192x192x1x3x3, .f32⟩
  | .hbm, ⟨57, _⟩ => ⟨S192x192x3x3, .f32⟩
  | .hbm, ⟨58, _⟩ => ⟨S_, .f32⟩
  | .hbm, ⟨59, _⟩ => ⟨S192x192, .f32⟩
  | .hbm, ⟨60, _⟩ => ⟨S192x192x1x3x3, .f32⟩
  | .hbm, ⟨61, _⟩ => ⟨S192x192x3x3, .f32⟩
  | .hbm, ⟨62, _⟩ => ⟨S_, .f32⟩
  | .hbm, ⟨63, _⟩ => ⟨S192x192, .f32⟩
  | .hbm, ⟨64, _⟩ => ⟨S192x192, .f32⟩
  | .hbm, ⟨65, _⟩ => ⟨S_, .f32⟩
  | .hbm, ⟨66, _⟩ => ⟨S192x192, .f32⟩
  | .hbm, ⟨67, _⟩ => ⟨S192x192, .f32⟩
  | .hbm, ⟨68, _⟩ => ⟨S_, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S_, .i32⟩
  | .hbm, ⟨73, _⟩ => ⟨S1, .i32⟩
  | .hbm, ⟨74, _⟩ => ⟨S3, .i32⟩
  | .hbm, ⟨75, _⟩ => ⟨S192x192x3x3x3, .f32⟩
  | .hbm, ⟨76, _⟩ => ⟨S192x1x1x1x1, .f32⟩
  | .hbm, ⟨77, _⟩ => ⟨S192x192x3x3x3, .f32⟩
  | .hbm, ⟨78, _⟩ => ⟨S192x192x3x3x3, .f32⟩
  | .hbm, ⟨79, _⟩ => ⟨S192, .f32⟩
  | .hbm, ⟨80, _⟩ => ⟨S192, .f32⟩
  | .hbm, ⟨81, _⟩ => ⟨S3x3x3x192x192, .f32⟩
  | .hbm, ⟨82, _⟩ => ⟨S27x192x192, .f32⟩
  | .hbm, ⟨83, _⟩ => ⟨S1x192, .f32⟩
  | .hbm, ⟨84, _⟩ => ⟨S192x192, .f32⟩
  | .hbm, ⟨85, _⟩ => ⟨S192x192, .f32⟩
  | .hbm, ⟨86, _⟩ => ⟨S8192x192, .f32⟩
  | .hbm, ⟨87, _⟩ => ⟨S8192x192, .f32⟩
  | .hbm, ⟨88, _⟩ => ⟨S8192x192, .f32⟩
  | .local _ .vmem, ⟨0, _⟩ => ⟨S10368x192, .f32⟩
  | .local _ .vmem, ⟨1, _⟩ => ⟨S27x192x192, .f32⟩
  | .local _ .vmem, ⟨2, _⟩ => ⟨S27x192x192, .f32⟩
  | .local _ .vmem, ⟨3, _⟩ => ⟨S192x192, .f32⟩
  | .local _ .vmem, ⟨4, _⟩ => ⟨S1x192, .f32⟩
  | .local _ .vmem, ⟨5, _⟩ => ⟨S1x192, .f32⟩
  | .local _ .vmem, ⟨6, _⟩ => ⟨S8192x192, .f32⟩
  | .local _ .vmem, ⟨7, _⟩ => ⟨S8192x192, .f32⟩
  | .local _ .vmem, ⟨8, _⟩ => ⟨S8192x192, .f32⟩
  | _, _ => ⟨S1x192x8x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_c_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58_0 : Ref sig .tc := ⟨.hbm, 86, rfl⟩
abbrev main_v58_1 : Ref sig .tc := ⟨.hbm, 87, rfl⟩
abbrev main_v58_2 : Ref sig .tc := ⟨.hbm, 88, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S10368x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S27x192x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S27x192x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== QkvRefIdeal.lean ====
abbrev S1x192x8x32x32 : Shape := ⟨5, ![1, 192, 8, 32, 32]⟩
abbrev S192x192x3x3x3 : Shape := ⟨5, ![192, 192, 3, 3, 3]⟩
abbrev S192 : Shape := ⟨1, ![192]⟩
abbrev S192x192x1x1x1 : Shape := ⟨5, ![192, 192, 1, 1, 1]⟩
abbrev S192x5184 : Shape := ⟨2, ![192, 5184]⟩
abbrev S192x8x32x32 : Shape := ⟨4, ![192, 8, 32, 32]⟩
abbrev S_ : Shape := ⟨0, ![]⟩
abbrev S192x10x34x34 : Shape := ⟨4, ![192, 10, 34, 34]⟩
abbrev S192x1x8x32x32 : Shape := ⟨5, ![192, 1, 8, 32, 32]⟩
abbrev S192x16x8x32x32 : Shape := ⟨5, ![192, 16, 8, 32, 32]⟩
abbrev S192x11x8x32x32 : Shape := ⟨5, ![192, 11, 8, 32, 32]⟩
abbrev S192x27x8x32x32 : Shape := ⟨5, ![192, 27, 8, 32, 32]⟩
abbrev S5184x8192 : Shape := ⟨2, ![5184, 8192]⟩
abbrev S192x8192 : Shape := ⟨2, ![192, 8192]⟩
abbrev S192x192x1x3x3 : Shape := ⟨5, ![192, 192, 1, 3, 3]⟩
abbrev S192x192x3x3 : Shape := ⟨4, ![192, 192, 3, 3]⟩
abbrev S192x192 : Shape := ⟨2, ![192, 192]⟩
abbrev S192x1x1x1 : Shape := ⟨4, ![192, 1, 1, 1]⟩
abbrev S8192x192 : Shape := ⟨2, ![8192, 192]⟩

abbrev nBuf : Space → Nat
  | .hbm => 213
  | .vmem => 0
  | .smem => 0
  | _ => 0

abbrev hbmTy0_0 (i : Nat) : BufTy := match i % 128 with
  | 0 => ⟨S1x192x8x32x32, .f32⟩
  | 1 => ⟨S192x192x3x3x3, .f32⟩
  | 2 => ⟨S192, .f32⟩
  | 3 => ⟨S192, .f32⟩
  | 4 => ⟨S192, .f32⟩
  | 5 => ⟨S192, .f32⟩
  | 6 => ⟨S192x192x3x3x3, .f32⟩
  | 7 => ⟨S192, .f32⟩
  | 8 => ⟨S192, .f32⟩
  | 9 => ⟨S192, .f32⟩
  | 10 => ⟨S192, .f32⟩
  | 11 => ⟨S192x192x1x1x1, .f32⟩
  | 12 => ⟨S192x5184, .f32⟩
  | 13 => ⟨S192x8x32x32, .f32⟩
  | 14 => ⟨S_, .i32⟩
  | 15 => ⟨S_, .f32⟩
  | 16 => ⟨S192x10x34x34, .f32⟩
  | 17 => ⟨S192x8x32x32, .f32⟩
  | 18 => ⟨S192x8x32x32, .f32⟩
  | 19 => ⟨S192x8x32x32, .f32⟩
  | 20 => ⟨S192x8x32x32, .f32⟩
  | 21 => ⟨S192x8x32x32, .f32⟩
  | 22 => ⟨S192x8x32x32, .f32⟩
  | 23 => ⟨S192x8x32x32, .f32⟩
  | 24 => ⟨S192x8x32x32, .f32⟩
  | 25 => ⟨S192x8x32x32, .f32⟩
  | 26 => ⟨S192x8x32x32, .f32⟩
  | 27 => ⟨S192x8x32x32, .f32⟩
  | 28 => ⟨S192x8x32x32, .f32⟩
  | 29 => ⟨S192x8x32x32, .f32⟩
  | 30 => ⟨S192x8x32x32, .f32⟩
  | 31 => ⟨S192x8x32x32, .f32⟩
  | 32 => ⟨S192x8x32x32, .f32⟩
  | 33 => ⟨S192x8x32x32, .f32⟩
  | 34 => ⟨S192x8x32x32, .f32⟩
  | 35 => ⟨S192x8x32x32, .f32⟩
  | 36 => ⟨S192x8x32x32, .f32⟩
  | 37 => ⟨S192x8x32x32, .f32⟩
  | 38 => ⟨S192x8x32x32, .f32⟩
  | 39 => ⟨S192x8x32x32, .f32⟩
  | 40 => ⟨S192x8x32x32, .f32⟩
  | 41 => ⟨S192x8x32x32, .f32⟩
  | 42 => ⟨S192x8x32x32, .f32⟩
  | 43 => ⟨S192x8x32x32, .f32⟩
  | 44 => ⟨S192x1x8x32x32, .f32⟩
  | 45 => ⟨S192x1x8x32x32, .f32⟩
  | 46 => ⟨S192x1x8x32x32, .f32⟩
  | 47 => ⟨S192x1x8x32x32, .f32⟩
  | 48 => ⟨S192x1x8x32x32, .f32⟩
  | 49 => ⟨S192x1x8x32x32, .f32⟩
  | 50 => ⟨S192x1x8x32x32, .f32⟩
  | 51 => ⟨S192x1x8x32x32, .f32⟩
  | 52 => ⟨S192x1x8x32x32, .f32⟩
  | 53 => ⟨S192x1x8x32x32, .f32⟩
  | 54 => ⟨S192x1x8x32x32, .f32⟩
  | 55 => ⟨S192x1x8x32x32, .f32⟩
  | 56 => ⟨S192x1x8x32x32, .f32⟩
  | 57 => ⟨S192x1x8x32x32, .f32⟩
  | 58 => ⟨S192x1x8x32x32, .f32⟩
  | 59 => ⟨S192x1x8x32x32, .f32⟩
  | 60 => ⟨S192x1x8x32x32, .f32⟩
  | 61 => ⟨S192x1x8x32x32, .f32⟩
  | 62 => ⟨S192x1x8x32x32, .f32⟩
  | 63 => ⟨S192x1x8x32x32, .f32⟩
  | 64 => ⟨S192x1x8x32x32, .f32⟩
  | 65 => ⟨S192x1x8x32x32, .f32⟩
  | 66 => ⟨S192x1x8x32x32, .f32⟩
  | 67 => ⟨S192x1x8x32x32, .f32⟩
  | 68 => ⟨S192x1x8x32x32, .f32⟩
  | 69 => ⟨S192x1x8x32x32, .f32⟩
  | 70 => ⟨S192x1x8x32x32, .f32⟩
  | 71 => ⟨S192x16x8x32x32, .f32⟩
  | 72 => ⟨S192x11x8x32x32, .f32⟩
  | 73 => ⟨S192x27x8x32x32, .f32⟩
  | 74 => ⟨S5184x8192, .f32⟩
  | 75 => ⟨S192x8192, .f32⟩
  | 76 => ⟨S192x8x32x32, .f32⟩
  | 77 => ⟨S192x192x1x3x3, .f32⟩
  | 78 => ⟨S192x192x3x3, .f32⟩
  | 79 => ⟨S_, .f32⟩
  | 80 => ⟨S192x192, .f32⟩
  | 81 => ⟨S192x192x1x3x3, .f32⟩
  | 82 => ⟨S192x192x3x3, .f32⟩
  | 83 => ⟨S_, .f32⟩
  | 84 => ⟨S192x192, .f32⟩
  | 85 => ⟨S192x192, .f32⟩
  | 86 => ⟨S192x8x32x32, .f32⟩
  | 87 => ⟨S192x8192, .f32⟩
  | 88 => ⟨S192x8192, .f32⟩
  | 89 => ⟨S192x8x32x32, .f32⟩
  | 90 => ⟨S_, .f32⟩
  | 91 => ⟨S192x8x32x32, .f32⟩
  | 92 => ⟨S192x8x32x32, .f32⟩
  | 93 => ⟨S192x8x32x32, .f32⟩
  | 94 => ⟨S_, .f32⟩
  | 95 => ⟨S192, .f32⟩
  | 96 => ⟨S192, .f32⟩
  | 97 => ⟨S192, .f32⟩
  | 98 => ⟨S192, .f32⟩
  | 99 => ⟨S192x1x1x1, .f32⟩
  | 100 => ⟨S192x8x32x32, .f32⟩
  | 101 => ⟨S192x8x32x32, .f32⟩
  | 102 => ⟨S192, .f32⟩
  | 103 => ⟨S192, .f32⟩
  | 104 => ⟨S192x1x1x1, .f32⟩
  | 105 => ⟨S192x8x32x32, .f32⟩
  | 106 => ⟨S192x8x32x32, .f32⟩
  | 107 => ⟨S192x5184, .f32⟩
  | 108 => ⟨S192x8x32x32, .f32⟩
  | 109 => ⟨S_, .i32⟩
  | 110 => ⟨S_, .f32⟩
  | 111 => ⟨S192x10x34x34, .f32⟩
  | 112 => ⟨S192x8x32x32, .f32⟩
  | 113 => ⟨S192x8x32x32, .f32⟩
  | 114 => ⟨S192x8x32x32, .f32⟩
  | 115 => ⟨S192x8x32x32, .f32⟩
  | 116 => ⟨S192x8x32x32, .f32⟩
  | 117 => ⟨S192x8x32x32, .f32⟩
  | 118 => ⟨S192x8x32x32, .f32⟩
  | 119 => ⟨S192x8x32x32, .f32⟩
  | 120 => ⟨S192x8x32x32, .f32⟩
  | 121 => ⟨S192x8x32x32, .f32⟩
  | 122 => ⟨S192x8x32x32, .f32⟩
  | 123 => ⟨S192x8x32x32, .f32⟩
  | 124 => ⟨S192x8x32x32, .f32⟩
  | 125 => ⟨S192x8x32x32, .f32⟩
  | 126 => ⟨S192x8x32x32, .f32⟩
  | 127 => ⟨S192x8x32x32, .f32⟩
  | _ => ⟨S1x192x8x32x32, .f32⟩

abbrev hbmTy0_1 (i : Nat) : BufTy := match i % 128 with
  | 0 => ⟨S192x8x32x32, .f32⟩
  | 1 => ⟨S192x8x32x32, .f32⟩
  | 2 => ⟨S192x8x32x32, .f32⟩
  | 3 => ⟨S192x8x32x32, .f32⟩
  | 4 => ⟨S192x8x32x32, .f32⟩
  | 5 => ⟨S192x8x32x32, .f32⟩
  | 6 => ⟨S192x8x32x32, .f32⟩
  | 7 => ⟨S192x8x32x32, .f32⟩
  | 8 => ⟨S192x8x32x32, .f32⟩
  | 9 => ⟨S192x8x32x32, .f32⟩
  | 10 => ⟨S192x8x32x32, .f32⟩
  | 11 => ⟨S192x1x8x32x32, .f32⟩
  | 12 => ⟨S192x1x8x32x32, .f32⟩
  | 13 => ⟨S192x1x8x32x32, .f32⟩
  | 14 => ⟨S192x1x8x32x32, .f32⟩
  | 15 => ⟨S192x1x8x32x32, .f32⟩
  | 16 => ⟨S192x1x8x32x32, .f32⟩
  | 17 => ⟨S192x1x8x32x32, .f32⟩
  | 18 => ⟨S192x1x8x32x32, .f32⟩
  | 19 => ⟨S192x1x8x32x32, .f32⟩
  | 20 => ⟨S192x1x8x32x32, .f32⟩
  | 21 => ⟨S192x1x8x32x32, .f32⟩
  | 22 => ⟨S192x1x8x32x32, .f32⟩
  | 23 => ⟨S192x1x8x32x32, .f32⟩
  | 24 => ⟨S192x1x8x32x32, .f32⟩
  | 25 => ⟨S192x1x8x32x32, .f32⟩
  | 26 => ⟨S192x1x8x32x32, .f32⟩
  | 27 => ⟨S192x1x8x32x32, .f32⟩
  | 28 => ⟨S192x1x8x32x32, .f32⟩
  | 29 => ⟨S192x1x8x32x32, .f32⟩
  | 30 => ⟨S192x1x8x32x32, .f32⟩
  | 31 => ⟨S192x1x8x32x32, .f32⟩
  | 32 => ⟨S192x1x8x32x32, .f32⟩
  | 33 => ⟨S192x1x8x32x32, .f32⟩
  | 34 => ⟨S192x1x8x32x32, .f32⟩
  | 35 => ⟨S192x1x8x32x32, .f32⟩
  | 36 => ⟨S192x1x8x32x32, .f32⟩
  | 37 => ⟨S192x1x8x32x32, .f32⟩
  | 38 => ⟨S192x16x8x32x32, .f32⟩
  | 39 => ⟨S192x11x8x32x32, .f32⟩
  | 40 => ⟨S192x27x8x32x32, .f32⟩
  | 41 => ⟨S5184x8192, .f32⟩
  | 42 => ⟨S192x8192, .f32⟩
  | 43 => ⟨S192x8x32x32, .f32⟩
  | 44 => ⟨S192x192x1x3x3, .f32⟩
  | 45 => ⟨S192x192x3x3, .f32⟩
  | 46 => ⟨S_, .f32⟩
  | 47 => ⟨S192x192, .f32⟩
  | 48 => ⟨S192x192x1x3x3, .f32⟩
  | 49 => ⟨S192x192x3x3, .f32⟩
  | 50 => ⟨S_, .f32⟩
  | 51 => ⟨S192x192, .f32⟩
  | 52 => ⟨S192x192, .f32⟩
  | 53 => ⟨S192x8x32x32, .f32⟩
  | 54 => ⟨S192x8192, .f32⟩
  | 55 => ⟨S192x8192, .f32⟩
  | 56 => ⟨S192x8x32x32, .f32⟩
  | 57 => ⟨S_, .f32⟩
  | 58 => ⟨S192x8x32x32, .f32⟩
  | 59 => ⟨S192x8x32x32, .f32⟩
  | 60 => ⟨S192x8x32x32, .f32⟩
  | 61 => ⟨S_, .f32⟩
  | 62 => ⟨S192, .f32⟩
  | 63 => ⟨S192, .f32⟩
  | 64 => ⟨S192, .f32⟩
  | 65 => ⟨S192, .f32⟩
  | 66 => ⟨S192x1x1x1, .f32⟩
  | 67 => ⟨S192x8x32x32, .f32⟩
  | 68 => ⟨S192x8x32x32, .f32⟩
  | 69 => ⟨S192, .f32⟩
  | 70 => ⟨S192, .f32⟩
  | 71 => ⟨S192x1x1x1, .f32⟩
  | 72 => ⟨S192x8x32x32, .f32⟩
  | 73 => ⟨S192x8x32x32, .f32⟩
  | 74 => ⟨S192x8x32x32, .f32⟩
  | 75 => ⟨S192x192, .f32⟩
  | 76 => ⟨S192x8192, .f32⟩
  | 77 => ⟨S192x8192, .f32⟩
  | 78 => ⟨S192x8x32x32, .f32⟩
  | 79 => ⟨S192x8192, .f32⟩
  | 80 => ⟨S8192x192, .f32⟩
  | 81 => ⟨S192x8192, .f32⟩
  | 82 => ⟨S8192x192, .f32⟩
  | 83 => ⟨S192x8192, .f32⟩
  | 84 => ⟨S8192x192, .f32⟩
  | _ => ⟨S1x192x8x32x32, .f32⟩

abbrev hbmTy (i : Nat) : BufTy := match i / 128 with
  | 0 => hbmTy0_0 i
  | 1 => hbmTy0_1 i
  | _ => ⟨S1x192x8x32x32, .f32⟩

abbrev bufTy : (tb : Table) → Fin (tcTables nBuf tb) → BufTy
  | .hbm, ⟨i, _⟩ => hbmTy i
  | _, _ => ⟨S1x192x8x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_0 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_1 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_2 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_c_3 : Ref sig .tc := ⟨.hbm, 109, rfl⟩
abbrev main_call1_v0 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_cst_4 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_cst_5 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_cst_6 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_cst_7 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩

abbrev nD : Nat := 1
abbrev τ : Topo := Topo.v7x

variable {F : FTy → Type} [FloatOps F]
-- ==== TopK.lean ====
abbrev S8192x192 : Shape := ⟨2, ![8192, 192]⟩
abbrev S128x4 : Shape := ⟨2, ![128, 4]⟩
abbrev S1x8192 : Shape := ⟨2, ![1, 8192]⟩
abbrev S128x1 : Shape := ⟨2, ![128, 1]⟩
abbrev S128x8192 : Shape := ⟨2, ![128, 8192]⟩
abbrev S128x192 : Shape := ⟨2, ![128, 192]⟩
abbrev S128x128 : Shape := ⟨2, ![128, 128]⟩
abbrev S128 : Shape := ⟨1, ![128]⟩

abbrev nBuf : Space → Nat
  | .hbm => 3
  | .vmem => 3
  | .smem => 0
  | _ => 0

abbrev bufTy : (tb : Table) → Fin (tcTables nBuf tb) → BufTy
  | .hbm, ⟨0, _⟩ => ⟨S8192x192, .f32⟩
  | .hbm, ⟨1, _⟩ => ⟨S8192x192, .f32⟩
  | .hbm, ⟨2, _⟩ => ⟨S128x4, .i32⟩
  | .local _ .vmem, ⟨0, _⟩ => ⟨S8192x192, .f32⟩
  | .local _ .vmem, ⟨1, _⟩ => ⟨S8192x192, .f32⟩
  | .local _ .vmem, ⟨2, _⟩ => ⟨S128x4, .i32⟩
  | _, _ => ⟨S8192x192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8192x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== TopKRefIdeal.lean ====
abbrev S8192x192 : Shape := ⟨2, ![8192, 192]⟩
abbrev S192x8192 : Shape := ⟨2, ![192, 8192]⟩
abbrev S1x192x8x32x32 : Shape := ⟨5, ![1, 192, 8, 32, 32]⟩
abbrev S1x192x8x1x4x8x4x8 : Shape := ⟨8, ![1, 192, 8, 1, 4, 8, 4, 8]⟩
abbrev S_ : Shape := ⟨0, ![]⟩
abbrev S1x192x8x4x4 : Shape := ⟨5, ![1, 192, 8, 4, 4]⟩
abbrev S1x8x4x4x192 : Shape := ⟨5, ![1, 8, 4, 4, 192]⟩
abbrev S1x128x192 : Shape := ⟨3, ![1, 128, 192]⟩
abbrev S1x192x128 : Shape := ⟨3, ![1, 192, 128]⟩
abbrev S128x192 : Shape := ⟨2, ![128, 192]⟩
abbrev S192x128 : Shape := ⟨2, ![192, 128]⟩
abbrev S128x128 : Shape := ⟨2, ![128, 128]⟩
abbrev S1x128x128 : Shape := ⟨3, ![1, 128, 128]⟩
abbrev S1x128x4 : Shape := ⟨3, ![1, 128, 4]⟩
abbrev S128x4 : Shape := ⟨2, ![128, 4]⟩

abbrev nBuf : Space → Nat
  | .hbm => 28
  | .vmem => 0
  | .smem => 0
  | _ => 0

abbrev bufTy : (tb : Table) → Fin (tcTables nBuf tb) → BufTy
  | .hbm, ⟨0, _⟩ => ⟨S8192x192, .f32⟩
  | .hbm, ⟨1, _⟩ => ⟨S8192x192, .f32⟩
  | .hbm, ⟨2, _⟩ => ⟨S192x8192, .f32⟩
  | .hbm, ⟨3, _⟩ => ⟨S1x192x8x32x32, .f32⟩
  | .hbm, ⟨4, _⟩ => ⟨S192x8192, .f32⟩
  | .hbm, ⟨5, _⟩ => ⟨S1x192x8x32x32, .f32⟩
  | .hbm, ⟨6, _⟩ => ⟨S1x192x8x1x4x8x4x8, .f32⟩
  | .hbm, ⟨7, _⟩ => ⟨S_, .f32⟩
  | .hbm, ⟨8, _⟩ => ⟨S1x192x8x4x4, .f32⟩
  | .hbm, ⟨9, _⟩ => ⟨S_, .f32⟩
  | .hbm, ⟨10, _⟩ => ⟨S1x192x8x4x4, .f32⟩
  | .hbm, ⟨11, _⟩ => ⟨S1x192x8x4x4, .f32⟩
  | .hbm, ⟨12, _⟩ => ⟨S1x8x4x4x192, .f32⟩
  | .hbm, ⟨13, _⟩ => ⟨S1x128x192, .f32⟩
  | .hbm, ⟨14, _⟩ => ⟨S1x192x8x1x4x8x4x8, .f32⟩
  | .hbm, ⟨15, _⟩ => ⟨S_, .f32⟩
  | .hbm, ⟨16, _⟩ => ⟨S1x192x8x4x4, .f32⟩
  | .hbm, ⟨17, _⟩ => ⟨S_, .f32⟩
  | .hbm, ⟨18, _⟩ => ⟨S1x192x8x4x4, .f32⟩
  | .hbm, ⟨19, _⟩ => ⟨S1x192x8x4x4, .f32⟩
  | .hbm, ⟨20, _⟩ => ⟨S1x192x128, .f32⟩
  | .hbm, ⟨21, _⟩ => ⟨S128x192, .f32⟩
  | .hbm, ⟨22, _⟩ => ⟨S192x128, .f32⟩
  | .hbm, ⟨23, _⟩ => ⟨S128x128, .f32⟩
  | .hbm, ⟨24, _⟩ => ⟨S1x128x128, .f32⟩
  | .hbm, ⟨25, _⟩ => ⟨S1x128x4, .f32⟩
  | .hbm, ⟨26, _⟩ => ⟨S1x128x4, .i32⟩
  | .hbm, ⟨27, _⟩ => ⟨S128x4, .i32⟩
  | _, _ => ⟨S8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_values : Ref sig .tc := ⟨.hbm, 25, rfl⟩
abbrev main_indices : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Att.lean ====
abbrev S128x4 : Shape := ⟨2, ![128, 4]⟩
abbrev S8192x192 : Shape := ⟨2, ![8192, 192]⟩
abbrev S512 : Shape := ⟨1, ![512]⟩
abbrev S8x4x8x4x8x8x24 : Shape := ⟨7, ![8, 4, 8, 4, 8, 8, 24]⟩
abbrev S8x8x4x4x8x8x24 : Shape := ⟨7, ![8, 8, 4, 4, 8, 8, 24]⟩
abbrev S8x128x64x24 : Shape := ⟨4, ![8, 128, 64, 24]⟩
abbrev S8x1x64x24 : Shape := ⟨4, ![8, 1, 64, 24]⟩
abbrev S1 : Shape := ⟨1, ![1]⟩
abbrev S1x1x64x24 : Shape := ⟨4, ![1, 1, 64, 24]⟩
abbrev S64x24 : Shape := ⟨2, ![64, 24]⟩
abbrev S64x64 : Shape := ⟨2, ![64, 64]⟩
abbrev S64x256 : Shape := ⟨2, ![64, 256]⟩
abbrev S64 : Shape := ⟨1, ![64]⟩
abbrev S64x1 : Shape := ⟨2, ![64, 1]⟩
abbrev S256x24 : Shape := ⟨2, ![256, 24]⟩

abbrev nBuf : Space → Nat
  | .hbm => 14
  | .vmem => 20
  | .smem => 1
  | _ => 0

abbrev bufTy : (tb : Table) → Fin (tcTables nBuf tb) → BufTy
  | .hbm, ⟨0, _⟩ => ⟨S128x4, .i32⟩
  | .hbm, ⟨1, _⟩ => ⟨S8192x192, .f32⟩
  | .hbm, ⟨2, _⟩ => ⟨S8192x192, .f32⟩
  | .hbm, ⟨3, _⟩ => ⟨S8192x192, .f32⟩
  | .hbm, ⟨4, _⟩ => ⟨S8x4x8x4x8x8x24, .f32⟩
  | .hbm, ⟨5, _⟩ => ⟨S8x8x4x4x8x8x24, .f32⟩
  | .hbm, ⟨6, _⟩ => ⟨S8x128x64x24, .f32⟩
  | .hbm, ⟨7, _⟩ => ⟨S8x4x8x4x8x8x24, .f32⟩
  | .hbm, ⟨8, _⟩ => ⟨S8x8x4x4x8x8x24, .f32⟩
  | .hbm, ⟨9, _⟩ => ⟨S8x128x64x24, .f32⟩
  | .hbm, ⟨10, _⟩ => ⟨S8x4x8x4x8x8x24, .f32⟩
  | .hbm, ⟨11, _⟩ => ⟨S8x8x4x4x8x8x24, .f32⟩
  | .hbm, ⟨12, _⟩ => ⟨S8x128x64x24, .f32⟩
  | .hbm, ⟨13, _⟩ => ⟨S8x128x64x24, .f32⟩
  | .local _ .vmem, ⟨0, _⟩ => ⟨S8x1x64x24, .f32⟩
  | .local _ .vmem, ⟨1, _⟩ => ⟨S8x1x64x24, .f32⟩
  | .local _ .vmem, ⟨2, _⟩ => ⟨S8x1x64x24, .f32⟩
  | .local _ .vmem, ⟨3, _⟩ => ⟨S8x1x64x24, .f32⟩
  | .local _ .vmem, ⟨4, _⟩ => ⟨S8x1x64x24, .f32⟩
  | .local _ .vmem, ⟨5, _⟩ => ⟨S8x1x64x24, .f32⟩
  | .local _ .vmem, ⟨6, _⟩ => ⟨S8x1x64x24, .f32⟩
  | .local _ .vmem, ⟨7, _⟩ => ⟨S8x1x64x24, .f32⟩
  | .local _ .vmem, ⟨8, _⟩ => ⟨S8x1x64x24, .f32⟩
  | .local _ .vmem, ⟨9, _⟩ => ⟨S8x1x64x24, .f32⟩
  | .local _ .vmem, ⟨10, _⟩ => ⟨S8x1x64x24, .f32⟩
  | .local _ .vmem, ⟨11, _⟩ => ⟨S8x1x64x24, .f32⟩
  | .local _ .vmem, ⟨12, _⟩ => ⟨S8x1x64x24, .f32⟩
  | .local _ .vmem, ⟨13, _⟩ => ⟨S8x1x64x24, .f32⟩
  | .local _ .vmem, ⟨14, _⟩ => ⟨S8x1x64x24, .f32⟩
  | .local _ .vmem, ⟨15, _⟩ => ⟨S8x1x64x24, .f32⟩
  | .local _ .vmem, ⟨16, _⟩ => ⟨S8x1x64x24, .f32⟩
  | .local _ .vmem, ⟨17, _⟩ => ⟨S8x1x64x24, .f32⟩
  | .local _ .vmem, ⟨18, _⟩ => ⟨S8x1x64x24, .f32⟩
  | .local _ .vmem, ⟨19, _⟩ => ⟨S8x1x64x24, .f32⟩
  | .local _ .smem, ⟨0, _⟩ => ⟨S512, .i32⟩
  | _, _ => ⟨S128x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let c4_i32 : BitVec 32 := 4#32
  let arg0 : BitVec 32 := BitVec.ofNat 32 (i 0).val
  let v0 : BitVec 32 := Scalar.muli c4_i32 arg0
  let v1 : BitVec 32 := Scalar.addi v0 c0_i32
  let v2 : Index := Scalar.indexCast v1
  ![v2.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (k0_off1_inb : ∀ i : grid0.Coords, ∀ (r : Fin 4), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let v2 : Index := Scalar.indexCast v1
  let v3 : BitVec 32 := pf.at 0 (Rect.unit (s := S512) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_2 (k0_off1_inb : ∀ i : grid0.Coords, ∀ (r : Fin 4), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let v2 : Index := Scalar.indexCast v1
  let v3 : BitVec 32 := pf.at 0 (Rect.unit (s := S512) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_3 (k0_off1_inb : ∀ i : grid0.Coords, ∀ (r : Fin 4), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let v2 : Index := Scalar.indexCast v1
  let v3 : BitVec 32 := pf.at 0 (Rect.unit (s := S512) ![v2.toNat] S1.size (k0_off1_inb i 2)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_4 (k0_off1_inb : ∀ i : grid0.Coords, ∀ (r : Fin 4), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let v2 : Index := Scalar.indexCast v1
  let v3 : BitVec 32 := pf.at 0 (Rect.unit (s := S512) ![v2.toNat] S1.size (k0_off1_inb i 3)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_5 (k0_off1_inb : ∀ i : grid0.Coords, ∀ (r : Fin 4), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let v2 : Index := Scalar.indexCast v1
  let v3 : BitVec 32 := pf.at 0 (Rect.unit (s := S512) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_6 (k0_off1_inb : ∀ i : grid0.Coords, ∀ (r : Fin 4), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let v2 : Index := Scalar.indexCast v1
  let v3 : BitVec 32 := pf.at 0 (Rect.unit (s := S512) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_7 (k0_off1_inb : ∀ i : grid0.Coords, ∀ (r : Fin 4), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let v2 : Index := Scalar.indexCast v1
  let v3 : BitVec 32 := pf.at 0 (Rect.unit (s := S512) ![v2.toNat] S1.size (k0_off1_inb i 2)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_8 (k0_off1_inb : ∀ i : grid0.Coords, ∀ (r : Fin 4), ∀ a, (k0_off1 i (BitVec.ofNat 32 r.val)) a + S1.size a ≤ S512.size a) (numel1_S1 : S1.numel = 1) (pf : pre0.Contents (Elt F)) (i : grid0.Coords) : Fin 4 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let v2 : Index := Scalar.indexCast v1
  let v3 : BitVec 32 := pf.at 0 (Rect.unit (s := S512) ![v2.toNat] S1.size (k0_off1_inb i 3)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x1x64x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x64x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x64x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x64x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x64x24 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x64x24 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1x64x24 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x64x24 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x64x24 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1x64x24 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttRefIdeal.lean ====
abbrev S128x4 : Shape := ⟨2, ![128, 4]⟩
abbrev S8192x192 : Shape := ⟨2, ![8192, 192]⟩
abbrev S192x8192 : Shape := ⟨2, ![192, 8192]⟩
abbrev S1x192x8x32x32 : Shape := ⟨5, ![1, 192, 8, 32, 32]⟩
abbrev S1x8x24x8x1x4x8x4x8 : Shape := ⟨9, ![1, 8, 24, 8, 1, 4, 8, 4, 8]⟩
abbrev S1x8x8x4x4x1x8x8x24 : Shape := ⟨9, ![1, 8, 8, 4, 4, 1, 8, 8, 24]⟩
abbrev S1x8x128x64x24 : Shape := ⟨5, ![1, 8, 128, 64, 24]⟩
abbrev S1x1x128x4 : Shape := ⟨4, ![1, 1, 128, 4]⟩
abbrev S1x8x128x4 : Shape := ⟨4, ![1, 8, 128, 4]⟩
abbrev S1x8x512x1x1 : Shape := ⟨5, ![1, 8, 512, 1, 1]⟩
abbrev S_ : Shape := ⟨0, ![]⟩
abbrev S8x512x1 : Shape := ⟨3, ![8, 512, 1]⟩
abbrev S1 : Shape := ⟨1, ![1]⟩
abbrev S1x1x1 : Shape := ⟨3, ![1, 1, 1]⟩
abbrev S8x512 : Shape := ⟨2, ![8, 512]⟩
abbrev S1x8x512x64x24 : Shape := ⟨5, ![1, 8, 512, 64, 24]⟩
abbrev S1x8x128x256x24 : Shape := ⟨5, ![1, 8, 128, 256, 24]⟩
abbrev S1x8x128x24x256 : Shape := ⟨5, ![1, 8, 128, 24, 256]⟩
abbrev S8x128x64x24 : Shape := ⟨4, ![8, 128, 64, 24]⟩
abbrev S8x128x24x256 : Shape := ⟨4, ![8, 128, 24, 256]⟩
abbrev S8x128x64x256 : Shape := ⟨4, ![8, 128, 64, 256]⟩
abbrev S1x8x128x64x256 : Shape := ⟨5, ![1, 8, 128, 64, 256]⟩
abbrev S1x8x128x64 : Shape := ⟨4, ![1, 8, 128, 64]⟩
abbrev S1x8x128x64x1 : Shape := ⟨5, ![1, 8, 128, 64, 1]⟩
abbrev S8x128x256x24 : Shape := ⟨4, ![8, 128, 256, 24]⟩

abbrev nBuf : Space → Nat
  | .hbm => 97
  | .vmem => 0
  | .smem => 0
  | _ => 0

abbrev bufTy : (tb : Table) → Fin (tcTables nBuf tb) → BufTy
  | .hbm, ⟨0, _⟩ => ⟨S128x4, .i32⟩
  | .hbm, ⟨1, _⟩ => ⟨S8192x192, .f32⟩
  | .hbm, ⟨2, _⟩ => ⟨S8192x192, .f32⟩
  | .hbm, ⟨3, _⟩ => ⟨S8192x192, .f32⟩
  | .hbm, ⟨4, _⟩ => ⟨S192x8192, .f32⟩
  | .hbm, ⟨5, _⟩ => ⟨S1x192x8x32x32, .f32⟩
  | .hbm, ⟨6, _⟩ => ⟨S192x8192, .f32⟩
  | .hbm, ⟨7, _⟩ => ⟨S1x192x8x32x32, .f32⟩
  | .hbm, ⟨8, _⟩ => ⟨S192x8192, .f32⟩
  | .hbm, ⟨9, _⟩ => ⟨S1x192x8x32x32, .f32⟩
  | .hbm, ⟨10, _⟩ => ⟨S1x8x24x8x1x4x8x4x8, .f32⟩
  | .hbm, ⟨11, _⟩ => ⟨S1x8x8x4x4x1x8x8x24, .f32⟩
  | .hbm, ⟨12, _⟩ => ⟨S1x8x128x64x24, .f32⟩
  | .hbm, ⟨13, _⟩ => ⟨S1x8x24x8x1x4x8x4x8, .f32⟩
  | .hbm, ⟨14, _⟩ => ⟨S1x8x8x4x4x1x8x8x24, .f32⟩
  | .hbm, ⟨15, _⟩ => ⟨S1x8x128x64x24, .f32⟩
  | .hbm, ⟨16, _⟩ => ⟨S1x8x24x8x1x4x8x4x8, .f32⟩
  | .hbm, ⟨17, _⟩ => ⟨S1x8x8x4x4x1x8x8x24, .f32⟩
  | .hbm, ⟨18, _⟩ => ⟨S1x8x128x64x24, .f32⟩
  | .hbm, ⟨19, _⟩ => ⟨S1x1x128x4, .i32⟩
  | .hbm, ⟨20, _⟩ => ⟨S1x8x128x4, .i32⟩
  | .hbm, ⟨21, _⟩ => ⟨S1x8x512x1x1, .i32⟩
  | .hbm, ⟨22, _⟩ => ⟨S_, .i32⟩
  | .hbm, ⟨23, _⟩ => ⟨S1x8x512x1x1, .i32⟩
  | .hbm, ⟨24, _⟩ => ⟨S1x8x512x1x1, .i1⟩
  | .hbm, ⟨25, _⟩ => ⟨S_, .i32⟩
  | .hbm, ⟨26, _⟩ => ⟨S1x8x512x1x1, .i32⟩
  | .hbm, ⟨27, _⟩ => ⟨S1x8x512x1x1, .i32⟩
  | .hbm, ⟨28, _⟩ => ⟨S1x8x512x1x1, .i32⟩
  | .hbm, ⟨29, _⟩ => ⟨S8x512x1, .i32⟩
  | .hbm, ⟨30, _⟩ => ⟨S1, .i32⟩
  | .hbm, ⟨31, _⟩ => ⟨S_, .i32⟩
  | .hbm, ⟨32, _⟩ => ⟨S8x512x1, .i32⟩
  | .hbm, ⟨33, _⟩ => ⟨S8x512x1, .i1⟩
  | .hbm, ⟨34, _⟩ => ⟨S1x1x1, .i32⟩
  | .hbm, ⟨35, _⟩ => ⟨S8x512x1, .i32⟩
  | .hbm, ⟨36, _⟩ => ⟨S8x512x1, .i1⟩
  | .hbm, ⟨37, _⟩ => ⟨S8x512x1, .i1⟩
  | .hbm, ⟨38, _⟩ => ⟨S_, .i1⟩
  | .hbm, ⟨39, _⟩ => ⟨S8x512, .i1⟩
  | .hbm, ⟨40, _⟩ => ⟨S1x8x512x64x24, .f32⟩
  | .hbm, ⟨41, _⟩ => ⟨S1x8x512x64x24, .i1⟩
  | .hbm, ⟨42, _⟩ => ⟨S_, .f32⟩
  | .hbm, ⟨43, _⟩ => ⟨S1x8x512x64x24, .f32⟩
  | .hbm, ⟨44, _⟩ => ⟨S1x8x512x64x24, .f32⟩
  | .hbm, ⟨45, _⟩ => ⟨S1x8x128x256x24, .f32⟩
  | .hbm, ⟨46, _⟩ => ⟨S_, .i32⟩
  | .hbm, ⟨47, _⟩ => ⟨S1x8x512x1x1, .i32⟩
  | .hbm, ⟨48, _⟩ => ⟨S1x8x512x1x1, .i1⟩
  | .hbm, ⟨49, _⟩ => ⟨S_, .i32⟩
  | .hbm, ⟨50, _⟩ => ⟨S1x8x512x1x1, .i32⟩
  | .hbm, ⟨51, _⟩ => ⟨S1x8x512x1x1, .i32⟩
  | .hbm, ⟨52, _⟩ => ⟨S1x8x512x1x1, .i32⟩
  | .hbm, ⟨53, _⟩ => ⟨S8x512x1, .i32⟩
  | .hbm, ⟨54, _⟩ => ⟨S1, .i32⟩
  | .hbm, ⟨55, _⟩ => ⟨S_, .i32⟩
  | .hbm, ⟨56, _⟩ => ⟨S8x512x1, .i32⟩
  | .hbm, ⟨57, _⟩ => ⟨S8x512x1, .i1⟩
  | .hbm, ⟨58, _⟩ => ⟨S1x1x1, .i32⟩
  | .hbm, ⟨59, _⟩ => ⟨S8x512x1, .i32⟩
  | .hbm, ⟨60, _⟩ => ⟨S8x512x1, .i1⟩
  | .hbm, ⟨61, _⟩ => ⟨S8x512x1, .i1⟩
  | .hbm, ⟨62, _⟩ => ⟨S_, .i1⟩
  | .hbm, ⟨63, _⟩ => ⟨S8x512, .i1⟩
  | .hbm, ⟨64, _⟩ => ⟨S1x8x512x64x24, .f32⟩
  | .hbm, ⟨65, _⟩ => ⟨S1x8x512x64x24, .i1⟩
  | .hbm, ⟨66, _⟩ => ⟨S_, .f32⟩
  | .hbm, ⟨67, _⟩ => ⟨S1x8x512x64x24, .f32⟩
  | .hbm, ⟨68, _⟩ => ⟨S1x8x512x64x24, .f32⟩
  | .hbm, ⟨69, _⟩ => ⟨S1x8x128x256x24, .f32⟩
  | .hbm, ⟨70, _⟩ => ⟨S_, .f32⟩
  | .hbm, ⟨71, _⟩ => ⟨S1x8x128x64x24, .f32⟩
  | .hbm, ⟨72, _⟩ => ⟨S1x8x128x64x24, .f32⟩
  | .hbm, ⟨73, _⟩ => ⟨S1x8x128x24x256, .f32⟩
  | .hbm, ⟨74, _⟩ => ⟨S8x128x64x24, .f32⟩
  | .hbm, ⟨75, _⟩ => ⟨S8x128x24x256, .f32⟩
  | .hbm, ⟨76, _⟩ => ⟨S8x128x64x256, .f32⟩
  | .hbm, ⟨77, _⟩ => ⟨S1x8x128x64x256, .f32⟩
  | .hbm, ⟨78, _⟩ => ⟨S_, .f32⟩
  | .hbm, ⟨79, _⟩ => ⟨S1x8x128x64, .f32⟩
  | .hbm, ⟨80, _⟩ => ⟨S_, .f32⟩
  | .hbm, ⟨81, _⟩ => ⟨S1x8x128x64, .f32⟩
  | .hbm, ⟨82, _⟩ => ⟨S1x8x128x64, .f32⟩
  | .hbm, ⟨83, _⟩ => ⟨S1x8x128x64x1, .f32⟩
  | .hbm, ⟨84, _⟩ => ⟨S1x8x128x64x256, .f32⟩
  | .hbm, ⟨85, _⟩ => ⟨S1x8x128x64x256, .f32⟩
  | .hbm, ⟨86, _⟩ => ⟨S1x8x128x64x256, .f32⟩
  | .hbm, ⟨87, _⟩ => ⟨S_, .f32⟩
  | .hbm, ⟨88, _⟩ => ⟨S1x8x128x64, .f32⟩
  | .hbm, ⟨89, _⟩ => ⟨S1x8x128x64x1, .f32⟩
  | .hbm, ⟨90, _⟩ => ⟨S1x8x128x64x256, .f32⟩
  | .hbm, ⟨91, _⟩ => ⟨S1x8x128x64x256, .f32⟩
  | .hbm, ⟨92, _⟩ => ⟨S8x128x64x256, .f32⟩
  | .hbm, ⟨93, _⟩ => ⟨S8x128x256x24, .f32⟩
  | .hbm, ⟨94, _⟩ => ⟨S8x128x64x24, .f32⟩
  | .hbm, ⟨95, _⟩ => ⟨S1x8x128x64x24, .f32⟩
  | .hbm, ⟨96, _⟩ => ⟨S8x128x64x24, .f32⟩
  | _, _ => ⟨S128x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v18 : Ref sig .tc := ⟨.hbm, 44, rfl⟩
abbrev main_v19 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v20 : Ref sig .tc := ⟨.hbm, 68, rfl⟩
abbrev main_v21 : Ref sig .tc := ⟨.hbm, 69, rfl⟩
abbrev main_cst : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_cst_0 : Ref sig .tc := ⟨.hbm, 78, rfl⟩
abbrev main_v29 : Ref sig .tc := ⟨.hbm, 79, rfl⟩
abbrev main_cst_1 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_cst_2 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩

abbrev nD : Nat := 1
abbrev τ : Topo := Topo.v7x

variable {F : FTy → Type} [FloatOps F]
-- ==== Lepe.lean ====
abbrev S8x128x64x24 : Shape := ⟨4, ![8, 128, 64, 24]⟩
abbrev S8192x192 : Shape := ⟨2, ![8192, 192]⟩
abbrev S192x1x3x3x3 : Shape := ⟨5, ![192, 1, 3, 3, 3]⟩
abbrev S192 : Shape := ⟨1, ![192]⟩
abbrev S192x192x1x1x1 : Shape := ⟨5, ![192, 192, 1, 1, 1]⟩
abbrev S8x8x4x4x8x8x24 : Shape := ⟨7, ![8, 8, 4, 4, 8, 8, 24]⟩
abbrev S8x4x8x4x8x8x24 : Shape := ⟨7, ![8, 4, 8, 4, 8, 8, 24]⟩
abbrev S_ : Shape := ⟨0, ![]⟩
abbrev S10368x192 : Shape := ⟨2, ![10368, 192]⟩
abbrev S192x3x3x3 : Shape := ⟨4, ![192, 3, 3, 3]⟩
abbrev S3x3x3x192 : Shape := ⟨4, ![3, 3, 3, 192]⟩
abbrev S27x192 : Shape := ⟨2, ![27, 192]⟩
abbrev S192x192 : Shape := ⟨2, ![192, 192]⟩
abbrev S1x192 : Shape := ⟨2, ![1, 192]⟩
abbrev S1024x1 : Shape := ⟨2, ![1024, 1]⟩
abbrev S1024x192 : Shape := ⟨2, ![1024, 192]⟩

abbrev nBuf : Space → Nat
  | .hbm => 20
  | .vmem => 7
  | .smem => 0
  | _ => 0

abbrev bufTy : (tb : Table) → Fin (tcTables nBuf tb) → BufTy
  | .hbm, ⟨0, _⟩ => ⟨S8x128x64x24, .f32⟩
  | .hbm, ⟨1, _⟩ => ⟨S8192x192, .f32⟩
  | .hbm, ⟨2, _⟩ => ⟨S192x1x3x3x3, .f32⟩
  | .hbm, ⟨3, _⟩ => ⟨S192, .f32⟩
  | .hbm, ⟨4, _⟩ => ⟨S192x192x1x1x1, .f32⟩
  | .hbm, ⟨5, _⟩ => ⟨S192, .f32⟩
  | .hbm, ⟨6, _⟩ => ⟨S8x8x4x4x8x8x24, .f32⟩
  | .hbm, ⟨7, _⟩ => ⟨S8x4x8x4x8x8x24, .f32⟩
  | .hbm, ⟨8, _⟩ => ⟨S8192x192, .f32⟩
  | .hbm, ⟨9, _⟩ => ⟨S_, .i32⟩
  | .hbm, ⟨10, _⟩ => ⟨S_, .f32⟩
  | .hbm, ⟨11, _⟩ => ⟨S10368x192, .f32⟩
  | .hbm, ⟨12, _⟩ => ⟨S192x3x3x3, .f32⟩
  | .hbm, ⟨13, _⟩ => ⟨S3x3x3x192, .f32⟩
  | .hbm, ⟨14, _⟩ => ⟨S27x192, .f32⟩
  | .hbm, ⟨15, _⟩ => ⟨S192x192, .f32⟩
  | .hbm, ⟨16, _⟩ => ⟨S192x192, .f32⟩
  | .hbm, ⟨17, _⟩ => ⟨S1x192, .f32⟩
  | .hbm, ⟨18, _⟩ => ⟨S1x192, .f32⟩
  | .hbm, ⟨19, _⟩ => ⟨S8192x192, .f32⟩
  | .local _ .vmem, ⟨0, _⟩ => ⟨S8192x192, .f32⟩
  | .local _ .vmem, ⟨1, _⟩ => ⟨S10368x192, .f32⟩
  | .local _ .vmem, ⟨2, _⟩ => ⟨S27x192, .f32⟩
  | .local _ .vmem, ⟨3, _⟩ => ⟨S1x192, .f32⟩
  | .local _ .vmem, ⟨4, _⟩ => ⟨S192x192, .f32⟩
  | .local _ .vmem, ⟨5, _⟩ => ⟨S1x192, .f32⟩
  | .local _ .vmem, ⟨6, _⟩ => ⟨S8192x192, .f32⟩
  | _, _ => ⟨S8x128x64x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8192x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10368x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S27x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== LepeRefIdeal.lean ====
abbrev S8x128x64x24 : Shape := ⟨4, ![8, 128, 64, 24]⟩
abbrev S8192x192 : Shape := ⟨2, ![8192, 192]⟩
abbrev S192x1x3x3x3 : Shape := ⟨5, ![192, 1, 3, 3, 3]⟩
abbrev S192 : Shape := ⟨1, ![192]⟩
abbrev S192x192x1x1x1 : Shape := ⟨5, ![192, 192, 1, 1, 1]⟩
abbrev S1x8x8x4x4x1x8x8x24 : Shape := ⟨9, ![1, 8, 8, 4, 4, 1, 8, 8, 24]⟩
abbrev S1x8x24x8x1x4x8x4x8 : Shape := ⟨9, ![1, 8, 24, 8, 1, 4, 8, 4, 8]⟩
abbrev S192x8x32x32 : Shape := ⟨4, ![192, 8, 32, 32]⟩
abbrev S192x8192 : Shape := ⟨2, ![192, 8192]⟩
abbrev S_ : Shape := ⟨0, ![]⟩
abbrev S192x10x34x34 : Shape := ⟨4, ![192, 10, 34, 34]⟩
abbrev S192x1x8x32x32 : Shape := ⟨5, ![192, 1, 8, 32, 32]⟩
abbrev S192x16x8x32x32 : Shape := ⟨5, ![192, 16, 8, 32, 32]⟩
abbrev S192x11x8x32x32 : Shape := ⟨5, ![192, 11, 8, 32, 32]⟩
abbrev S192x27x8x32x32 : Shape := ⟨5, ![192, 27, 8, 32, 32]⟩
abbrev S192x27 : Shape := ⟨2, ![192, 27]⟩
abbrev S192x27x1x1x1 : Shape := ⟨5, ![192, 27, 1, 1, 1]⟩
abbrev S192x1x1x1 : Shape := ⟨4, ![192, 1, 1, 1]⟩
abbrev S192x192 : Shape := ⟨2, ![192, 192]⟩

abbrev nBuf : Space → Nat
  | .hbm => 90
  | .vmem => 0
  | .smem => 0
  | _ => 0

abbrev bufTy : (tb : Table) → Fin (tcTables nBuf tb) → BufTy
  | .hbm, ⟨0, _⟩ => ⟨S8x128x64x24, .f32⟩
  | .hbm, ⟨1, _⟩ => ⟨S8192x192, .f32⟩
  | .hbm, ⟨2, _⟩ => ⟨S192x1x3x3x3, .f32⟩
  | .hbm, ⟨3, _⟩ => ⟨S192, .f32⟩
  | .hbm, ⟨4, _⟩ => ⟨S192x192x1x1x1, .f32⟩
  | .hbm, ⟨5, _⟩ => ⟨S192, .f32⟩
  | .hbm, ⟨6, _⟩ => ⟨S1x8x8x4x4x1x8x8x24, .f32⟩
  | .hbm, ⟨7, _⟩ => ⟨S1x8x24x8x1x4x8x4x8, .f32⟩
  | .hbm, ⟨8, _⟩ => ⟨S192x8x32x32, .f32⟩
  | .hbm, ⟨9, _⟩ => ⟨S192x8192, .f32⟩
  | .hbm, ⟨10, _⟩ => ⟨S192x8x32x32, .f32⟩
  | .hbm, ⟨11, _⟩ => ⟨S_, .i32⟩
  | .hbm, ⟨12, _⟩ => ⟨S_, .f32⟩
  | .hbm, ⟨13, _⟩ => ⟨S192x10x34x34, .f32⟩
  | .hbm, ⟨14, _⟩ => ⟨S192x8x32x32, .f32⟩
  | .hbm, ⟨15, _⟩ => ⟨S192x8x32x32, .f32⟩
  | .hbm, ⟨16, _⟩ => ⟨S192x8x32x32, .f32⟩
  | .hbm, ⟨17, _⟩ => ⟨S192x8x32x32, .f32⟩
  | .hbm, ⟨18, _⟩ => ⟨S192x8x32x32, .f32⟩
  | .hbm, ⟨19, _⟩ => ⟨S192x8x32x32, .f32⟩
  | .hbm, ⟨20, _⟩ => ⟨S192x8x32x32, .f32⟩
  | .hbm, ⟨21, _⟩ => ⟨S192x8x32x32, .f32⟩
  | .hbm, ⟨22, _⟩ => ⟨S192x8x32x32, .f32⟩
  | .hbm, ⟨23, _⟩ => ⟨S192x8x32x32, .f32⟩
  | .hbm, ⟨24, _⟩ => ⟨S192x8x32x32, .f32⟩
  | .hbm, ⟨25, _⟩ => ⟨S192x8x32x32, .f32⟩
  | .hbm, ⟨26, _⟩ => ⟨S192x8x32x32, .f32⟩
  | .hbm, ⟨27, _⟩ => ⟨S192x8x32x32, .f32⟩
  | .hbm, ⟨28, _⟩ => ⟨S192x8x32x32, .f32⟩
  | .hbm, ⟨29, _⟩ => ⟨S192x8x32x32, .f32⟩
  | .hbm, ⟨30, _⟩ => ⟨S192x8x32x32, .f32⟩
  | .hbm, ⟨31, _⟩ => ⟨S192x8x32x32, .f32⟩
  | .hbm, ⟨32, _⟩ => ⟨S192x8x32x32, .f32⟩
  | .hbm, ⟨33, _⟩ => ⟨S192x8x32x32, .f32⟩
  | .hbm, ⟨34, _⟩ => ⟨S192x8x32x32, .f32⟩
  | .hbm, ⟨35, _⟩ => ⟨S192x8x32x32, .f32⟩
  | .hbm, ⟨36, _⟩ => ⟨S192x8x32x32, .f32⟩
  | .hbm, ⟨37, _⟩ => ⟨S192x8x32x32, .f32⟩
  | .hbm, ⟨38, _⟩ => ⟨S192x8x32x32, .f32⟩
  | .hbm, ⟨39, _⟩ => ⟨S192x8x32x32, .f32⟩
  | .hbm, ⟨40, _⟩ => ⟨S192x8x32x32, .f32⟩
  | .hbm, ⟨41, _⟩ => ⟨S192x1x8x32x32, .f32⟩
  | .hbm, ⟨42, _⟩ => ⟨S192x1x8x32x32, .f32⟩
  | .hbm, ⟨43, _⟩ => ⟨S192x1x8x32x32, .f32⟩
  | .hbm, ⟨44, _⟩ => ⟨S192x1x8x32x32, .f32⟩
  | .hbm, ⟨45, _⟩ => ⟨S192x1x8x32x32, .f32⟩
  | .hbm, ⟨46, _⟩ => ⟨S192x1x8x32x32, .f32⟩
  | .hbm, ⟨47, _⟩ => ⟨S192x1x8x32x32, .f32⟩
  | .hbm, ⟨48, _⟩ => ⟨S192x1x8x32x32, .f32⟩
  | .hbm, ⟨49, _⟩ => ⟨S192x1x8x32x32, .f32⟩
  | .hbm, ⟨50, _⟩ => ⟨S192x1x8x32x32, .f32⟩
  | .hbm, ⟨51, _⟩ => ⟨S192x1x8x32x32, .f32⟩
  | .hbm, ⟨52, _⟩ => ⟨S192x1x8x32x32, .f32⟩
  | .hbm, ⟨53, _⟩ => ⟨S192x1x8x32x32, .f32⟩
  | .hbm, ⟨54, _⟩ => ⟨S192x1x8x32x32, .f32⟩
  | .hbm, ⟨55, _⟩ => ⟨S192x1x8x32x32, .f32⟩
  | .hbm, ⟨56, _⟩ => ⟨S192x1x8x32x32, .f32⟩
  | .hbm, ⟨57, _⟩ => ⟨S192x1x8x32x32, .f32⟩
  | .hbm, ⟨58, _⟩ => ⟨S192x1x8x32x32, .f32⟩
  | .hbm, ⟨59, _⟩ => ⟨S192x1x8x32x32, .f32⟩
  | .hbm, ⟨60, _⟩ => ⟨S192x1x8x32x32, .f32⟩
  | .hbm, ⟨61, _⟩ => ⟨S192x1x8x32x32, .f32⟩
  | .hbm, ⟨62, _⟩ => ⟨S192x1x8x32x32, .f32⟩
  | .hbm, ⟨63, _⟩ => ⟨S192x1x8x32x32, .f32⟩
  | .hbm, ⟨64, _⟩ => ⟨S192x1x8x32x32, .f32⟩
  | .hbm, ⟨65, _⟩ => ⟨S192x1x8x32x32, .f32⟩
  | .hbm, ⟨66, _⟩ => ⟨S192x1x8x32x32, .f32⟩
  | .hbm, ⟨67, _⟩ => ⟨S192x1x8x32x32, .f32⟩
  | .hbm, ⟨68, _⟩ => ⟨S192x16x8x32x32, .f32⟩
  | .hbm, ⟨69, _⟩ => ⟨S192x11x8x32x32, .f32⟩
  | .hbm, ⟨70, _⟩ => ⟨S192x27x8x32x32, .f32⟩
  | .hbm, ⟨71, _⟩ => ⟨S192x27, .f32⟩
  | .hbm, ⟨72, _⟩ => ⟨S192x27x1x1x1, .f32⟩
  | .hbm, ⟨73, _⟩ => ⟨S192x27x8x32x32, .f32⟩
  | .hbm, ⟨74, _⟩ => ⟨S192x27x8x32x32, .f32⟩
  | .hbm, ⟨75, _⟩ => ⟨S_, .f32⟩
  | .hbm, ⟨76, _⟩ => ⟨S192x8x32x32, .f32⟩
  | .hbm, ⟨77, _⟩ => ⟨S192x1x1x1, .f32⟩
  | .hbm, ⟨78, _⟩ => ⟨S192x8x32x32, .f32⟩
  | .hbm, ⟨79, _⟩ => ⟨S192x8x32x32, .f32⟩
  | .hbm, ⟨80, _⟩ => ⟨S192x8x32x32, .f32⟩
  | .hbm, ⟨81, _⟩ => ⟨S192x192, .f32⟩
  | .hbm, ⟨82, _⟩ => ⟨S192x8192, .f32⟩
  | .hbm, ⟨83, _⟩ => ⟨S192x8192, .f32⟩
  | .hbm, ⟨84, _⟩ => ⟨S192x8x32x32, .f32⟩
  | .hbm, ⟨85, _⟩ => ⟨S192x1x1x1, .f32⟩
  | .hbm, ⟨86, _⟩ => ⟨S192x8x32x32, .f32⟩
  | .hbm, ⟨87, _⟩ => ⟨S192x8x32x32, .f32⟩
  | .hbm, ⟨88, _⟩ => ⟨S192x8192, .f32⟩
  | .hbm, ⟨89, _⟩ => ⟨S8192x192, .f32⟩
  | _, _ => ⟨S8x128x64x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩

abbrev nD : Nat := 1
abbrev τ : Topo := Topo.v7x

variable {F : FTy → Type} [FloatOps F]
-- ==== Proof.Windows.lean ====
module

public import Idealize.ShloMosaic.Lib.Pipeline.ValueKit
public import Idealize.ShloMosaic.Lib.ValueIdx
public import Idealize.ShloMosaic.Lib.KernelVsHost

@[expose] public section

set_option maxRecDepth 16384

noncomputable section

namespace Cert.Windows

open Idealize.ShloMosaic

/-- 192 channels of 8 frames of 32 by 32 pixels, with one pixel of padding on every side. -/
abbrev SP : Shape := ⟨4, ![192, 10, 34, 34]⟩
/-- 192 channels of 8 frames of 32 by 32 pixels. -/
abbrev SI : Shape := ⟨4, ![192, 8, 32, 32]⟩
/-- `n` such arrays, stacked after the channels. -/
abbrev SW (n : ℕ) : Shape := ⟨5, ![192, n, 8, 32, 32]⟩

variable {α : Type}

/-- Each of the 27 shifted images lies inside the padded one. -/
theorem slices (n : ℕ) : SP.Slices ![0, n / 9 % 3, n / 3 % 3, n % 3] SI :=
  ⟨rfl, fun a => match a with
    | ⟨0, _⟩ => by show 0 + 192 ≤ 192; omega
    | ⟨1, _⟩ => by show n / 9 % 3 + 8 ≤ 10; omega
    | ⟨2, _⟩ => by show n / 3 % 3 + 32 ≤ 34; omega
    | ⟨3, _⟩ => by show n % 3 + 32 ≤ 34; omega⟩

/-- An image fits a stack of one. -/
theorem bcast : SI.BroadcastsInDim (SW 1) (![0, 2, 3, 4] : Fin 4 → Fin 5) := by decide

/-- The image shifted by tap `n`. -/
def piece (p : SP.Idx → α) (n : ℕ) : (SW 1).Idx → α :=
  broadcastInDim (SW 1) ![0, 2, 3, 4] bcast (extractStridedSlice SI ![0, n / 9 % 3, n / 3 % 3, n % 3] p (slices n))

/-- The padded pixel that tap `n` reads for the pixel `(c, t, h, w)`. -/
def tapIdx (n : ℕ) (c : Fin 192) (t : Fin 8) (h w : Fin 32) : SP.Idx :=
  ix4 c (⟨n / 9 % 3 + t.val, by omega⟩ : Fin 10) (⟨n / 3 % 3 + h.val, by omega⟩ : Fin 34)
    (⟨n % 3 + w.val, by omega⟩ : Fin 34)

/-- The shifted image at a pixel: the padded pixel that the tap reads. -/
theorem piece_apply (p : SP.Idx → α) (n : ℕ) (c : Fin 192) (z : Fin 1) (t : Fin 8) (h w : Fin 32) :
    piece p n (ix5 c z t h w) = p (tapIdx n c t h w) := by
  unfold piece
  refine congrArg p (funext fun a => Fin.ext ?_)
  match a with
  | ⟨0, _⟩ => show 0 + c.val = c.val; omega
  | ⟨1, _⟩ => rfl
  | ⟨2, _⟩ => rfl
  | ⟨3, _⟩ => rfl

/-- `N` shifted images from tap `k0` on, stacked. -/
def stack (p : SP.Idx → α) (k0 N : ℕ)
    (h : Shape.Concatenates ((List.ofFn fun k : Fin N => (⟨SW 1, piece p (k0 + k.val)⟩ : (s : Shape) × (s.Idx → α))).map (·.1)) (SW N) 1) :
    (SW N).Idx → α :=
  concatenate (SW N) 1 (List.ofFn fun k : Fin N => (⟨SW 1, piece p (k0 + k.val)⟩ : (s : Shape) × (s.Idx → α))) h

/-- A stack of shifted images at a pixel: the padded pixel that its tap reads. -/
theorem stack_apply (p : SP.Idx → α) (k0 N : ℕ)
    (hc : Shape.Concatenates ((List.ofFn fun k : Fin N => (⟨SW 1, piece p (k0 + k.val)⟩ : (s : Shape) × (s.Idx → α))).map (·.1)) (SW N) 1) (c : Fin 192) (n : Fin N) (t : Fin 8) (h w : Fin 32) :
    stack p k0 N hc (ix5 c n t h w) = p (tapIdx (k0 + n.val) c t h w) := by
  unfold stack
  refine concatenate_ofFn_unit_eq (s₁ := SW 1) 1 (fun k : Fin N => piece p (k0 + k.val)) hc _ _ rfl rfl fun k i hk h0 hb => ?_
  have hk' : n = k := Fin.ext hk
  subst hk'
  rw [show i = ix5 c (0 : Fin 1) t h w from funext fun a => Fin.ext ?_, piece_apply]
  match a with
  | ⟨0, _⟩ => exact hb (0 : Fin 5) (show (0 : Fin 5) ≠ 1 by decide)
  | ⟨1, _⟩ => exact h0
  | ⟨2, _⟩ => exact hb (2 : Fin 5) (show (2 : Fin 5) ≠ 1 by decide)
  | ⟨3, _⟩ => exact hb (3 : Fin 5) (show (3 : Fin 5) ≠ 1 by decide)
  | ⟨4, _⟩ => exact hb (4 : Fin 5) (show (4 : Fin 5) ≠ 1 by decide)

/-- The 27 shifted images, stacked: the first sixteen and the other eleven. -/
def windows (p : SP.Idx → α)
    (h1 : Shape.Concatenates ((List.ofFn fun k : Fin 16 => (⟨SW 1, piece p (0 + k.val)⟩ : (s : Shape) × (s.Idx → α))).map (·.1)) (SW 16) 1)
    (h2 : Shape.Concatenates ((List.ofFn fun k : Fin 11 => (⟨SW 1, piece p (16 + k.val)⟩ : (s : Shape) × (s.Idx → α))).map (·.1)) (SW 11) 1)
    (h3 : Shape.Concatenates [SW 16, SW 11] (SW 27) 1) : (SW 27).Idx → α :=
  concatenate (SW 27) 1 [⟨SW 16, stack p 0 16 h1⟩, ⟨SW 11, stack p 16 11 h2⟩] h3

/-- Element `(c, n, t, h, w)` of the stack is the padded pixel that tap `n` reads for `(c, t, h, w)`. -/
theorem windows_apply (p : SP.Idx → α)
    (h1 : Shape.Concatenates ((List.ofFn fun k : Fin 16 => (⟨SW 1, piece p (0 + k.val)⟩ : (s : Shape) × (s.Idx → α))).map (·.1)) (SW 16) 1)
    (h2 : Shape.Concatenates ((List.ofFn fun k : Fin 11 => (⟨SW 1, piece p (16 + k.val)⟩ : (s : Shape) × (s.Idx → α))).map (·.1)) (SW 11) 1)
    (h3 : Shape.Concatenates [SW 16, SW 11] (SW 27) 1) (c : Fin 192) (n : Fin 27) (t : Fin 8) (h w : Fin 32) :
    windows p h1 h2 h3 (ix5 c n t h w) = p (tapIdx n.val c t h w) := by
  unfold windows
  by_cases hn : n.val < 16
  · rw [concatenate_pair_apply_left (s₁ := SW 16) (s₂ := SW 11) 1 _ _ h3 _ rfl (ix5 c (⟨n.val, hn⟩ : Fin 16) t h w) (fun b => by
      match b with
      | ⟨0, _⟩ => rfl
      | ⟨1, _⟩ => rfl
      | ⟨2, _⟩ => rfl
      | ⟨3, _⟩ => rfl
      | ⟨4, _⟩ => rfl), stack_apply]
    rw [Nat.zero_add]
  · rw [concatenate_pair_apply_right (s₁ := SW 16) (s₂ := SW 11) 1 _ _ h3 _ rfl rfl
      (ix5 c (⟨n.val - 16, by omega⟩ : Fin 11) t h w) (fun b hb => by
      match b with
      | ⟨0, _⟩ => rfl
      | ⟨1, _⟩ => exact absurd rfl hb
      | ⟨2, _⟩ => rfl
      | ⟨3, _⟩ => rfl
      | ⟨4, _⟩ => rfl) (by show n.val - 16 + 16 = n.val; omega), stack_apply]
    rw [show 16 + (n.val - 16) = n.val by omega]

/-! ## The padded image and the padded rows read the same pixels -/

/-- Pixel `(t - 1, h - 1, w - 1)` of channel `c`, or `z` where there is none. -/
def px (y : SI.Idx → α) (z : α) (c : Fin 192) (t h w : ℕ) : α :=
  if hin : (1 ≤ t ∧ t ≤ 8) ∧ (1 ≤ h ∧ h ≤ 32) ∧ 1 ≤ w ∧ w ≤ 32 then
    y (ix4 c (⟨t - 1, by omega⟩ : Fin 8) (⟨h - 1, by omega⟩ : Fin 32) (⟨w - 1, by omega⟩ : Fin 32))
  else z

/-- The image padded by one pixel on every side, read at an index. -/
theorem pad_image (y : SI.Idx → α) {u : Shape} (v : u.Idx → α) (hp : SI.Pads ![0, 1, 1, 1] ![0, 1, 1, 1] ![0, 0, 0, 0] SP)
    (hu : 0 < u.numel) (c : Fin 192) (t : Fin 10) (h w : Fin 34) :
    pad SP ![0, 1, 1, 1] ![0, 1, 1, 1] ![0, 0, 0, 0] y v hp hu (ix4 c t h w) = px y (v (Shape.Idx.first hu)) c t h w := by
  unfold px
  split
  · rename_i hin
    refine pad_apply_of_inside _ _ _ _ _ _ _ _ _ fun a => ?_
    match a with
    | ⟨0, _⟩ => show c.val = 0 + c.val * 1; omega
    | ⟨1, _⟩ => show t.val = 1 + (t.val - 1) * 1; omega
    | ⟨2, _⟩ => show h.val = 1 + (h.val - 1) * 1; omega
    | ⟨3, _⟩ => show w.val = 1 + (w.val - 1) * 1; omega
  · rename_i hin
    by_cases h1 : 1 ≤ t.val ∧ t.val ≤ 8
    · by_cases h2 : 1 ≤ h.val ∧ h.val ≤ 32
      · refine pad_apply_of_not_inside _ _ _ _ _ _ _ _ (3 : Fin 4) ?_
        show ¬(1 ≤ w.val ∧ (w.val - 1) % 1 = 0 ∧ (w.val - 1) / 1 < 32)
        omega
      · refine pad_apply_of_not_inside _ _ _ _ _ _ _ _ (2 : Fin 4) ?_
        show ¬(1 ≤ h.val ∧ (h.val - 1) % 1 = 0 ∧ (h.val - 1) / 1 < 32)
        omega
    · refine pad_apply_of_not_inside _ _ _ _ _ _ _ _ (1 : Fin 4) ?_
      show ¬(1 ≤ t.val ∧ (t.val - 1) % 1 = 0 ∧ (t.val - 1) / 1 < 8)
      omega

/-- One row per pixel. -/
abbrev SR : Shape := ⟨2, ![8192, 192]⟩
/-- One row per pixel, with 1088 rows of padding before and after. -/
abbrev SRP : Shape := ⟨2, ![10368, 192]⟩

/-- The image whose pixel `(t, h, w)` is row `t * 1024 + h * 32 + w`. -/
def img (R : SR.Idx → α) : SI.Idx → α := fun i =>
  R (ix2 (⟨(i 1).val * 1024 + (i 2).val * 32 + (i 3).val, by
    have h1 : (i 1).val < 8 := (i 1).isLt
    have h2 : (i 2).val < 32 := (i 2).isLt
    have h3 : (i 3).val < 32 := (i 3).isLt
    omega⟩ : Fin 8192) (i 0))

/-- The row of the padded array at which tap `n` of the chunk starting at row 0 begins: the tap moves by
    `n / 9 - 1` frames of 1024 rows, `n / 3 % 3 - 1` lines of 32 rows and `n % 3 - 1` rows, from the 1088 rows of padding. -/
def off (n : ℕ) : ℕ := 31 + n / 9 % 3 * 1024 + n / 3 % 3 * 32 + n % 3

/-- Row `r` of a chunk, moved by tap `n` within its frame, stays inside the 32 by 32 image. -/
abbrev Inside (n r : ℕ) : Prop :=
  (1 ≤ n / 3 % 3 + r / 32 ∧ n / 3 % 3 + r / 32 ≤ 32) ∧ 1 ≤ n % 3 + r % 32 ∧ n % 3 + r % 32 ≤ 32

/-- Where the moved row stays inside the image, the padded rows hold the pixel the padded image holds. -/
theorem pad_rows (R : SR.Idx → α) {u : Shape} (v : u.Idx → α) (hp : SR.Pads ![1088, 0] ![1088, 0] ![0, 0] SRP)
    (hu : 0 < u.numel) (c : Fin 8) (n : ℕ) (r : Fin 1024) (k : Fin 192) (hm : Inside n r.val) (i : SRP.Idx)
    (h0 : (i 0).val = c.val * 1024 + off n + r.val) (h1 : (i 1).val = k.val) :
    pad SRP ![1088, 0] ![1088, 0] ![0, 0] R v hp hu i =
      px (img R) (v (Shape.Idx.first hu)) k (n / 9 % 3 + c.val) (n / 3 % 3 + r.val / 32) (n % 3 + r.val % 32) := by
  have hr := r.isLt
  have hc := c.isLt
  unfold off at h0
  unfold px
  split
  · rename_i hin
    refine pad_apply_of_inside _ _ _ _ _ _ _ _ _ fun a => ?_
    match a with
    | ⟨0, _⟩ =>
      show (i 0).val = 1088 + ((n / 9 % 3 + c.val - 1) * 1024 + (n / 3 % 3 + r.val / 32 - 1) * 32 + (n % 3 + r.val % 32 - 1)) * 1
      omega
    | ⟨1, _⟩ => show (i 1).val = 0 + k.val * 1; omega
  · rename_i hin
    refine pad_apply_of_not_inside _ _ _ _ _ _ _ _ (0 : Fin 2) ?_
    show ¬(1088 ≤ (i 0).val ∧ ((i 0).val - 1088) % 1 = 0 ∧ ((i 0).val - 1088) / 1 < 8192)
    omega

/-- Where it leaves the image there is no pixel. -/
theorem px_of_not_inside (y : SI.Idx → α) (z : α) (k : Fin 192) (t : ℕ) (n r : ℕ) (hm : ¬Inside n r) :
    px y z k t (n / 3 % 3 + r / 32) (n % 3 + r % 32) = z := by
  unfold px
  rw [dif_neg fun h => hm ⟨h.2.1, h.2.2⟩]

end Cert.Windows

end
-- ==== Proof.QkvChunk.lean ====
module

public import proofs.«01_k».proof.Proof.Gen.QkvIdeal.Value
public import Idealize.ShloMosaic.Lib.Pipeline.ValueKit
public import proofs.«01_k».proof.Proof.Windows

@[expose] public section

set_option maxRecDepth 65536

noncomputable section

namespace Cert.QkvIdeal.Chunk

open Cert.Windows Cert.QkvIdeal Cert.QkvIdeal.Gen Idealize.ShloMosaic Idealize.ShloMosaic.TcCoe Idealize.SL.Sem

variable {F : FTy → Type} [FloatOps F]

/-- Every tap's window of every chunk lies inside the padded array. -/
theorem inb_rows (c : Fin 8) (n : ℕ) :
    ∀ a, (![c.val * 1024 + off n, 0] : Fin 2 → ℕ) a + S1024x192.size a ≤ S10368x192.size a
  | ⟨0, _⟩ => by
    show c.val * 1024 + off n + 1024 ≤ 10368
    have := c.isLt
    unfold off
    omega
  | ⟨1, _⟩ => by show 0 + 192 ≤ 192; omega

/-- Every tap's slice of the weights lies inside them. -/
theorem inb_tap (n : ℕ) :
    ∀ a, (![n % 27, 0, 0] : Fin 3 → ℕ) a + S1x192x192.size a ≤ S27x192x192.size a
  | ⟨0, _⟩ => by show n % 27 + 1 ≤ 27; omega
  | ⟨1, _⟩ => by show 0 + 192 ≤ 192; omega
  | ⟨2, _⟩ => by show 0 + 192 ≤ 192; omega

/-- The 1024 rows that tap `n` of chunk `c` reads. -/
def rows (x0 : Vec F S10368x192 .f32) (c : Fin 8) (n : ℕ) : Vec F S1024x192 .f32 :=
  View.ld x0 (Rect.unit (s := S10368x192) ![c.val * 1024 + off n, 0] S1024x192.size (inb_rows c n))

/-- Tap `n`'s 192 by 192 weights. -/
def wtap (w : Vec F S27x192x192 .f32) (n : ℕ) : Vec F S1x192x192 .f32 :=
  View.ld w (Rect.unit (s := S27x192x192) ![n % 27, 0, 0] S1x192x192.size (inb_tap n))

/-- The 0/1 column that blanks the rows of a chunk whose shifted pixel falls outside the 32 by 32 image, for each of the
    eight in-plane shifts. -/
def msk : ℕ → FVec F S1024x1 .f32
  | 0 => k0_pay5 k0_pay2 k0_pay3 k0_pay4
  | 1 => k0_pay6 k0_pay2 k0_pay3
  | 2 => k0_pay9 k0_pay2 k0_pay3 (k0_pay7 k0_pay2) k0_pay8
  | 3 => k0_pay10 k0_pay2 k0_pay3
  | 5 => k0_pay13 k0_pay3 (k0_pay11 k0_pay2) (k0_pay12 k0_pay2) 31#32
  | 6 => k0_pay14 k0_pay2 k0_pay3
  | 7 => k0_pay17 k0_pay3 (k0_pay15 k0_pay2) (k0_pay16 k0_pay2)
  | _ => k0_pay18 k0_pay2 k0_pay3

/-- What tap `n` of chunk `c` multiplies with its weights: its rows, blanked where the shifted pixel is off the image
    (a tap with no in-plane shift needs no blanking). -/
def xs (x0 : Vec F S10368x192 .f32) (c : Fin 8) (n : ℕ) : FVec F S1024x192 .f32 :=
  if n % 9 = 4 then shapeCast S1024x192 (rows x0 c n) shapeCasts_S1024x192_S1024x192
  else mulf (shapeCast S1024x192 (rows x0 c n) shapeCasts_S1024x192_S1024x192)
    (broadcastTo S1024x192 (msk (n % 9)) broadcasts_S1024x1_S1024x192)

/-- The bias and the first `n` taps of chunk `c`. -/
def acc (x0 : Vec F S10368x192 .f32) (w : Vec F S27x192x192 .f32) (b : Vec F S1x192 .f32) (c : Fin 8) :
    ℕ → FVec F S1024x192 .f32
  | 0 => k0_pay19 (View.ld b r0_0)
  | n + 1 => addf (acc x0 w b c n)
      (matmul dot_S1024x192_S192x192_S1024x192_1_0_0_1_n_n (some .fp32) (xs x0 c n)
        (shapeCast S192x192 (wtap w n) shapeCasts_S1x192x192_S192x192) (constant S1024x192 .f32 0x00000000#32))

/-- The chunk of the value projection. -/
def vch (x0 : Vec F S10368x192 .f32) (w : Vec F S192x192 .f32) (c : Fin 8) : FVec F S1024x192 .f32 :=
  k0_pay362 (View.ld x0 (Rect.unit (s := S10368x192) ![c.val * 1024 + off 13, 0] S1024x192.size (inb_rows c 13)))
    (View.ld w r0_29)

/-- The convolution's rows as the kernel leaves them: eight chunks of 1024 rows. -/
def conv (x0 : Vec F S10368x192 .f32) (w : Vec F S27x192x192 .f32) (b : Vec F S1x192 .f32) : Vec F S8192x192 .f32 :=
  View.canon [⟨r0_117, acc x0 w b 7 27⟩, ⟨r0_107, acc x0 w b 6 27⟩, ⟨r0_97, acc x0 w b 5 27⟩, ⟨r0_87, acc x0 w b 4 27⟩,
    ⟨r0_77, acc x0 w b 3 27⟩, ⟨r0_67, acc x0 w b 2 27⟩, ⟨r0_57, acc x0 w b 1 27⟩, ⟨r0_30, acc x0 w b 0 27⟩]

variable (x0 : Vec F S10368x192 .f32) (x1 x2 : Vec F S27x192x192 .f32) (x3 : Vec F S192x192 .f32) (x4 x5 : Vec F S1x192 .f32)

/-- The first output is the convolution of the padded array with the first weights and bias. -/
theorem out_q : out0_6 x0 x1 x2 x3 x4 x5 = conv x0 x1 x4 := rfl

/-- The second output is the convolution of the padded array with the second weights and bias. -/
theorem out_k : out0_7 x0 x1 x2 x3 x4 x5 = conv x0 x2 x5 := rfl

/-- The third output is the value projection, chunk by chunk. -/
theorem out_v : out0_8 x0 x1 x2 x3 x4 x5 =
    View.canon [⟨r0_117, vch x0 x3 7⟩, ⟨r0_107, vch x0 x3 6⟩, ⟨r0_97, vch x0 x3 5⟩, ⟨r0_87, vch x0 x3 4⟩,
      ⟨r0_77, vch x0 x3 3⟩, ⟨r0_67, vch x0 x3 2⟩, ⟨r0_57, vch x0 x3 1⟩, ⟨r0_30, vch x0 x3 0⟩] := rfl

end Cert.QkvIdeal.Chunk

end
-- ==== Proof.QkvMask.lean ====
module

public import proofs.«01_k».proof.Proof.QkvChunk

@[expose] public section

set_option maxRecDepth 65536

noncomputable section

namespace Cert.QkvIdeal.Mask

open Cert.Windows Cert.QkvIdeal Cert.QkvIdeal.Gen Cert.QkvIdeal.Chunk Idealize.ShloMosaic Idealize.ShloMosaic.TcCoe Idealize.SL.Sem

/-! ## The masks -/

/-- Each mask is a column of the words 1 and 0, 1 exactly where the moved row stays inside the image. -/
theorem msk_bits {F : FTy → Type} [FloatOps F] : ∀ j : Fin 9, j ≠ 4 → ∃ b : IVec S1024x1 32, msk (F := F) j = sitofp .f32 b ∧
    ∀ r : Fin 1024, b (ix2 r 0) = if Inside j r then 1#32 else 0#32
  | 0, _ => ⟨_, rfl, by decide +kernel⟩
  | 1, _ => ⟨_, rfl, by decide +kernel⟩
  | 2, _ => ⟨_, rfl, by decide +kernel⟩
  | 3, _ => ⟨_, rfl, by decide +kernel⟩
  | 4, h => absurd rfl h
  | 5, _ => ⟨_, rfl, by decide +kernel⟩
  | 6, _ => ⟨_, rfl, by decide +kernel⟩
  | 7, _ => ⟨_, rfl, by decide +kernel⟩
  | 8, _ => ⟨_, rfl, by decide +kernel⟩

/-- A mask is 1 where the moved row stays inside the image and 0 elsewhere. -/
theorem msk_apply (n : ℕ) (hn : n % 9 ≠ 4) (r : Fin 1024) :
    msk (F := Ideal) (n % 9) (ix2 r 0) = if Inside n r then (1 : EReal) else 0 := by
  obtain ⟨b, hb, hr⟩ := msk_bits (F := Ideal) ⟨n % 9, Nat.mod_lt _ (by decide)⟩ fun h => hn (congrArg Fin.val h)
  have hI : Inside (n % 9) r ↔ Inside n r := by
    unfold Inside
    rw [show n % 9 / 3 % 3 = n / 3 % 3 by omega, show n % 9 % 3 = n % 3 by omega]
  have hb' : msk (F := Ideal) (n % 9) = sitofp .f32 b := hb
  rw [hb']
  show (((b (ix2 r 0)).toInt : ℝ) : EReal) = _
  rw [hr r]
  by_cases h : Inside n r
  · rw [if_pos (hI.2 h), if_pos h]
    norm_num
  · rw [if_neg (fun h' => h (hI.1 h')), if_neg h]
    norm_num

end Cert.QkvIdeal.Mask

end
-- ==== Proof.QkvPrep.lean ====
module

public import proofs.«01_k».proof.Proof.Gen.QkvIdeal.Frame
public import Idealize.ShloMosaic.Lib.Claim

@[expose] public section

set_option maxRecDepth 65536
set_option maxHeartbeats 1000000

noncomputable section

namespace Cert.QkvIdeal.Prep

open Cert.QkvIdeal Cert.QkvIdeal.Gen Idealize.ShloMosaic Idealize.ShloMosaic.TcCoe Idealize.SL.Sem

variable {F : FTy → Type} [FloatOps F]

/-- The padded array: one row per pixel, 1088 rows of zeros before and after. -/
def xpad (x : FVec F S1x192x8x32x32 .f32) : FVec F S10368x192 .f32 :=
  pad S10368x192 ![1088, 0] ![1088, 0] ![0, 0]
    (transpose S8192x192 [1, 0]
      (shapeCast S192x8192 (shapeCast S192x8x32x32 x shapeCasts_S1x192x8x32x32_S192x8x32x32) shapeCasts_S192x8x32x32_S192x8192)
      transposes_S192x8192_S8192x192_1_0)
    (sitofp .f32 (constantI S_ 32 0#32)) pads_S8192x192_S10368x192_108810880_000 h_S_

/-- The normalization's scale per output channel. -/
def inv (g v : FVec F S192 .f32) : FVec F S192 .f32 :=
  Host.divf g (Host.sqrt (addf v (broadcastInDim S192 ![] bcast_S_S192 (constant S_ .f32 0x3727C5AC#32))))

/-- The sum of the first and of the last temporal slice of the weights. -/
def kdiff (w : FVec F S192x192x3x3x3 .f32) : FVec F S192x192 .f32 :=
  addf
    (Host.reduceAdd (shapeCast S192x192x3x3
        (extractStridedSlice S192x192x1x3x3 ![0, 0, 0, 0, 0] w slices_S192x192x3x3x3_S192x192x1x3x3_0_0_0_0_0)
        shapeCasts_S192x192x1x3x3_S192x192x3x3) (constant S_ .f32 0x00000000#32) reducesTo_S192x192x3x3_S192x192_d3_2 h_S_)
    (Host.reduceAdd (shapeCast S192x192x3x3
        (extractStridedSlice S192x192x1x3x3 ![0, 0, 2, 0, 0] w slices_S192x192x3x3x3_S192x192x1x3x3_0_0_2_0_0)
        shapeCasts_S192x192x1x3x3_S192x192x3x3) (constant S_ .f32 0x00000000#32) reducesTo_S192x192x3x3_S192x192_d3_2 h_S_)

/-- The index of the central tap. -/
def centre : IVec S3 32 :=
  concatenate S3 0 [⟨S1, broadcastInDim S1 ![] bcast_S_S1 (constantI S_ 32 1#32)⟩,
    ⟨S1, broadcastInDim S1 ![] bcast_S_S1 (constantI S_ 32 1#32)⟩,
    ⟨S1, broadcastInDim S1 ![] bcast_S_S1 (constantI S_ 32 1#32)⟩] concatenates_S1_S1_S1_S3_d0

/-- The weights with the difference term added at the central tap. -/
def wdiff (w : FVec F S192x192x3x3x3 .f32) : FVec F S192x192x3x3x3 .f32 :=
  Host.scatter scatter_S192x192x3x3x3_S3_S192x192_01_234_234_0 FloatOps.addf w centre
    (mulf (broadcastInDim S192x192 ![] bcast_S_S192x192 (constant S_ .f32 0xBE4CCCCD#32)) (kdiff w))

/-- The weights as the kernel reads them: one 192 by 192 matrix per tap, scaled by the normalization. -/
def wtaps (w : FVec F S192x192x3x3x3 .f32) (g v : FVec F S192 .f32) : FVec F S27x192x192 .f32 :=
  shapeCast S27x192x192 (transpose S3x3x3x192x192 [2, 3, 4, 1, 0]
    (mulf (wdiff w) (broadcastInDim S192x192x3x3x3 ![0, 1, 2, 3, 4] bcast_S192x1x1x1x1_S192x192x3x3x3_0_1_2_3_4
      (broadcastInDim S192x1x1x1x1 ![0] bcast_S192_S192x1x1x1x1_0 (inv g v))))
    transposes_S192x192x3x3x3_S3x3x3x192x192_2_3_4_1_0) shapeCasts_S3x3x3x192x192_S27x192x192

/-- The normalization's shift per output channel. -/
def shift (g b m v : FVec F S192 .f32) : FVec F S1x192 .f32 :=
  shapeCast S1x192 (subf b (mulf m (inv g v))) shapeCasts_S192_S1x192

/-- The value projection's weights, input channel first. -/
def wval (w : FVec F S192x192x1x1x1 .f32) : FVec F S192x192 .f32 :=
  transpose S192x192 [1, 0] (shapeCast S192x192 w shapeCasts_S192x192x1x1x1_S192x192) transposes_S192x192_S192x192_1_0

variable (m : (ℓ : Loc nD τ sig) → Buf (Elt F) ℓ) (c : Dev nD)

/-- The host operations before the region, in one line. -/
abbrev ops : List (HloOp τ sig (Elt F)) := List.flatten [hostOps0, hostOps0_1, hostOps0_2]

/-- A line of operations in two parts. -/
theorem after_append (l₁ l₂ : List (HloOp τ sig (Elt F))) (σ : Valuation τ sig (Elt F)) :
    StableHlo.after (l₁ ++ l₂) σ = StableHlo.after l₂ (StableHlo.after l₁ σ) := by
  induction l₁ generalizing σ with
  | nil => rfl
  | cons op l ih => exact ih _

/-- A buffer that no operation from the `k`-th on writes holds what the first `k` left. -/
theorem V_take (k : ℕ) (b : Ref sig .tc) (h : ((ops (F := F)).drop k).Forall fun op => (Proc.devRef .tc b : DevRef τ sig) ∉ op.writes) :
    V m c b = StableHlo.after ((ops (F := F)).take k) (fun b => m (c, b)) (Proc.devRef .tc b) := by
  show StableHlo.after (ops (F := F)) (fun b => m (c, b)) (Proc.devRef .tc b) = _
  rw [← List.take_append_drop k (ops (F := F)), after_append, StableHlo.after_of_forall_not_mem _ _ (List.forall_iff_forall_mem.mp h),
    List.take_append_drop]

/-- The region finds the padded pixels. -/
theorem V_xpad : V m c main_v3 = xpad (m (c.tc.loc main_arg0)) := by
  rw [V_take m c 6 _ (by
    simp only [ops, hostOps0, hostOps0_1, hostOps0_2, List.flatten_cons, List.flatten_nil, List.append_nil, List.cons_append, List.nil_append,
      List.drop_succ_cons, List.drop_zero, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))]
  simp only [ops, hostOps0, hostOps0_1, hostOps0_2, List.flatten_cons, List.flatten_nil, List.append_nil, List.cons_append, List.nil_append,
    List.take_succ_cons, List.take_zero]
  after_results
  rfl

/-- The region finds the scaled weights of the first convolution. -/
theorem V_wq : V m c main_v28 = wtaps (m (c.tc.loc main_arg1)) (m (c.tc.loc main_arg2)) (m (c.tc.loc main_arg5)) := by
  rw [V_take m c 39 _ (by
    simp only [ops, hostOps0, hostOps0_1, hostOps0_2, List.flatten_cons, List.flatten_nil, List.append_nil, List.cons_append, List.nil_append,
      List.drop_succ_cons, List.drop_zero, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))]
  simp only [ops, hostOps0, hostOps0_1, hostOps0_2, List.flatten_cons, List.flatten_nil, List.append_nil, List.cons_append, List.nil_append,
    List.take_succ_cons, List.take_zero]
  after_results
  rfl

/-- The region finds the shift of the first normalization. -/
theorem V_bq : V m c main_v29 =
    shift (m (c.tc.loc main_arg2)) (m (c.tc.loc main_arg3)) (m (c.tc.loc main_arg4)) (m (c.tc.loc main_arg5)) := by
  rw [V_take m c 40 _ (by
    simp only [ops, hostOps0, hostOps0_1, hostOps0_2, List.flatten_cons, List.flatten_nil, List.append_nil, List.cons_append, List.nil_append,
      List.drop_succ_cons, List.drop_zero, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))]
  simp only [ops, hostOps0, hostOps0_1, hostOps0_2, List.flatten_cons, List.flatten_nil, List.append_nil, List.cons_append, List.nil_append,
    List.take_succ_cons, List.take_zero]
  after_results
  rfl

/-- The region finds the scaled weights of the second convolution. -/
theorem V_wk : V m c main_v54 = wtaps (m (c.tc.loc main_arg6)) (m (c.tc.loc main_arg7)) (m (c.tc.loc main_arg10)) := by
  show StableHlo.after (ops (F := F)) (fun b => m (c, b)) (Proc.devRef .tc _) = _
  simp only [ops, hostOps0, hostOps0_1, hostOps0_2, List.flatten_cons, List.flatten_nil, List.append_nil, List.cons_append, List.nil_append]
  after_results
  rfl

/-- The region finds the shift of the second normalization. -/
theorem V_bk : V m c main_v55 =
    shift (m (c.tc.loc main_arg7)) (m (c.tc.loc main_arg8)) (m (c.tc.loc main_arg9)) (m (c.tc.loc main_arg10)) := by
  show StableHlo.after (ops (F := F)) (fun b => m (c, b)) (Proc.devRef .tc _) = _
  simp only [ops, hostOps0, hostOps0_1, hostOps0_2, List.flatten_cons, List.flatten_nil, List.append_nil, List.cons_append, List.nil_append]
  after_results
  rfl

/-- The region finds the value projection's weights, transposed. -/
theorem V_wv : V m c main_v57 = wval (m (c.tc.loc main_arg11)) := by
  show StableHlo.after (ops (F := F)) (fun b => m (c, b)) (Proc.devRef .tc _) = _
  simp only [ops, hostOps0, hostOps0_1, hostOps0_2, List.flatten_cons, List.flatten_nil, List.append_nil, List.cons_append, List.nil_append]
  after_results
  rfl

end Cert.QkvIdeal.Prep

end
-- ==== Proof.QkvRead.lean ====
module

public import proofs.«01_k».proof.Proof.QkvMask
public import proofs.«01_k».proof.Proof.QkvPrep
public import Idealize.ShloMosaic.Lib.MatmulPlain

@[expose] public section

set_option maxRecDepth 65536

noncomputable section

namespace Cert.QkvIdeal.Read

open Cert.Windows Cert.QkvIdeal Cert.QkvIdeal.Gen Cert.QkvIdeal.Chunk Cert.QkvIdeal.Mask Idealize.ShloMosaic Idealize.ShloMosaic.TcCoe Idealize.SL.Sem

/-! ## One tap -/

/-- A row of the padded array as tap `n` of chunk `c` reads it. -/
theorem rows_apply (x0 : FVec Ideal S10368x192 .f32) (c : Fin 8) (n : ℕ) (r : Fin 1024) (k : Fin 192)
    (i : S10368x192.Idx) (h0 : (i 0).val = c.val * 1024 + off n + r.val) (h1 : (i 1).val = k.val) :
    rows (F := Ideal) x0 c n (ix2 r k) = x0 i := by
  unfold rows
  refine View.ld_unit_apply_of _ _ _ _ _ _ fun a => ?_
  match a with
  | ⟨0, _⟩ => exact h0
  | ⟨1, _⟩ => show (i 1).val = 0 + k.val; omega

/-- What tap `n` multiplies with its weights is the pixel it moves to, 0 where there is none. -/
theorem xs_apply (R : FVec Ideal S8192x192 .f32) (z : FVec Ideal S_ .f32) (hz : z (Shape.Idx.first h_S_) = 0) (c : Fin 8) (n : ℕ)
    (r : Fin 1024) (k : Fin 192) :
    xs (F := Ideal) (pad S10368x192 ![1088, 0] ![1088, 0] ![0, 0] R z pads_S8192x192_S10368x192_108810880_000 h_S_) c n (ix2 r k) =
      px (img R) (0 : EReal) k (n / 9 % 3 + c.val) (n / 3 % 3 + r.val / 32) (n % 3 + r.val % 32) := by
  have hc := c.isLt
  have hr := r.isLt
  have key : Inside n r →
      rows (F := Ideal) (pad S10368x192 ![1088, 0] ![1088, 0] ![0, 0] R z pads_S8192x192_S10368x192_108810880_000 h_S_) c n (ix2 r k) =
      px (img R) (0 : EReal) k (n / 9 % 3 + c.val) (n / 3 % 3 + r.val / 32) (n % 3 + r.val % 32) := fun hi => by
    obtain ⟨i, h0, h1⟩ : ∃ i : S10368x192.Idx, (i 0).val = c.val * 1024 + off n + r.val ∧ (i 1).val = k.val :=
      ⟨ix2 (⟨c.val * 1024 + off n + r.val, by unfold off; omega⟩ : Fin 10368) k, rfl, rfl⟩
    refine (rows_apply _ c n r k i h0 h1).trans ?_
    have hp := pad_rows (α := EReal) (u := S_) R z pads_S8192x192_S10368x192_108810880_000 h_S_ c n r k hi i h0 h1
    rw [hz] at hp
    exact hp
  unfold xs
  rw [shapeCast_self]
  by_cases h4 : n % 9 = 4
  · rw [if_pos h4]
    exact key ⟨by omega, by omega⟩
  · rw [if_neg h4, ValueIdx.mulf_apply, broadcastTo_apply _ _ _ (ix2 r (0 : Fin 1)) (fun a => by
      match a with
      | ⟨0, _⟩ => rfl
      | ⟨1, _⟩ => rfl), msk_apply n h4 r]
    by_cases hi : Inside n r
    · rw [if_pos hi, mul_one, key hi]
    · rw [if_neg hi, mul_zero, px_of_not_inside _ _ _ _ _ _ hi]

/-- A tap's weights at an entry. -/
theorem wtap_apply (w : FVec Ideal S27x192x192 .f32) (n : ℕ) (k o : Fin 192) :
    shapeCast S192x192 (wtap (F := Ideal) w n) shapeCasts_S1x192x192_S192x192 (ix2 k o) =
      w (ix3 (⟨n % 27, Nat.mod_lt _ (by decide)⟩ : Fin 27) k o) := by
  rw [shapeCast_apply _ _ _ (ix3 (0 : Fin 1) k o) (by
    rw [Shape.rowMajor_val_three, Shape.rowMajor_val_two]
    show (0 * 192 + k.val) * 192 + o.val = k.val * 192 + o.val
    omega)]
  unfold wtap
  refine View.ld_unit_apply_of _ _ _ _ _ _ fun a => ?_
  match a with
  | ⟨0, _⟩ => rfl
  | ⟨1, _⟩ => show k.val = 0 + k.val; omega
  | ⟨2, _⟩ => show o.val = 0 + o.val; omega

/-! ## A chunk, and the whole convolution -/

/-- The bias row under every row of a chunk. -/
theorem bias_apply (b : FVec Ideal S1x192 .f32) (r : Fin 1024) (o : Fin 192) :
    k0_pay19 (F := Ideal) (View.ld b r0_0) (ix2 r o) = b (ix2 (0 : Fin 1) o) := by
  unfold k0_pay19
  rw [shapeCast_self, shapeCast_self, broadcastTo_apply _ _ _ (ix2 (0 : Fin 1) o) (fun a => by
      match a with
      | ⟨0, _⟩ => rfl
      | ⟨1, _⟩ => rfl)]
  refine View.ld_unit_apply_of _ _ _ _ _ _ fun a => ?_
  match a with
  | ⟨0, _⟩ => rfl
  | ⟨1, _⟩ => show o.val = 0 + o.val; omega

/-- A tap's product with its weights. -/
theorem tap_apply (x : FVec Ideal S1024x192 .f32) (w : FVec Ideal S192x192 .f32) (r : Fin 1024) (o : Fin 192) :
    matmul dot_S1024x192_S192x192_S1024x192_1_0_0_1_n_n (some .fp32) x w (constant S1024x192 .f32 0x00000000#32) (ix2 r o) =
      ∑ k : Fin 192, x (ix2 r k) * w (ix2 k o) := by
  rw [show dot_S1024x192_S192x192_S1024x192_1_0_0_1_n_n = DotDims.plain 1024 192 192 from rfl]
  refine (Ideal.matmul_plain_apply _ _ _ _ _ _).trans ?_
  rw [ValueIdx.constant_apply, Ideal.ofBits_zero_f32, zero_add]
  rfl

/-- The bias and the first `N` taps of a chunk, at an entry. -/
theorem acc_apply (x0 : FVec Ideal S10368x192 .f32) (w : FVec Ideal S27x192x192 .f32) (b : FVec Ideal S1x192 .f32) (c : Fin 8)
    (r : Fin 1024) (o : Fin 192) : ∀ N : ℕ, acc (F := Ideal) x0 w b c N (ix2 r o) = b (ix2 (0 : Fin 1) o) +
      ∑ n ∈ Finset.range N, ∑ k : Fin 192, xs (F := Ideal) x0 c n (ix2 r k) * w (ix3 (⟨n % 27, Nat.mod_lt _ (by decide)⟩ : Fin 27) k o)
  | 0 => by
    rw [Finset.sum_range_zero, add_zero]
    exact bias_apply b r o
  | N + 1 => by
    rw [Finset.sum_range_succ, ← add_assoc, ← acc_apply x0 w b c r o N]
    exact congrArg (acc (F := Ideal) x0 w b c N (ix2 r o) + ·) ((tap_apply _ _ r o).trans
      (Finset.sum_congr rfl fun k _ => congrArg (xs (F := Ideal) x0 c N (ix2 r k) * ·) (wtap_apply w N k o)))

/-- Eight chunks of 1024 rows, one under the other, at row `c * 1024 + r`: chunk `c`'s row `r`. -/
theorem chunks_apply (f : Fin 8 → FVec Ideal S1024x192 .f32) (c : Fin 8) (r : Fin 1024) (o : Fin 192) :
    View.canon (Val := Elt Ideal) (e := .f32) (s := S8192x192) [⟨r0_117, f 7⟩, ⟨r0_107, f 6⟩, ⟨r0_97, f 5⟩, ⟨r0_87, f 4⟩,
      ⟨r0_77, f 3⟩, ⟨r0_67, f 2⟩, ⟨r0_57, f 1⟩, ⟨r0_30, f 0⟩] (ix2 (⟨c.val * 1024 + r.val, by omega⟩ : Fin 8192) o) =
      f c (ix2 r o) := by
  refine View.canon_eq_of_allAt _ _ _ (View.cover_of_tiled_head _ _ _ rfl _) ?_
  have piece : ∀ d : Fin 8, View.TileAt (Val := Elt Ideal) (e := .f32) (S := S8192x192)
      (ix2 (⟨c.val * 1024 + r.val, by omega⟩ : Fin 8192) o) ![d.val * 1024, 0] S1024x192.size
      (f d) (f c (ix2 r o)) := fun d x hx => by
    have h0 : c.val * 1024 + r.val = d.val * 1024 + (x 0).val := hx 0
    have h1 : o.val = 0 + (x 1).val := hx 1
    have l0 : (x 0).val < 1024 := (x 0).isLt
    have hr := r.isLt
    obtain rfl : c = d := Fin.ext (by omega)
    refine congrArg (f c) (funext fun a => Fin.ext ?_)
    match a with
    | ⟨0, _⟩ => show (x 0).val = r.val; omega
    | ⟨1, _⟩ => show (x 1).val = o.val; omega
  exact View.allAt_cons_unit _ _ _ _ _ (piece 7) <| View.allAt_cons_unit _ _ _ _ _ (piece 6) <|
    View.allAt_cons_unit _ _ _ _ _ (piece 5) <| View.allAt_cons_unit _ _ _ _ _ (piece 4) <|
    View.allAt_cons_unit _ _ _ _ _ (piece 3) <| View.allAt_cons_unit _ _ _ _ _ (piece 2) <|
    View.allAt_cons_unit _ _ _ _ _ (piece 1) <| View.allAt_cons_unit _ _ _ _ _ (piece 0) <| View.allAt_nil _ _

/-- The convolution at row `c * 1024 + r`, output channel `o`: the bias and the 27 taps. -/
theorem conv_apply (x0 : FVec Ideal S10368x192 .f32) (w : FVec Ideal S27x192x192 .f32) (b : FVec Ideal S1x192 .f32) (c : Fin 8)
    (r : Fin 1024) (o : Fin 192) : conv (F := Ideal) x0 w b (ix2 (⟨c.val * 1024 + r.val, by omega⟩ : Fin 8192) o) =
      b (ix2 (0 : Fin 1) o) + ∑ n ∈ Finset.range 27, ∑ k : Fin 192,
        xs (F := Ideal) x0 c n (ix2 r k) * w (ix3 (⟨n % 27, Nat.mod_lt _ (by decide)⟩ : Fin 27) k o) :=
  (chunks_apply (fun c => acc (F := Ideal) x0 w b c 27) c r o).trans (acc_apply x0 w b c r o 27)

/-- The value projection's chunk at an entry: the pixel's channels against the weights. -/
theorem vch_apply (x0 : FVec Ideal S10368x192 .f32) (w : FVec Ideal S192x192 .f32) (c : Fin 8) (r : Fin 1024) (o : Fin 192) :
    vch (F := Ideal) x0 w c (ix2 r o) = ∑ k : Fin 192, xs (F := Ideal) x0 c 13 (ix2 r k) * w (ix2 k o) := by
  refine (tap_apply _ _ r o).trans (Finset.sum_congr rfl fun k _ => ?_)
  refine congrArg (xs (F := Ideal) x0 c 13 (ix2 r k) * ·) ?_
  rw [shapeCast_self]
  refine View.ld_unit_apply_of _ _ _ _ _ _ fun a => ?_
  match a with
  | ⟨0, _⟩ => show k.val = 0 + k.val; omega
  | ⟨1, _⟩ => show o.val = 0 + o.val; omega

end Cert.QkvIdeal.Read

end
-- ==== Proof.QkvRefRead.lean ====
module

public import proofs.«01_k».proof.Proof.Gen.QkvRefIdeal.Read
public import proofs.«01_k».proof.Proof.Windows
public import Idealize.ShloMosaic.Lib.StackMember
public import Idealize.ShloMosaic.Lib.IdealHost

@[expose] public section

set_option maxRecDepth 65536

noncomputable section

namespace Cert.QkvRefIdeal.At

open Cert.Windows Cert.QkvRefIdeal Cert.QkvRefIdeal.Gen Cert.QkvRefIdeal.Read Idealize.ShloMosaic Idealize.ShloMosaic.TcCoe

/-- The image that the flattened argument holds. -/
abbrev image (x : FVec Ideal S1x192x8x32x32 .f32) : SI.Idx → EReal := val_main_v1 (F := Ideal) x

/-- The reference's stack of 27 shifted images is the one of `windows`. -/
theorem v59_eq (x : FVec Ideal S1x192x8x32x32 .f32) :
    val_main_v59 (F := Ideal) x = windows (val_main_v2 (F := Ideal) x) concatenates_S192x1x8x32x32_S192x1x8x32x32_S192x1x8x32x32_S192x1x8x32x32_S192x1x8x32x32_S192x1x8x32x32_S192x1x8x32x32_S192x1x8x32x32_S192x1x8x32x32_S192x1x8x32x32_S192x1x8x32x32_S192x1x8x32x32_S192x1x8x32x32_S192x1x8x32x32_S192x1x8x32x32_S192x1x8x32x32_S192x16x8x32x32_d1
      concatenates_S192x1x8x32x32_S192x1x8x32x32_S192x1x8x32x32_S192x1x8x32x32_S192x1x8x32x32_S192x1x8x32x32_S192x1x8x32x32_S192x1x8x32x32_S192x1x8x32x32_S192x1x8x32x32_S192x1x8x32x32_S192x11x8x32x32_d1
      concatenates_S192x16x8x32x32_S192x11x8x32x32_S192x27x8x32x32_d1 := rfl

/-- The stack at an index: the pixel that the tap moves to, 0 where there is none. -/
theorem v59_apply (x : FVec Ideal S1x192x8x32x32 .f32) (k : Fin 192) (n : Fin 27) (t : Fin 8) (h w : Fin 32) :
    val_main_v59 (F := Ideal) x (ix5 k n t h w) =
      px (image x) (0 : EReal) k (n.val / 9 % 3 + t.val) (n.val / 3 % 3 + h.val) (n.val % 3 + w.val) := by
  rw [v59_eq]
  refine (windows_apply (α := EReal) _ _ _ _ k n t h w).trans ?_
  refine (pad_image (α := EReal) (val_main_v1 (F := Ideal) x) (val_main_call0_v0 (F := Ideal)) _ _ _ _ _ _).trans ?_
  congr 1
  show (((0#32 : BitVec 32).toInt : ℝ) : EReal) = 0
  norm_num

/-- The pixel row `c * 1024 + r` is frame `c`, line `r / 32`, column `r % 32`. -/
abbrev pix {α : Type} (y : SI.Idx → α) (o : Fin 192) (c : Fin 8) (r : Fin 1024) : α :=
  y (ix4 o c (⟨r.val / 32, by omega⟩ : Fin 32) (⟨r.val % 32, by omega⟩ : Fin 32))

/-- An image flattened to channels by pixels. -/
theorem flat_apply {α : Type} (y : SI.Idx → α) (h : SI.ShapeCasts S192x8192) (o : Fin 192) (c : Fin 8) (r : Fin 1024) :
    shapeCast S192x8192 y h (ix2 o (⟨c.val * 1024 + r.val, by omega⟩ : Fin 8192)) = pix y o c r := by
  refine shapeCast_apply _ _ _ _ ?_
  rw [Shape.rowMajor_val_four, Shape.rowMajor_val_two]
  show ((o.val * 8 + c.val) * 32 + r.val / 32) * 32 + r.val % 32 = o.val * 8192 + (c.val * 1024 + r.val)
  omega

/-- Channels by pixels unflattened to an image. -/
theorem unflat_apply {α : Type} (y : S192x8192.Idx → α) (h : S192x8192.ShapeCasts SI) (o : Fin 192) (c : Fin 8) (r : Fin 1024) :
    pix (shapeCast SI y h) o c r = y (ix2 o (⟨c.val * 1024 + r.val, by omega⟩ : Fin 8192)) := by
  refine shapeCast_apply _ _ _ _ ?_
  rw [Shape.rowMajor_val_four, Shape.rowMajor_val_two]
  show o.val * 8192 + (c.val * 1024 + r.val) = ((o.val * 8 + c.val) * 32 + r.val / 32) * 32 + r.val % 32
  omega

/-- Transposed: pixels by channels. -/
theorem rows_apply {α : Type} (y : S192x8192.Idx → α) (h : S192x8192.Transposes [1, 0] S8192x192) (o : Fin 192) (s : Fin 8192) :
    transpose S8192x192 [1, 0] y h (ix2 s o) = y (ix2 o s) := by
  refine transpose_apply _ _ _ _ _ fun b => ?_
  match b with
  | ⟨0, _⟩ => rfl
  | ⟨1, _⟩ => rfl

variable (x0 : FVec Ideal S1x192x8x32x32 .f32) (x1 : FVec Ideal S192x192x3x3x3 .f32) (x2 x3 x4 x5 : FVec Ideal S192 .f32)

/-- The weight of channel `k` at tap `n`. -/
abbrev wt (w : FVec Ideal S192x192x3x3x3 .f32) (o k : Fin 192) (n : Fin 27) : EReal :=
  w (ix5 o k (⟨n.val / 9, by omega⟩ : Fin 3) (⟨n.val / 3 % 3, by omega⟩ : Fin 3) (⟨n.val % 3, by omega⟩ : Fin 3))

/-- The convolution is the sum over the channels and the taps. -/
theorem v61_apply (o : Fin 192) (c : Fin 8) (r : Fin 1024) :
    val_main_v61 (F := Ideal) x0 x1 (ix2 o (⟨c.val * 1024 + r.val, by omega⟩ : Fin 8192)) =
      ∑ k : Fin 192, ∑ n : Fin 27, wt x1 o k n *
        px (image x0) (0 : EReal) k (n.val / 9 % 3 + c.val) (n.val / 3 % 3 + r.val / 32) (n.val % 3 + r.val % 32) := by
  unfold val_main_v61
  rw [show dot_S192x5184_S5184x8192_S192x8192_1_0_0_1_n_n = DotDims.plain 192 5184 8192 from rfl]
  refine (StackMember.dotGeneral_plain_apply none _ _ _ _).trans ?_
  rw [← (finProdFinEquiv (m := 192) (n := 27)).sum_comp, Fintype.sum_prod_type]
  refine Finset.sum_congr rfl fun k _ => Finset.sum_congr rfl fun n _ => ?_
  have e : (finProdFinEquiv (m := 192) (n := 27) (k, n)).val = n.val + 27 * k.val := rfl
  generalize finProdFinEquiv (m := 192) (n := 27) (k, n) = j at e ⊢
  refine congrArg₂ (· * ·) ?_ ?_
  · unfold val_main_v0
    refine shapeCast_apply _ _ _ _ ?_
    rw [Shape.rowMajor_val_five, Shape.rowMajor_val_two]
    show (((o.val * 192 + k.val) * 3 + n.val / 9) * 3 + n.val / 3 % 3) * 3 + n.val % 3 = o.val * 5184 + j.val
    omega
  · unfold val_main_v60
    rw [shapeCast_apply _ _ _ (ix5 k n c (⟨r.val / 32, by omega⟩ : Fin 32) (⟨r.val % 32, by omega⟩ : Fin 32)) (by
      rw [Shape.rowMajor_val_five, Shape.rowMajor_val_two]
      show (((k.val * 27 + n.val) * 8 + c.val) * 32 + r.val / 32) * 32 + r.val % 32 = j.val * 8192 + (c.val * 1024 + r.val)
      omega)]
    exact v59_apply x0 k n c _ _

/-- The difference term is the sum over the channels. -/
theorem v72_apply (o : Fin 192) (c : Fin 8) (r : Fin 1024) :
    val_main_v72 (F := Ideal) x0 x1 (ix2 o (⟨c.val * 1024 + r.val, by omega⟩ : Fin 8192)) =
      ∑ k : Fin 192, val_main_v69 (F := Ideal) x1 (ix2 o k) * pix (image x0) k c r := by
  unfold val_main_v72
  rw [show dot_S192x192_S192x8192_S192x8192_1_0_0_1_n_n = DotDims.plain 192 192 8192 from rfl]
  refine (StackMember.dotGeneral_plain_apply none _ _ _ _).trans ?_
  exact Finset.sum_congr rfl fun k _ => congrArg (val_main_v69 (F := Ideal) x1 (ix2 o k) * ·) (flat_apply _ _ k c r)

/-- A number per channel, spread over the image. -/
theorem spread_apply (y : FVec Ideal S192 .f32) (o : Fin 192) (t : Fin 8) (h w : Fin 32) :
    broadcastInDim S192x8x32x32 ![0, 1, 2, 3] bcast_S192x1x1x1_S192x8x32x32_0_1_2_3
      (broadcastInDim S192x1x1x1 ![0] bcast_S192_S192x1x1x1_0 y) (ix4 o t h w) = y (ix1 o) := by
  rw [broadcastInDim_apply _ _ _ _ (ix4 o (0 : Fin 1) (0 : Fin 1) (0 : Fin 1)) (fun a => by
      match a with
      | ⟨0, _⟩ => rfl
      | ⟨1, _⟩ => rfl
      | ⟨2, _⟩ => rfl
      | ⟨3, _⟩ => rfl),
    broadcastInDim_apply _ _ _ _ (ix1 o) (fun a => by
      match a with
      | ⟨0, _⟩ => rfl)]

/-- The first result at a pixel row and a channel. -/
theorem q_apply (o : Fin 192) (c : Fin 8) (r : Fin 1024) :
    val_main_v184 (F := Ideal) x0 x1 x2 x3 x4 x5 (ix2 (⟨c.val * 1024 + r.val, by omega⟩ : Fin 8192) o) =
      ((∑ k : Fin 192, ∑ n : Fin 27, wt x1 o k n *
          px (image x0) (0 : EReal) k (n.val / 9 % 3 + c.val) (n.val / 3 % 3 + r.val / 32) (n.val % 3 + r.val % 32)) -
        Ideal.ofBits .f32 0x3E4CCCCD#32 * ∑ k : Fin 192, val_main_v69 (F := Ideal) x1 (ix2 o k) * pix (image x0) k c r) *
        val_main_v80 (F := Ideal) x2 x5 (ix1 o) +
      val_main_v85 (F := Ideal) x2 x3 x4 x5 (ix1 o) := by
  unfold val_main_v184
  rw [rows_apply]
  refine (flat_apply (val_main_v88 (F := Ideal) x0 x1 x2 x3 x4 x5) _ o c r).trans ?_
  rw [← v61_apply, ← v72_apply]
  refine congrArg₂ (· + ·) (congrArg₂ (· * ·) ?_ (spread_apply _ _ _ _ _)) (spread_apply _ _ _ _ _)
  exact congrArg₂ (· - ·) (unflat_apply _ _ o c r) (congrArg (Ideal.ofBits .f32 0x3E4CCCCD#32 * ·) (unflat_apply _ _ o c r))

/-- The second result is the first one of the other arguments. -/
theorem k_eq : val_main_v186 (F := Ideal) x0 x1 x2 x3 x4 x5 = val_main_v184 (F := Ideal) x0 x1 x2 x3 x4 x5 := rfl

end Cert.QkvRefIdeal.At

end
-- ==== Proof.QkvWeights.lean ====
module

public import proofs.«01_k».proof.Proof.QkvPrep
public import Idealize.ShloMosaic.Lib.Pipeline.ValueKit
public import Idealize.ShloMosaic.Lib.Routing.OpsPair
public import Idealize.ShloMosaic.Lib.ValueIdx

@[expose] public section

set_option maxRecDepth 65536

noncomputable section

namespace Cert.QkvIdeal.Weights

open Cert.QkvIdeal Cert.QkvIdeal.Gen Cert.QkvIdeal.Prep Idealize.ShloMosaic Idealize.ShloMosaic.TcCoe

/-! ## A fold in which one element counts -/

/-- A fold that skips every element of the list leaves what it starts from. -/
theorem foldl_none {α β : Type} (g : α → β → α) (p : β → Prop) [DecidablePred p] : ∀ (L : List β) (a : α), (∀ x ∈ L, ¬p x) →
    L.foldl (fun a x => if p x then g a x else a) a = a
  | [], _, _ => rfl
  | x :: L, a, h => by
    rw [List.foldl_cons, if_neg (h x List.mem_cons_self)]
    exact foldl_none g p L a fun y hy => h y (List.mem_cons_of_mem _ hy)

/-- A fold that skips all but one element of the list takes that one step. -/
theorem foldl_one {α β : Type} (g : α → β → α) (p : β → Prop) [DecidablePred p] (b : β) (hb : ∀ x, p x ↔ x = b) :
    ∀ (L : List β) (a : α), L.Nodup → b ∈ L → L.foldl (fun a x => if p x then g a x else a) a = g a b
  | [], _, _, h => absurd h List.not_mem_nil
  | x :: L, a, hn, h => by
    rw [List.foldl_cons]
    rw [List.nodup_cons] at hn
    by_cases hx : x = b
    · subst hx
      rw [if_pos ((hb x).2 rfl)]
      exact foldl_none g p L _ fun y hy hp => hn.1 ((hb y).1 hp ▸ hy)
    · rw [if_neg fun hp => hx ((hb x).1 hp)]
      refine foldl_one g p b hb L a hn.2 ?_
      rcases List.mem_cons.1 h with h | h
      · exact absurd h.symm hx
      · exact h

/-! ## The difference term lands at the central tap -/

/-- The index words are all 1. -/
theorem centre_apply : ∀ i : S3.Idx, centre i = 1#32 := by
  intro i
  obtain ⟨j, rfl⟩ : ∃ j : Fin 3, i = ix1 j := ⟨i 0, funext fun a => by match a with | ⟨0, _⟩ => rfl⟩
  match j with
  | ⟨0, _⟩ => rfl
  | ⟨1, _⟩ => rfl
  | ⟨2, _⟩ => rfl

/-- The dimension numbers of the addition at the central tap. -/
abbrev sc : ScatterDims S192x192x3x3x3 S3 S192x192 := scatter_S192x192x3x3x3_S3_S192x192_01_234_234_0

/-- The difference term starts at tap 1 along each of the three last axes. -/
theorem start_val (k : S192x192.Idx) (a : Fin 5) : sc.start k centre a = if a.val < 2 then 0 else 1 := by
  match a with
  | ⟨0, _⟩ => rfl
  | ⟨1, _⟩ => rfl
  | ⟨2, _⟩ =>
    refine (dif_pos (show (⟨2, by decide⟩ : Fin S192x192x3x3x3.rank) ∈ sc.scatterDimsToOperandDims by decide)).trans ?_
    exact congrArg BitVec.toInt (centre_apply _)
  | ⟨3, _⟩ =>
    refine (dif_pos (show (⟨3, by decide⟩ : Fin S192x192x3x3x3.rank) ∈ sc.scatterDimsToOperandDims by decide)).trans ?_
    exact congrArg BitVec.toInt (centre_apply _)
  | ⟨4, _⟩ =>
    refine (dif_pos (show (⟨4, by decide⟩ : Fin S192x192x3x3x3.rank) ∈ sc.scatterDimsToOperandDims by decide)).trans ?_
    exact congrArg BitVec.toInt (centre_apply _)

/-- Within its window the difference term moves along the two channel axes. -/
theorem window_val (k : S192x192.Idx) (a : Fin 5) :
    sc.window k a = if a.val = 0 then (k 0).val else if a.val = 1 then (k 1).val else 0 := by
  match a with
  | ⟨0, _⟩ => rfl
  | ⟨1, _⟩ => rfl
  | ⟨2, _⟩ => rfl
  | ⟨3, _⟩ => rfl
  | ⟨4, _⟩ => rfl

/-- The update `(p, q)` lands at `(o, k, a, b, e)` exactly when `p = o`, `q = k` and `(a, b, e)` is the central tap. -/
theorem lands (u : S192x192.Idx) (o k : Fin 192) (a b e : Fin 3) :
    sc.resultIdx? u centre = some (ix5 o k a b e) ↔ u = ix2 o k ∧ (a.val = 1 ∧ b.val = 1 ∧ e.val = 1) := by
  rw [Routing.resultIdx?_eq_some]
  constructor
  · intro h
    have h0 := h 0
    have h1 := h 1
    have h2 := h 2
    have h3 := h 3
    have h4 := h 4
    rw [start_val, window_val] at h0 h1 h2 h3 h4
    replace h0 : (0 : Int) + ((u 0).val : Int) = (o.val : Int) := h0
    replace h1 : (0 : Int) + ((u 1).val : Int) = (k.val : Int) := h1
    replace h2 : (1 : Int) + ((0 : ℕ) : Int) = (a.val : Int) := h2
    replace h3 : (1 : Int) + ((0 : ℕ) : Int) = (b.val : Int) := h3
    replace h4 : (1 : Int) + ((0 : ℕ) : Int) = (e.val : Int) := h4
    refine ⟨funext fun x => Fin.ext ?_, by omega, by omega, by omega⟩
    match x with
    | ⟨0, _⟩ => show (u 0).val = o.val; omega
    | ⟨1, _⟩ => show (u 1).val = k.val; omega
  · rintro ⟨rfl, ha, hb, he⟩ x
    rw [start_val, window_val]
    match x with
    | ⟨0, _⟩ => show (0 : Int) + (o.val : Int) = (o.val : Int); omega
    | ⟨1, _⟩ => show (0 : Int) + (k.val : Int) = (k.val : Int); omega
    | ⟨2, _⟩ => show (1 : Int) + ((0 : ℕ) : Int) = (a.val : Int); omega
    | ⟨3, _⟩ => show (1 : Int) + ((0 : ℕ) : Int) = (b.val : Int); omega
    | ⟨4, _⟩ => show (1 : Int) + ((0 : ℕ) : Int) = (e.val : Int); omega

/-- The weights with the difference term: it is added at the central tap and nowhere else. -/
theorem wdiff_apply (w : FVec Ideal S192x192x3x3x3 .f32) (o k : Fin 192) (a b e : Fin 3) :
    wdiff w (ix5 o k a b e) = if a.val = 1 ∧ b.val = 1 ∧ e.val = 1
      then w (ix5 o k a b e) + Ideal.ofBits .f32 0xBE4CCCCD#32 * kdiff w (ix2 o k) else w (ix5 o k a b e) := by
  unfold wdiff
  rw [Routing.scatter_at]
  simp only [lands]
  by_cases h : a.val = 1 ∧ b.val = 1 ∧ e.val = 1
  · rw [if_pos h]
    refine (foldl_one _ _ (S192x192.rowMajor (ix2 o k)) (fun n => ?_) _ _ (List.nodup_finRange _) (List.mem_finRange _)).trans ?_
    · rw [and_iff_left h, Equiv.symm_apply_eq]
    · rw [Equiv.symm_apply_apply]
      rfl
  · rw [if_neg h]
    exact foldl_none _ _ _ _ fun n _ hn => h hn.2

/-- A tap's weights as the kernel reads them. -/
theorem wtaps_apply (w : FVec Ideal S192x192x3x3x3 .f32) (g v : FVec Ideal S192 .f32) (n : Fin 27) (k o : Fin 192) :
    wtaps w g v (ix3 n k o) =
      wdiff w (ix5 o k (⟨n.val / 9, by omega⟩ : Fin 3) (⟨n.val / 3 % 3, by omega⟩ : Fin 3) (⟨n.val % 3, by omega⟩ : Fin 3)) *
        inv g v (ix1 o) := by
  unfold wtaps
  rw [shapeCast_apply _ _ _ (ix5 (⟨n.val / 9, by omega⟩ : Fin 3) (⟨n.val / 3 % 3, by omega⟩ : Fin 3) (⟨n.val % 3, by omega⟩ : Fin 3) k o) (by
      rw [Shape.rowMajor_val_five, Shape.rowMajor_val_three]
      show (((n.val / 9 * 3 + n.val / 3 % 3) * 3 + n.val % 3) * 192 + k.val) * 192 + o.val = (n.val * 192 + k.val) * 192 + o.val
      omega),
    transpose_apply _ _ _ _ (ix5 o k (⟨n.val / 9, by omega⟩ : Fin 3) (⟨n.val / 3 % 3, by omega⟩ : Fin 3) (⟨n.val % 3, by omega⟩ : Fin 3)) (fun b => by
      match b with
      | ⟨0, _⟩ => rfl
      | ⟨1, _⟩ => rfl
      | ⟨2, _⟩ => rfl
      | ⟨3, _⟩ => rfl
      | ⟨4, _⟩ => rfl), ValueIdx.mulf_apply]
  refine congrArg (wdiff w _ * ·) ?_
  rw [broadcastInDim_apply _ _ _ _ (ix5 o (0 : Fin 1) (0 : Fin 1) (0 : Fin 1) (0 : Fin 1)) (fun a => by
      match a with
      | ⟨0, _⟩ => rfl
      | ⟨1, _⟩ => rfl
      | ⟨2, _⟩ => rfl
      | ⟨3, _⟩ => rfl
      | ⟨4, _⟩ => rfl),
    broadcastInDim_apply _ _ _ _ (ix1 o) (fun a => by
      match a with
      | ⟨0, _⟩ => rfl)]

/-- The shift as the kernel reads it. -/
theorem shift_apply (g b m v : FVec Ideal S192 .f32) (o : Fin 192) :
    shift g b m v (ix2 (0 : Fin 1) o) = subf b (mulf m (inv g v)) (ix1 o) := by
  refine shapeCast_apply _ _ _ _ ?_
  rw [Shape.rowMajor_val_two, Shape.rowMajor_val_one]
  show o.val = 0 * 192 + o.val
  omega

/-- The value projection's weights as the kernel reads them. -/
theorem wval_apply (w : FVec Ideal S192x192x1x1x1 .f32) (k o : Fin 192) :
    wval w (ix2 k o) = w (ix5 o k (0 : Fin 1) (0 : Fin 1) (0 : Fin 1)) := by
  unfold wval
  rw [transpose_apply _ _ _ _ (ix2 o k) (fun b => by
      match b with
      | ⟨0, _⟩ => rfl
      | ⟨1, _⟩ => rfl)]
  refine shapeCast_apply _ _ _ _ ?_
  rw [Shape.rowMajor_val_two, Shape.rowMajor_val_five]
  show (((o.val * 192 + k.val) * 1 + 0) * 1 + 0) * 1 + 0 = o.val * 192 + k.val
  omega

end Cert.QkvIdeal.Weights

end
-- ==== Proof.Finite.lean ====
module

public import proofs.«01_k».proof.Proof.Gen.QkvIdeal.Skeleton
public import proofs.«01_k».proof.Pre_finite
public import Idealize.ShloMosaic.Lib.ReduceAll
public import Idealize.ShloMosaic.Lib.IdealHost
public import Idealize.ShloMosaic.Lib.ValueIdx

@[expose] public section

set_option maxRecDepth 65536

noncomputable section

namespace Cert.Finite

open Idealize.ShloMosaic

/-- A number that is real: neither of the infinities. -/
def Re (x : EReal) : Prop := ∃ r : ℝ, x = (r : EReal)

/-- A product of real numbers is real. -/
theorem Re.mul {x y : EReal} (hx : Re x) (hy : Re y) : Re (x * y) := by
  obtain ⟨a, rfl⟩ := hx
  obtain ⟨b, rfl⟩ := hy
  exact ⟨a * b, (EReal.coe_mul a b).symm⟩

/-- A sum of real numbers is real. -/
theorem Re.add {x y : EReal} (hx : Re x) (hy : Re y) : Re (x + y) := by
  obtain ⟨a, rfl⟩ := hx
  obtain ⟨b, rfl⟩ := hy
  exact ⟨a + b, (EReal.coe_add a b).symm⟩

/-- Zero is real. -/
theorem Re.zero : Re 0 := ⟨0, EReal.coe_zero.symm⟩

/-- A sum of real numbers is real. -/
theorem Re.sum {ι : Type} (s : Finset ι) (f : ι → EReal) (h : ∀ i ∈ s, Re (f i)) : Re (∑ i ∈ s, f i) := by
  induction s using Finset.cons_induction with
  | empty => exact Re.zero
  | cons a s ha ih =>
    rw [Finset.sum_cons]
    exact (h a (Finset.mem_cons_self a s)).add (ih fun i hi => h i (Finset.mem_cons_of_mem hi))

/-- The sum of real numbers among the extended ones is their sum among the reals. -/
theorem coe_sum {ι : Type} (s : Finset ι) (f : ι → ℝ) : ((∑ i ∈ s, f i : ℝ) : EReal) = ∑ i ∈ s, (f i : EReal) := by
  induction s using Finset.cons_induction with
  | empty => exact EReal.coe_zero
  | cons a s ha ih => rw [Finset.sum_cons, Finset.sum_cons, EReal.coe_add, ih]

/-- The inverse of a number, finite or not, is real. -/
theorem Re.inv (y : EReal) : Re y⁻¹ := by
  induction y using EReal.rec with
  | bot => exact ⟨0, by rw [EReal.inv_bot, EReal.coe_zero]⟩
  | top => exact ⟨0, by rw [EReal.inv_top, EReal.coe_zero]⟩
  | coe r => exact ⟨r⁻¹, (EReal.coe_inv r).symm⟩

/-- A real number divided by the square root of a number other than 0 is real. -/
theorem Re.div_sqrt {x y : EReal} (hx : Re x) (hy : y ≠ 0) : Re (Ideal.div x (Ideal.sqrt y)) := by
  have h : Ideal.sqrt y ≠ 0 := by
    induction y using EReal.rec with
    | bot => exact EReal.bot_ne_zero
    | top => exact EReal.top_ne_zero
    | coe r =>
      show (if r < 0 then (⊥ : EReal) else ((Real.sqrt r : ℝ) : EReal)) ≠ 0
      by_cases hr : r < 0
      · rw [if_pos hr]; exact EReal.bot_ne_zero
      · rw [if_neg hr]
        have h0 : r ≠ 0 := fun e => hy (by rw [e, EReal.coe_zero])
        have hp : 0 < r := lt_of_le_of_ne (not_lt.1 hr) (Ne.symm h0)
        exact fun e => (Real.sqrt_pos.2 hp).ne' (EReal.coe_eq_zero.1 e)
  unfold Ideal.div
  rw [if_neg h]
  exact hx.mul (Re.inv _)

/-- A number whose absolute value compares less than the infinity is real. -/
theorem re_of_abs (x : EReal) (h : Ideal.cmp .olt (max x (-x)) (Ideal.ofBits .f32 0x7F800000#32) = 1#1) : Re x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- A comparison "not equal to zero" that holds. -/
theorem ne_of_une (x : EReal) (h : Ideal.cmp .une x (Ideal.ofBits .f32 0x00000000#32) = 1#1) : x ≠ 0 := by
  rw [Ideal.ofBits_zero_f32] at h
  rintro rfl
  simp [Ideal.cmp] at h

/-- A conjunction of two bits that is 1. -/
theorem and_one {x y : BitVec 1} (h : IntOp.andi x y = 1#1) : x = 1#1 ∧ y = 1#1 := by
  revert x y
  decide

/-- Every entry of an array is real. -/
def AllRe {s : Shape} (x : s.Idx → EReal) : Prop := ∀ i, Re (x i)

/-- An array without axes has one index. -/
instance : Subsingleton (⟨0, ![]⟩ : Shape).Idx := ⟨fun a b => funext fun i => i.elim0⟩

/-- "Every absolute value is less than the infinity", as printed: every entry is real. -/
theorem allRe_of {s u : Shape} {axes : List (Fin s.rank)} (x : FVec Ideal s .f32) (b : FVec Ideal s .f32)
    (hb : ∀ i, b i = Ideal.ofBits .f32 0x7F800000#32) (init : u.Idx → BitVec 1) (h : s.ReducesTo axes (⟨0, ![]⟩ : Shape))
    (hu : 0 < u.numel) (j : (⟨0, ![]⟩ : Shape).Idx) (e : Host.reduce IntOp.andi (cmpf .olt (Host.absf x) b) init h hu j = 1#1) : AllRe x := by
  intro i
  have h1 := Host.reduce_andi_all _ _ _ _ j e i
  refine re_of_abs _ ?_
  rw [← hb i]
  exact h1

/-- "Every entry differs from zero", as printed. -/
theorem allNe_of {s u : Shape} {axes : List (Fin s.rank)} (x : FVec Ideal s .f32) (b : FVec Ideal s .f32)
    (hb : ∀ i, b i = Ideal.ofBits .f32 0x00000000#32) (init : u.Idx → BitVec 1) (h : s.ReducesTo axes (⟨0, ![]⟩ : Shape))
    (hu : 0 < u.numel) (j : (⟨0, ![]⟩ : Shape).Idx) (e : Host.reduce IntOp.andi (cmpf .une x b) init h hu j = 1#1) (i : s.Idx) : x i ≠ (0 : EReal) := by
  have h1 := Host.reduce_andi_all _ _ _ _ j e i
  refine ne_of_une _ ?_
  rw [← hb i]
  exact h1

/-! ## What the first precondition says -/

section

variable [hF : Cert.Pre_finite.Facts]
open Cert.Pre_finite Cert.Pre_finite.Facts

/-- The added constant of the variances. -/
def eps : FVec Ideal S192 .f32 := broadcastInDim S192 ![] bcast_S_S192 (constant S_ .f32 0x3727C5AC#32)

/-- The first precondition: the image, both convolutions' weights and their scales are real, and no variance plus the
constant is 0. -/
theorem finite_of (x0 : FVec Ideal S1x192x8x32x32 .f32) (x1 x6 : FVec Ideal S192x192x3x3x3 .f32)
    (x2 x3 x4 x5 x7 x8 x9 x10 : FVec Ideal S192 .f32) (x11 : FVec Ideal S192x192x1x1x1 .f32)
    (h : fn (F := Ideal) x0 x1 x2 x3 x4 x5 x6 x7 x8 x9 x10 x11 = fun _ => 1#1) :
    AllRe x0 ∧ AllRe x1 ∧ AllRe x2 ∧ (∀ i, addf x5 eps i ≠ (0 : EReal)) ∧ AllRe x6 ∧ AllRe x7 ∧ ∀ i, addf x10 eps i ≠ (0 : EReal) := by
  have e := congrFun h (fun a => a.elim0)
  unfold fn fn_part1 fn_part2 at e
  obtain ⟨e, h7⟩ := and_one e
  obtain ⟨e, h6⟩ := and_one e
  obtain ⟨e, h5⟩ := and_one e
  obtain ⟨e, h4⟩ := and_one e
  obtain ⟨e, h3⟩ := and_one e
  obtain ⟨h1, h2⟩ := and_one e
  exact ⟨allRe_of _ _ (fun _ => rfl) _ _ _ _ h1, allRe_of _ _ (fun _ => rfl) _ _ _ _ h2, allRe_of _ _ (fun _ => rfl) _ _ _ _ h3,
    allNe_of _ _ (fun _ => rfl) _ _ _ _ h4, allRe_of _ _ (fun _ => rfl) _ _ _ _ h5, allRe_of _ _ (fun _ => rfl) _ _ _ _ h6,
    allNe_of _ _ (fun _ => rfl) _ _ _ _ h7⟩

end

/-! ## The algebra of the central difference -/

/-- The convolution with the difference term inside the central tap's weights, scaled and shifted, is the convolution minus the
difference term, scaled and shifted. -/
theorem central (X : Fin 27 → Fin 192 → EReal) (W : Fin 192 → Fin 27 → EReal) (K : Fin 192 → EReal) (c d i : EReal) (β : EReal)
    (hX : ∀ n k, Re (X n k)) (hW : ∀ k n, Re (W k n)) (hK : ∀ k, Re (K k)) (hc : Re c) (hd : d = -c) (hi : Re i) :
    (β + ∑ n : Fin 27, ∑ k : Fin 192, X n k * ((if n.val = 13 then W k n + d * K k else W k n) * i)) =
      ((∑ k : Fin 192, ∑ n : Fin 27, W k n * X n k) - c * ∑ k : Fin 192, K k * X (13 : Fin 27) k) * i + β := by
  choose x hx using hX
  choose w hw using hW
  choose κ hκ using hK
  obtain ⟨c, rfl⟩ := hc
  obtain ⟨i, rfl⟩ := hi
  subst hd
  have e : ∀ (n : Fin 27) (k : Fin 192), (X n k * ((if n.val = 13 then W k n + -(c : EReal) * K k else W k n) * (i : EReal))) =
      ((x n k * (w k n * i) + (if n = (13 : Fin 27) then x n k * (-c * κ k * i) else 0) : ℝ) : EReal) := fun n k => by
    rw [hx, hw, hκ]
    by_cases h : n.val = 13
    · rw [if_pos h, if_pos (Fin.ext h)]
      norm_cast
      ring
    · rw [if_neg h, if_neg fun h' => h (congrArg Fin.val h')]
      norm_cast
      ring
  have e2 : ∀ (k : Fin 192) (n : Fin 27), W k n * X n k = ((w k n * x n k : ℝ) : EReal) := fun k n => by rw [hw, hx]; norm_cast
  have e3 : ∀ k : Fin 192, K k * X (13 : Fin 27) k = ((κ k * x 13 k : ℝ) : EReal) := fun k => by rw [hκ, hx]; norm_cast
  simp only [e, e2, e3]
  rw [add_comm]
  refine congrArg (· + β) ?_
  simp only [← coe_sum, ← EReal.coe_mul, ← EReal.coe_sub]
  refine congrArg _ ?_
  have s1 : ∑ n : Fin 27, ∑ k : Fin 192, (x n k * (w k n * i) + if n = (13 : Fin 27) then x n k * (-c * κ k * i) else 0) =
      (∑ n : Fin 27, ∑ k : Fin 192, x n k * (w k n * i)) + ∑ k : Fin 192, x 13 k * (-c * κ k * i) := by
    simp only [Finset.sum_add_distrib]
    refine congrArg (_ + ·) ?_
    rw [Finset.sum_comm]
    refine Finset.sum_congr rfl fun k _ => ?_
    exact (Finset.sum_ite_eq' Finset.univ (13 : Fin 27) fun n => x n k * (-c * κ k * i)).trans (if_pos (Finset.mem_univ _))
  rw [s1, Finset.sum_comm, sub_mul, Finset.sum_mul, Finset.mul_sum, Finset.sum_mul, sub_eq_add_neg, ← Finset.sum_neg_distrib]
  refine congrArg₂ (· + ·) (Finset.sum_congr rfl fun k _ => ?_) (Finset.sum_congr rfl fun k _ => by ring)
  rw [Finset.sum_mul]
  exact Finset.sum_congr rfl fun n _ => by ring

/-- A normal f32 word's number, from its three fields. -/
theorem ofBits_normal (b : BitVec 32) (neg : Bool) (ex fr : ℕ) (h1 : (b.extractLsb' 31 1 == 1#1) = neg)
    (h2 : (b.extractLsb' 23 8).toNat = ex) (h3 : (b.extractLsb' 0 23).toNat = fr) (he : ex ≠ 255) (h0 : ex ≠ 0) :
    Ideal.ofBits .f32 b = (((if neg then -1 else 1) * ((2 ^ 23 + fr : ℕ) : ℝ) * (2 : ℝ) ^ ((ex : Int) - (2 ^ (8 - 1) - 1) - (23 : ℕ)) : ℝ) : EReal) := by
  subst h1 h2 h3
  show Ideal.ieee 8 23 b = _
  unfold Ideal.ieee
  exact (if_neg he).trans (if_neg h0)

/-- The two printed constants are opposite. -/
theorem theta_neg : Ideal.ofBits .f32 0xBE4CCCCD#32 = -Ideal.ofBits .f32 0x3E4CCCCD#32 := by
  rw [ofBits_normal 0xBE4CCCCD#32 true 124 5033165 (by decide) (by decide) (by decide) (by decide) (by decide),
    ofBits_normal 0x3E4CCCCD#32 false 124 5033165 (by decide) (by decide) (by decide) (by decide) (by decide), ← EReal.coe_neg]
  refine congrArg _ ?_
  rw [if_pos rfl, if_neg (by decide)]
  ring

/-- The printed constant is real. -/
theorem theta_re : Re (Ideal.ofBits .f32 0x3E4CCCCD#32) :=
  ⟨_, ofBits_normal 0x3E4CCCCD#32 false 124 5033165 (by decide) (by decide) (by decide) (by decide) (by decide)⟩

end Cert.Finite

end
-- ==== Proof.QkvValue.lean ====
module

public import proofs.«01_k».proof.Proof.QkvRead
public import proofs.«01_k».proof.Proof.QkvRefRead
public import proofs.«01_k».proof.Proof.QkvWeights
public import proofs.«01_k».proof.Proof.Finite

@[expose] public section

set_option maxRecDepth 65536

noncomputable section

namespace Cert.QkvIdeal.Value

open Cert.Windows Cert.Finite Cert.QkvIdeal Cert.QkvIdeal.Gen Cert.QkvIdeal.Chunk Cert.QkvIdeal.Prep Idealize.ShloMosaic Idealize.ShloMosaic.TcCoe

variable [Cert.Pre_finite.Facts]

/-- The kernel's rows of pixels hold the reference's image. -/
theorem img_rows (x : FVec Ideal S1x192x8x32x32 .f32) :
    img (transpose S8192x192 [1, 0]
      (shapeCast S192x8192 (shapeCast S192x8x32x32 x shapeCasts_S1x192x8x32x32_S192x8x32x32) shapeCasts_S192x8x32x32_S192x8192)
      transposes_S192x8192_S8192x192_1_0) = QkvRefIdeal.At.image x := by
  funext i
  have h1 : (i 1).val < 8 := (i 1).isLt
  have h2 : (i 2).val < 32 := (i 2).isLt
  have h3 : (i 3).val < 32 := (i 3).isLt
  unfold img
  refine (QkvRefIdeal.At.rows_apply _ _ (i 0) _).trans ?_
  refine shapeCast_apply _ _ _ _ ?_
  rw [Shape.rowMajor_val_four, Shape.rowMajor_val_two]
  show (((i 0).val * 8 + (i 1).val) * 32 + (i 2).val) * 32 + (i 3).val =
    (i 0).val * 8192 + ((i 1).val * 1024 + (i 2).val * 32 + (i 3).val)
  omega

/-- The kernel's shifted rows are the reference's padded pixels. -/
theorem xs_xpad (x : FVec Ideal S1x192x8x32x32 .f32) (c : Fin 8) (n : ℕ) (r : Fin 1024) (k : Fin 192) :
    xs (F := Ideal) (xpad x) c n (ix2 r k) =
      px (QkvRefIdeal.At.image x) (0 : EReal) k (n / 9 % 3 + c.val) (n / 3 % 3 + r.val / 32) (n % 3 + r.val % 32) := by
  rw [← img_rows]
  refine Read.xs_apply _ _ ?_ c n r k
  show (((0#32 : BitVec 32).toInt : ℝ) : EReal) = 0
  norm_num

/-- The padded pixel under the central tap is the pixel. -/
theorem px_centre (y : SI.Idx → EReal) (k : Fin 192) (c : Fin 8) (r : Fin 1024) :
    px y (0 : EReal) k (13 / 9 % 3 + c.val) (13 / 3 % 3 + r.val / 32) (13 % 3 + r.val % 32) = QkvRefIdeal.At.pix y k c r := by
  have hc := c.isLt
  have hr := r.isLt
  unfold px
  rw [dif_pos (by omega)]
  refine congrArg y (funext fun a => Fin.ext ?_)
  match a with
  | ⟨0, _⟩ => rfl
  | ⟨1, _⟩ => show 13 / 9 % 3 + c.val - 1 = c.val; omega
  | ⟨2, _⟩ => show 13 / 3 % 3 + r.val / 32 - 1 = r.val / 32; omega
  | ⟨3, _⟩ => show 13 % 3 + r.val % 32 - 1 = r.val % 32; omega

/-- A padded pixel of a real image is real. -/
theorem px_re (y : SI.Idx → EReal) (hy : AllRe y) (k : Fin 192) (t h w : ℕ) : Re (px y (0 : EReal) k t h w) := by
  unfold px
  split
  · exact hy _
  · exact Re.zero

/-- The normalization's scale is real. -/
theorem inv_re (g v : FVec Ideal S192 .f32) (hg : AllRe g) (hv : ∀ i, addf v Cert.Finite.eps i ≠ (0 : EReal)) : AllRe (inv g v) :=
  fun i => Re.div_sqrt (hg i) (hv i)

/-- The sums of the outer temporal slices are real. -/
theorem kdiff_re (w : FVec Ideal S192x192x3x3x3 .f32) (hw : AllRe w) : AllRe (kdiff w) := by
  intro i
  have h : ∀ (s : FVec Ideal S192x192x3x3 .f32), AllRe s →
      Re (Host.reduceAdd s (constant S_ .f32 0x00000000#32) reducesTo_S192x192x3x3_S192x192_d3_2 h_S_ i) := fun s hs => by
    show Re (Ideal.ofBits .f32 0x00000000#32 + _)
    rw [Ideal.ofBits_zero_f32]
    exact Re.zero.add (Re.sum _ _ fun j _ => hs j)
  exact (h _ fun j => hw _).add (h _ fun j => hw _)

/-- The kernel's convolution is the reference's. -/
theorem conv_eq (x : FVec Ideal S1x192x8x32x32 .f32) (w : FVec Ideal S192x192x3x3x3 .f32) (g b m v : FVec Ideal S192 .f32)
    (hx : AllRe x) (hw : AllRe w) (hg : AllRe g) (hv : ∀ i, addf v Cert.Finite.eps i ≠ (0 : EReal)) :
    conv (F := Ideal) (xpad x) (wtaps w g v) (shift g b m v) = QkvRefIdeal.Read.val_main_v184 (F := Ideal) x w g b m v := by
  funext j
  obtain ⟨c, r, o, rfl⟩ : ∃ (c : Fin 8) (r : Fin 1024) (o : Fin 192), j = ix2 (⟨c.val * 1024 + r.val, by omega⟩ : Fin 8192) o := by
    have h0 : (j 0).val < 8192 := (j 0).isLt
    refine ⟨⟨(j 0).val / 1024, by omega⟩, ⟨(j 0).val % 1024, by omega⟩, j 1, funext fun a => Fin.ext ?_⟩
    match a with
    | ⟨0, _⟩ => show (j 0).val = (j 0).val / 1024 * 1024 + (j 0).val % 1024; omega
    | ⟨1, _⟩ => rfl
  have hy : AllRe (QkvRefIdeal.At.image x) := fun i => hx _
  refine (Read.conv_apply _ _ _ c r o).trans ?_
  rw [QkvRefIdeal.At.q_apply, Weights.shift_apply, Finset.sum_range]
  refine Eq.trans ?_ ((central (fun n k => px (QkvRefIdeal.At.image x) (0 : EReal) k (n.val / 9 % 3 + c.val) (n.val / 3 % 3 + r.val / 32) (n.val % 3 + r.val % 32))
    (fun k n => QkvRefIdeal.At.wt w o k n) (fun k => kdiff w (ix2 o k)) (Ideal.ofBits .f32 0x3E4CCCCD#32) (Ideal.ofBits .f32 0xBE4CCCCD#32)
    (inv g v (ix1 o)) (subf b (mulf m (inv g v)) (ix1 o)) (fun n k => px_re _ hy _ _ _ _) (fun k n => hw _) (fun k => kdiff_re w hw _)
    theta_re theta_neg (inv_re g v hg hv _)).trans ?_)
  · refine congrArg (subf b (mulf m (inv g v)) (ix1 o) + ·) ?_
    refine Finset.sum_congr rfl fun n _ => Finset.sum_congr rfl fun k _ => ?_
    refine congrArg₂ (· * ·) (xs_xpad x c n.val r k) ?_
    rw [show (⟨n.val % 27, Nat.mod_lt _ (by decide)⟩ : Fin 27) = n from Fin.ext (Nat.mod_eq_of_lt n.isLt), Weights.wtaps_apply]
    refine congrArg (· * inv g v (ix1 o)) ?_
    rw [Weights.wdiff_apply]
    have hn := n.isLt
    by_cases h : n.val = 13
    · rw [if_pos h, if_pos ⟨by show n.val / 9 = 1; omega, by show n.val / 3 % 3 = 1; omega, by show n.val % 3 = 1; omega⟩]
    · rw [if_neg h, if_neg]
      rintro ⟨h1, h2, h3⟩
      replace h1 : n.val / 9 = 1 := h1
      replace h2 : n.val / 3 % 3 = 1 := h2
      replace h3 : n.val % 3 = 1 := h3
      omega
  · refine congrArg₂ (· + ·) (congrArg₂ (· * ·) (congrArg₂ (· - ·) rfl (congrArg (Ideal.ofBits .f32 0x3E4CCCCD#32 * ·) ?_)) rfl) rfl
    exact Finset.sum_congr rfl fun k _ => congrArg₂ (· * ·) rfl (px_centre _ k c r)

/-- The value projection of the reference at a pixel row and a channel. -/
theorem ref_v_apply (x : FVec Ideal S1x192x8x32x32 .f32) (w : FVec Ideal S192x192x1x1x1 .f32) (o : Fin 192) (c : Fin 8) (r : Fin 1024) :
    QkvRefIdeal.Read.val_main_v188 (F := Ideal) x w (ix2 (⟨c.val * 1024 + r.val, by omega⟩ : Fin 8192) o) =
      ∑ k : Fin 192, w (ix5 o k (0 : Fin 1) (0 : Fin 1) (0 : Fin 1)) * QkvRefIdeal.At.pix (QkvRefIdeal.At.image x) k c r := by
  unfold QkvRefIdeal.Read.val_main_v188
  rw [QkvRefIdeal.At.rows_apply]
  refine (QkvRefIdeal.At.flat_apply (QkvRefIdeal.Read.val_main_v182 (F := Ideal) x w) _ o c r).trans ?_
  refine (QkvRefIdeal.At.unflat_apply (QkvRefIdeal.Read.val_main_v181 (F := Ideal) x w) _ o c r).trans ?_
  refine (StackMember.dotGeneral_plain_apply (m := 192) (k := 192) (n := 8192) none _ _ _ _).trans ?_
  refine Finset.sum_congr rfl fun k _ => congrArg₂ (· * ·) ?_ (QkvRefIdeal.At.flat_apply _ _ k c r)
  refine shapeCast_apply _ _ _ _ ?_
  rw [Shape.rowMajor_val_two, Shape.rowMajor_val_five]
  show (((o.val * 192 + k.val) * 1 + 0) * 1 + 0) * 1 + 0 = o.val * 192 + k.val
  omega

/-- A chunk of the kernel's value projection is the reference's rows of that chunk. -/
theorem vch_eq (x : FVec Ideal S1x192x8x32x32 .f32) (w : FVec Ideal S192x192x1x1x1 .f32) (c : Fin 8) (r : Fin 1024) (o : Fin 192) :
    vch (F := Ideal) (xpad x) (wval w) c (ix2 r o) =
      QkvRefIdeal.Read.val_main_v188 (F := Ideal) x w (ix2 (⟨c.val * 1024 + r.val, by omega⟩ : Fin 8192) o) := by
  rw [ref_v_apply]
  refine (Read.vch_apply _ _ c r o).trans (Finset.sum_congr rfl fun k _ => ?_)
  rw [Weights.wval_apply, xs_xpad, px_centre]
  exact mul_comm _ _

end Cert.QkvIdeal.Value

end
-- ==== Proof.QkvFinal.lean ====
module

public import proofs.«01_k».proof.Proof.QkvValue
public import proofs.«01_k».proof.Proof.Gen.QkvIdeal.Value
public import Idealize.ShloMosaic.Lib.Pipeline.ValueKit

@[expose] public section

set_option maxRecDepth 65536

noncomputable section

namespace Cert.QkvIdeal.Final

open Cert.Finite Cert.QkvIdeal Cert.QkvIdeal.Gen Cert.QkvIdeal.Chunk Cert.QkvIdeal.Prep Idealize.ShloMosaic Idealize.ShloMosaic.TcCoe
open Idealize.ShloMosaic.Pipeline (Dat)

variable [Cert.Pre_finite.Facts]
variable (m : (ℓ : Loc nD τ sig) → Buf (Elt Ideal) ℓ) (c : Dev nD)

/-! ## A window's block is its whole array -/

/-- The block indices of the input windows at the one point. -/
theorem idx : win0_0.index t0_0 = ![0, 0] ∧ win0_1.index t0_0 = ![0, 0, 0] ∧ win0_2.index t0_0 = ![0, 0, 0] ∧ win0_3.index t0_0 = ![0, 0] ∧ win0_4.index t0_0 = ![0, 0] ∧ win0_5.index t0_0 = ![0, 0] := by
  decide +kernel

/-- Reading window 0's block off an array gives the array. -/
theorem read0 (Y : FVec Ideal S10368x192 .f32) :
    (((cfg0.win 0).blk t0_0).view.read (Elt Ideal) Y : FVec Ideal S10368x192 .f32) = Y := by
  funext j
  blk_point [idx]

/-- Reading window 1's block off an array gives the array. -/
theorem read1 (Y : FVec Ideal S27x192x192 .f32) :
    (((cfg0.win 1).blk t0_0).view.read (Elt Ideal) Y : FVec Ideal S27x192x192 .f32) = Y := by
  funext j
  blk_point [idx]

/-- Reading window 2's block off an array gives the array. -/
theorem read2 (Y : FVec Ideal S27x192x192 .f32) :
    (((cfg0.win 2).blk t0_0).view.read (Elt Ideal) Y : FVec Ideal S27x192x192 .f32) = Y := by
  funext j
  blk_point [idx]

/-- Reading window 3's block off an array gives the array. -/
theorem read3 (Y : FVec Ideal S192x192 .f32) :
    (((cfg0.win 3).blk t0_0).view.read (Elt Ideal) Y : FVec Ideal S192x192 .f32) = Y := by
  funext j
  blk_point [idx]

/-- Reading window 4's block off an array gives the array. -/
theorem read4 (Y : FVec Ideal S1x192 .f32) :
    (((cfg0.win 4).blk t0_0).view.read (Elt Ideal) Y : FVec Ideal S1x192 .f32) = Y := by
  funext j
  blk_point [idx]

/-- Reading window 5's block off an array gives the array. -/
theorem read5 (Y : FVec Ideal S1x192 .f32) :
    (((cfg0.win 5).blk t0_0).view.read (Elt Ideal) Y : FVec Ideal S1x192 .f32) = Y := by
  funext j
  blk_point [idx]

/-- The block of input window 0 is the padded array. -/
theorem blk0 : (iblk m c 0 t0_0 : FVec Ideal S10368x192 .f32) = xpad (F := Ideal) (m (c.tc.loc main_arg0)) :=
  (read0 _).trans (V_xpad m c)

/-- The block of input window 1 is the first convolution's weights. -/
theorem blk1 : (iblk m c 1 t0_0 : FVec Ideal S27x192x192 .f32) = wtaps (F := Ideal) (m (c.tc.loc main_arg1)) (m (c.tc.loc main_arg2)) (m (c.tc.loc main_arg5)) :=
  (read1 _).trans (V_wq m c)

/-- The block of input window 2 is the second convolution's weights. -/
theorem blk2 : (iblk m c 2 t0_0 : FVec Ideal S27x192x192 .f32) = wtaps (F := Ideal) (m (c.tc.loc main_arg6)) (m (c.tc.loc main_arg7)) (m (c.tc.loc main_arg10)) :=
  (read2 _).trans (V_wk m c)

/-- The block of input window 3 is the value projection's weights. -/
theorem blk3 : (iblk m c 3 t0_0 : FVec Ideal S192x192 .f32) = wval (F := Ideal) (m (c.tc.loc main_arg11)) :=
  (read3 _).trans (V_wv m c)

/-- The block of input window 4 is the first convolution's shift. -/
theorem blk4 : (iblk m c 4 t0_0 : FVec Ideal S1x192 .f32) = shift (F := Ideal) (m (c.tc.loc main_arg2)) (m (c.tc.loc main_arg3)) (m (c.tc.loc main_arg4)) (m (c.tc.loc main_arg5)) :=
  (read4 _).trans (V_bq m c)

/-- The block of input window 5 is the second convolution's shift. -/
theorem blk5 : (iblk m c 5 t0_0 : FVec Ideal S1x192 .f32) = shift (F := Ideal) (m (c.tc.loc main_arg7)) (m (c.tc.loc main_arg8)) (m (c.tc.loc main_arg9)) (m (c.tc.loc main_arg10)) :=
  (read5 _).trans (V_bk m c)

/-! ## The three outputs after the run -/

/-- The second convolution's arguments, in the first one's places. -/
theorem real_of (h : Cert.Pre_finite.fn (F := Ideal) (m (c.tc.loc main_arg0)) (m (c.tc.loc main_arg1)) (m (c.tc.loc main_arg2))
      (m (c.tc.loc main_arg3)) (m (c.tc.loc main_arg4)) (m (c.tc.loc main_arg5)) (m (c.tc.loc main_arg6)) (m (c.tc.loc main_arg7))
      (m (c.tc.loc main_arg8)) (m (c.tc.loc main_arg9)) (m (c.tc.loc main_arg10)) (m (c.tc.loc main_arg11)) = fun _ => 1#1) :
    conv (F := Ideal) (xpad (F := Ideal) (m (c.tc.loc main_arg0))) (wtaps (F := Ideal) (m (c.tc.loc main_arg1)) (m (c.tc.loc main_arg2)) (m (c.tc.loc main_arg5)))
        (shift (F := Ideal) (m (c.tc.loc main_arg2)) (m (c.tc.loc main_arg3)) (m (c.tc.loc main_arg4)) (m (c.tc.loc main_arg5))) =
      QkvRefIdeal.Read.val_main_v184 (F := Ideal) (m (c.tc.loc main_arg0)) (m (c.tc.loc main_arg1)) (m (c.tc.loc main_arg2))
        (m (c.tc.loc main_arg3)) (m (c.tc.loc main_arg4)) (m (c.tc.loc main_arg5)) ∧
    conv (F := Ideal) (xpad (F := Ideal) (m (c.tc.loc main_arg0))) (wtaps (F := Ideal) (m (c.tc.loc main_arg6)) (m (c.tc.loc main_arg7)) (m (c.tc.loc main_arg10)))
        (shift (F := Ideal) (m (c.tc.loc main_arg7)) (m (c.tc.loc main_arg8)) (m (c.tc.loc main_arg9)) (m (c.tc.loc main_arg10))) =
      QkvRefIdeal.Read.val_main_v186 (F := Ideal) (m (c.tc.loc main_arg0)) (m (c.tc.loc main_arg6)) (m (c.tc.loc main_arg7))
        (m (c.tc.loc main_arg8)) (m (c.tc.loc main_arg9)) (m (c.tc.loc main_arg10)) := by
  obtain ⟨hx, hwq, hgq, hvq, hwk, hgk, hvk⟩ := finite_of _ _ _ _ _ _ _ _ _ _ _ _ h
  exact ⟨Value.conv_eq _ _ _ _ _ _ hx hwq hgq hvq, (Value.conv_eq _ _ _ _ _ _ hx hwk hgk hvk).trans (QkvRefIdeal.At.k_eq _ _ _ _ _ _).symm⟩

/-- The first output after the run. -/
theorem final_q : (dats m 0 c).arrAt 6 cfg0.N = conv (F := Ideal) (xpad (F := Ideal) (m (c.tc.loc main_arg0)))
    (wtaps (F := Ideal) (m (c.tc.loc main_arg1)) (m (c.tc.loc main_arg2)) (m (c.tc.loc main_arg5)))
    (shift (F := Ideal) (m (c.tc.loc main_arg2)) (m (c.tc.loc main_arg3)) (m (c.tc.loc main_arg4)) (m (c.tc.loc main_arg5))) := by
  refine (dats m 0 c).arrAt_eq_of_after_last 6 t0_0 (by decide +kernel) _ fun j => ?_
  blk_simp
  rw [after0_6, out_q, blk0 m c, blk1 m c, blk4 m c]

/-- The second output after the run. -/
theorem final_k : (dats m 0 c).arrAt 7 cfg0.N = conv (F := Ideal) (xpad (F := Ideal) (m (c.tc.loc main_arg0)))
    (wtaps (F := Ideal) (m (c.tc.loc main_arg6)) (m (c.tc.loc main_arg7)) (m (c.tc.loc main_arg10)))
    (shift (F := Ideal) (m (c.tc.loc main_arg7)) (m (c.tc.loc main_arg8)) (m (c.tc.loc main_arg9)) (m (c.tc.loc main_arg10))) := by
  refine (dats m 0 c).arrAt_eq_of_after_last 7 t0_0 (by decide +kernel) _ fun j => ?_
  blk_simp
  rw [after0_7, out_k, blk0 m c, blk2 m c, blk5 m c]

/-- The chunks of the value projection, put together, are the reference's value projection. -/
theorem chunks_v (x : FVec Ideal S1x192x8x32x32 .f32) (w : FVec Ideal S192x192x1x1x1 .f32) :
    View.canon (Val := Elt Ideal) (e := .f32) (s := S8192x192) [⟨r0_117, vch (F := Ideal) (xpad x) (wval w) 7⟩, ⟨r0_107, vch (F := Ideal) (xpad x) (wval w) 6⟩,
      ⟨r0_97, vch (F := Ideal) (xpad x) (wval w) 5⟩, ⟨r0_87, vch (F := Ideal) (xpad x) (wval w) 4⟩,
      ⟨r0_77, vch (F := Ideal) (xpad x) (wval w) 3⟩, ⟨r0_67, vch (F := Ideal) (xpad x) (wval w) 2⟩,
      ⟨r0_57, vch (F := Ideal) (xpad x) (wval w) 1⟩, ⟨r0_30, vch (F := Ideal) (xpad x) (wval w) 0⟩] = QkvRefIdeal.Read.val_main_v188 (F := Ideal) x w := by
  funext j
  obtain ⟨c, r, o, rfl⟩ : ∃ (c : Fin 8) (r : Fin 1024) (o : Fin 192), j = ix2 (⟨c.val * 1024 + r.val, by omega⟩ : Fin 8192) o := by
    have h0 : (j 0).val < 8192 := (j 0).isLt
    refine ⟨⟨(j 0).val / 1024, by omega⟩, ⟨(j 0).val % 1024, by omega⟩, j 1, funext fun a => Fin.ext ?_⟩
    match a with
    | ⟨0, _⟩ => show (j 0).val = (j 0).val / 1024 * 1024 + (j 0).val % 1024; omega
    | ⟨1, _⟩ => rfl
  exact (Read.chunks_apply (fun c => vch (F := Ideal) (xpad x) (wval w) c) c r o).trans (Value.vch_eq x w c r o)

/-- The third output after the run. -/
theorem final_v : (dats m 0 c).arrAt 8 cfg0.N =
    QkvRefIdeal.Read.val_main_v188 (F := Ideal) (m (c.tc.loc main_arg0)) (m (c.tc.loc main_arg11)) := by
  refine (dats m 0 c).arrAt_eq_of_after_last 8 t0_0 (by decide +kernel) _ fun j => ?_
  blk_simp
  rw [after0_8, out_v, blk0 m c, blk3 m c]
  exact congrFun (chunks_v _ _) _

end Cert.QkvIdeal.Final

end
-- ==== Proof.QkvClaim.lean ====
module

public import proofs.«01_k».proof.Defs
public import proofs.«01_k».proof.Proof.QkvFinal
public import proofs.«01_k».proof.Proof.Gen.Pre_finite
public import Idealize.ShloMosaic.Init

@[expose] public section

set_option maxRecDepth 65536

noncomputable section

namespace Cert.QkvClaim

open Cert.QkvIdeal Cert.QkvIdeal.Gen Idealize.ShloMosaic Idealize.ShloMosaic.TcCoe Idealize.SL.Sem

/-- The reference's run as the claim reads it: its arguments unchanged and every counter 0. -/
theorem frame_ref : Cert.quiescent_QkvRefIdeal := fun m ρ _ =>
  (θ_run Cert.QkvRefIdeal.defs _ _).mono (fun r h => ⟨fun c => (h c).2.2.2, sem_eq_zero_of_no_sems (by decide) r.2⟩)
    (Cert.QkvRefIdeal.Value.run (F := Ideal) m ρ)

/-- The kernel's three arrays are the reference's three results, exactly, wherever the precondition holds. -/
theorem algebraic : @Cert.algebraic_QkvIdeal_QkvRefIdeal_pre_finite Cert.QkvIdeal.Gen.facts Cert.QkvRefIdeal.Gen.facts Cert.Pre_finite.Gen.facts := by
  intro m g m' g' hpre hag
  refine ⟨fun c => (dats m 0 c).arrAt 6 cfg0.N, fun c => (dats m 0 c).arrAt 7 cfg0.N, fun c => (dats m 0 c).arrAt 8 cfg0.N,
    Cert.QkvIdeal.Value.run_blocks m g, ?_⟩
  refine (θ_run Cert.QkvRefIdeal.defs _ _).mono (fun r h c => ⟨?_, ?_, ?_, (h c).2.2.2⟩) (Cert.QkvRefIdeal.Value.run (F := Ideal) m' g')
  · obtain ⟨h0, h1, h2, h3, h4, h5, -⟩ := hag c
    refine (h c).1.trans ((Cert.QkvRefIdeal.Read.val_main_v184_eq _).trans (Eq.symm ?_))
    refine (Cert.QkvIdeal.Final.final_q m c).trans ((Cert.QkvIdeal.Final.real_of m c (hpre c)).1.trans ?_)
    rw [← h0, ← h1, ← h2, ← h3, ← h4, ← h5]
  · obtain ⟨h0, -, -, -, -, -, h6, h7, h8, h9, h10, -⟩ := hag c
    refine (h c).2.1.trans ((Cert.QkvRefIdeal.Read.val_main_v186_eq _).trans (Eq.symm ?_))
    refine (Cert.QkvIdeal.Final.final_k m c).trans ((Cert.QkvIdeal.Final.real_of m c (hpre c)).2.trans ?_)
    rw [← h0, ← h6, ← h7, ← h8, ← h9, ← h10]
  · obtain ⟨h0, -, -, -, -, -, -, -, -, -, -, h11⟩ := hag c
    refine (h c).2.2.1.trans ((Cert.QkvRefIdeal.Read.val_main_v188_eq _).trans (Eq.symm ?_))
    refine (Cert.QkvIdeal.Final.final_v m c).trans ?_
    rw [← h0, ← h11]

end Cert.QkvClaim

end
-- ==== Proof.LepeChunk.lean ====
module

public import proofs.«01_k».proof.Proof.Gen.LepeIdeal.Value
public import proofs.«01_k».proof.Proof.QkvChunk

@[expose] public section

set_option maxRecDepth 65536

noncomputable section

namespace Cert.LepeIdeal.Chunk

open Cert.Windows Cert.LepeIdeal Cert.LepeIdeal.Gen Idealize.ShloMosaic Idealize.ShloMosaic.TcCoe Idealize.SL.Sem

variable {F : FTy → Type} [FloatOps F]

/-- Every chunk's rows lie inside the array. -/
theorem inb_att (c : Fin 8) : ∀ a, (![c.val * 1024, 0] : Fin 2 → ℕ) a + S1024x192.size a ≤ S8192x192.size a
  | ⟨0, _⟩ => by
    show c.val * 1024 + 1024 ≤ 8192
    have := c.isLt
    omega
  | ⟨1, _⟩ => by show 0 + 192 ≤ 192; omega

/-- Every tap's row of the weights lies inside them. -/
theorem inb_tap (n : ℕ) : ∀ a, (![n % 27, 0] : Fin 2 → ℕ) a + S1x192.size a ≤ S27x192.size a
  | ⟨0, _⟩ => by show n % 27 + 1 ≤ 27; omega
  | ⟨1, _⟩ => by show 0 + 192 ≤ 192; omega

/-- The 1024 rows of chunk `c`. -/
def att (x0 : Vec F S8192x192 .f32) (c : Fin 8) : Vec F S1024x192 .f32 :=
  View.ld x0 (Rect.unit (s := S8192x192) ![c.val * 1024, 0] S1024x192.size (inb_att c))

/-- The row of weights of tap `n`. -/
def wtap (w : Vec F S27x192 .f32) (n : ℕ) : Vec F S1x192 .f32 :=
  View.ld w (Rect.unit (s := S27x192) ![n % 27, 0] S1x192.size (inb_tap n))

/-- The 0/1 column that blanks the rows of a chunk whose shifted pixel falls outside the 32 by 32 image, for each of the
    eight in-plane shifts. -/
def msk : ℕ → FVec F S1024x1 .f32
  | 0 => k0_pay5 k0_pay2 k0_pay3 k0_pay4
  | 1 => k0_pay6 k0_pay2 k0_pay3
  | 2 => k0_pay9 k0_pay2 k0_pay3 (k0_pay7 k0_pay2) k0_pay8
  | 3 => k0_pay10 k0_pay2 k0_pay3
  | 5 => k0_pay13 k0_pay3 (k0_pay11 k0_pay2) (k0_pay12 k0_pay2) 31#32
  | 6 => k0_pay14 k0_pay2 k0_pay3
  | 7 => k0_pay17 k0_pay3 (k0_pay15 k0_pay2) (k0_pay16 k0_pay2)
  | _ => k0_pay18 k0_pay2 k0_pay3

/-- The masks are those of the convolutions. -/
theorem msk_eq : ∀ n : ℕ, msk (F := F) n = Cert.QkvIdeal.Chunk.msk (F := F) n
  | 0 => rfl
  | 1 => rfl
  | 2 => rfl
  | 3 => rfl
  | 4 => rfl
  | 5 => rfl
  | 6 => rfl
  | 7 => rfl
  | _ + 8 => rfl

/-- What tap `n` of chunk `c` multiplies with its weights: its rows, blanked where the shifted pixel is off the image
    (a tap with no in-plane shift needs no blanking). -/
def xs (x1 : Vec F S10368x192 .f32) (c : Fin 8) (n : ℕ) : FVec F S1024x192 .f32 :=
  if n % 9 = 4 then shapeCast S1024x192 (Cert.QkvIdeal.Chunk.rows x1 c n) shapeCasts_S1024x192_S1024x192
  else mulf (shapeCast S1024x192 (Cert.QkvIdeal.Chunk.rows x1 c n) shapeCasts_S1024x192_S1024x192)
    (broadcastTo S1024x192 (msk (n % 9)) broadcasts_S1024x1_S1024x192)

/-- Those are the convolutions' shifted rows. -/
theorem xs_eq (x1 : Vec F S10368x192 .f32) (c : Fin 8) (n : ℕ) : xs x1 c n = Cert.QkvIdeal.Chunk.xs x1 c n := by
  unfold xs
  rw [msk_eq]
  rfl

/-- The attention's rows, the bias and the first `n` taps of chunk `c`. -/
def acc (x0 : Vec F S8192x192 .f32) (x1 : Vec F S10368x192 .f32) (x2 : Vec F S27x192 .f32) (x3 : Vec F S1x192 .f32) (c : Fin 8) :
    ℕ → FVec F S1024x192 .f32
  | 0 => k0_pay19 (att x0 c) (View.ld x3 r0_1)
  | n + 1 => addf (acc x0 x1 x2 x3 c n)
      (mulf (xs x1 c n) (broadcastTo S1024x192 (shapeCast S1x192 (wtap x2 n) shapeCasts_S1x192_S1x192) broadcasts_S1x192_S1024x192))

/-- Chunk `c` of the result: the projection of those rows, and the projection's bias. -/
def res (x0 : Vec F S8192x192 .f32) (x1 : Vec F S10368x192 .f32) (x2 : Vec F S27x192 .f32) (x3 : Vec F S1x192 .f32) (x4 : Vec F S192x192 .f32)
    (x5 : Vec F S1x192 .f32) (c : Fin 8) : FVec F S1024x192 .f32 :=
  k0_pay1 (matmul dot_S1024x192_S192x192_S1024x192_1_0_0_1_n_n none (acc x0 x1 x2 x3 c 27)
    (shapeCast S192x192 (View.ld x4 r0_56) shapeCasts_S192x192_S192x192) (constant S1024x192 .f32 0x00000000#32)) (View.ld x5 r0_1)

variable (x0 : Vec F S8192x192 .f32) (x1 : Vec F S10368x192 .f32) (x2 : Vec F S27x192 .f32) (x3 : Vec F S1x192 .f32) (x4 : Vec F S192x192 .f32)
  (x5 : Vec F S1x192 .f32)

/-- The output is the eight chunks, one under the other. -/
theorem out_eq : out0_6 x0 x1 x2 x3 x4 x5 =
    View.canon [⟨r0_117, res x0 x1 x2 x3 x4 x5 7⟩, ⟨r0_107, res x0 x1 x2 x3 x4 x5 6⟩, ⟨r0_97, res x0 x1 x2 x3 x4 x5 5⟩,
      ⟨r0_87, res x0 x1 x2 x3 x4 x5 4⟩, ⟨r0_77, res x0 x1 x2 x3 x4 x5 3⟩, ⟨r0_67, res x0 x1 x2 x3 x4 x5 2⟩,
      ⟨r0_57, res x0 x1 x2 x3 x4 x5 1⟩, ⟨r0_0, res x0 x1 x2 x3 x4 x5 0⟩] := rfl

end Cert.LepeIdeal.Chunk

end
-- ==== Proof.LepePrep.lean ====
module

public import proofs.«01_k».proof.Proof.Gen.LepeIdeal.Frame
public import Idealize.ShloMosaic.Lib.Claim

@[expose] public section

set_option maxRecDepth 65536
set_option maxHeartbeats 1000000

noncomputable section

namespace Cert.LepeIdeal.Prep

open Cert.LepeIdeal Cert.LepeIdeal.Gen Idealize.ShloMosaic Idealize.ShloMosaic.TcCoe Idealize.SL.Sem

variable {F : FTy → Type} [FloatOps F]

/-- The attention's output, one row per pixel. -/
def attf (a : FVec F S8x128x64x24 .f32) : FVec F S8192x192 .f32 :=
  shapeCast S8192x192 (transpose S8x4x8x4x8x8x24 [1, 2, 4, 3, 5, 0, 6]
    (shapeCast S8x8x4x4x8x8x24 a shapeCasts_S8x128x64x24_S8x8x4x4x8x8x24)
    transposes_S8x8x4x4x8x8x24_S8x4x8x4x8x8x24_1_2_4_3_5_0_6) shapeCasts_S8x4x8x4x8x8x24_S8192x192

/-- The values with 1088 rows of zeros before and after. -/
def vpad (v : FVec F S8192x192 .f32) : FVec F S10368x192 .f32 :=
  pad S10368x192 ![1088, 0] ![1088, 0] ![0, 0] v (sitofp .f32 (constantI S_ 32 0#32))
    pads_S8192x192_S10368x192_108810880_000 h_S_

/-- The depthwise weights, one row per tap. -/
def taps (w : FVec F S192x1x3x3x3 .f32) : FVec F S27x192 .f32 :=
  shapeCast S27x192 (transpose S3x3x3x192 [1, 2, 3, 0] (shapeCast S192x3x3x3 w shapeCasts_S192x1x3x3x3_S192x3x3x3)
    transposes_S192x3x3x3_S3x3x3x192_1_2_3_0) shapeCasts_S3x3x3x192_S27x192

/-- A bias as a row. -/
def row (b : FVec F S192 .f32) : FVec F S1x192 .f32 := shapeCast S1x192 b shapeCasts_S192_S1x192

/-- The projection's weights, input channel first. -/
def w2 (w : FVec F S192x192x1x1x1 .f32) : FVec F S192x192 .f32 :=
  transpose S192x192 [1, 0] (shapeCast S192x192 w shapeCasts_S192x192x1x1x1_S192x192) transposes_S192x192_S192x192_1_0

variable (m : (ℓ : Loc nD τ sig) → Buf (Elt F) ℓ) (c : Dev nD)

/-- The host operations before the region, in one line. -/
abbrev ops : List (HloOp τ sig (Elt F)) := List.flatten [hostOps0, hostOps0_1, hostOps0_2]

/-- The region finds the attention's output, one row per pixel. -/
theorem V_attf : V m c main_v2 = attf (m (c.tc.loc main_arg0)) := by
  show StableHlo.after (ops (F := F)) (fun b => m (c, b)) (Proc.devRef .tc _) = _
  simp only [ops, hostOps0, hostOps0_1, hostOps0_2, List.flatten_cons, List.flatten_nil, List.append_nil, List.cons_append, List.nil_append]
  after_results
  rfl

/-- The region finds the padded values. -/
theorem V_vpad : V m c main_v3 = vpad (m (c.tc.loc main_arg1)) := by
  show StableHlo.after (ops (F := F)) (fun b => m (c, b)) (Proc.devRef .tc _) = _
  simp only [ops, hostOps0, hostOps0_1, hostOps0_2, List.flatten_cons, List.flatten_nil, List.append_nil, List.cons_append, List.nil_append]
  after_results
  rfl

/-- The region finds the depthwise weights by tap. -/
theorem V_taps : V m c main_v6 = taps (m (c.tc.loc main_arg2)) := by
  show StableHlo.after (ops (F := F)) (fun b => m (c, b)) (Proc.devRef .tc _) = _
  simp only [ops, hostOps0, hostOps0_1, hostOps0_2, List.flatten_cons, List.flatten_nil, List.append_nil, List.cons_append, List.nil_append]
  after_results
  rfl

/-- The region finds the depthwise bias. -/
theorem V_lb : V m c main_v9 = row (m (c.tc.loc main_arg3)) := by
  show StableHlo.after (ops (F := F)) (fun b => m (c, b)) (Proc.devRef .tc _) = _
  simp only [ops, hostOps0, hostOps0_1, hostOps0_2, List.flatten_cons, List.flatten_nil, List.append_nil, List.cons_append, List.nil_append]
  after_results
  rfl

/-- The region finds the projection's weights. -/
theorem V_w2 : V m c main_v8 = w2 (m (c.tc.loc main_arg4)) := by
  show StableHlo.after (ops (F := F)) (fun b => m (c, b)) (Proc.devRef .tc _) = _
  simp only [ops, hostOps0, hostOps0_1, hostOps0_2, List.flatten_cons, List.flatten_nil, List.append_nil, List.cons_append, List.nil_append]
  after_results
  rfl

/-- The region finds the projection's bias. -/
theorem V_ob : V m c main_v10 = row (m (c.tc.loc main_arg5)) := by
  show StableHlo.after (ops (F := F)) (fun b => m (c, b)) (Proc.devRef .tc _) = _
  simp only [ops, hostOps0, hostOps0_1, hostOps0_2, List.flatten_cons, List.flatten_nil, List.append_nil, List.cons_append, List.nil_append]
  after_results
  rfl

end Cert.LepeIdeal.Prep

end
-- ==== Proof.LepeRead.lean ====
module

public import proofs.«01_k».proof.Proof.LepeChunk
public import proofs.«01_k».proof.Proof.LepePrep
public import proofs.«01_k».proof.Proof.QkvRead
public import Idealize.ShloMosaic.Lib.StackMember

@[expose] public section

set_option maxRecDepth 65536

noncomputable section

namespace Cert.LepeIdeal.Read

open Cert.Windows Cert.LepeIdeal Cert.LepeIdeal.Gen Cert.LepeIdeal.Chunk Cert.LepeIdeal.Prep Idealize.ShloMosaic Idealize.ShloMosaic.TcCoe Idealize.SL.Sem

/-- The attention's element that lies at frame `c`, row `r` of the frame and channel `o`. -/
abbrev src (a : (⟨4, ![8, 128, 64, 24]⟩ : Shape).Idx → EReal) (c : Fin 8) (r : Fin 1024) (o : Fin 192) : EReal :=
  a (ix4 (⟨o.val / 24, by omega⟩ : Fin 8) (⟨c.val * 16 + r.val / 256 * 4 + r.val % 32 / 8, by omega⟩ : Fin 128)
    (⟨r.val / 32 % 8 * 8 + r.val % 8, by omega⟩ : Fin 64) (⟨o.val % 24, by omega⟩ : Fin 24))

/-- The depthwise weight of channel `k` at tap `n`. -/
abbrev wt (w : (⟨5, ![192, 1, 3, 3, 3]⟩ : Shape).Idx → EReal) (k : Fin 192) (n : Fin 27) : EReal :=
  w (ix5 k (0 : Fin 1) (⟨n.val / 9, by omega⟩ : Fin 3) (⟨n.val / 3 % 3, by omega⟩ : Fin 3) (⟨n.val % 3, by omega⟩ : Fin 3))

/-- The rows of the attention's output, element by element. -/
theorem attf_apply (a : FVec Ideal S8x128x64x24 .f32) (c : Fin 8) (r : Fin 1024) (o : Fin 192) :
    attf (F := Ideal) a (ix2 (⟨c.val * 1024 + r.val, by omega⟩ : Fin 8192) o) = src a c r o := by
  unfold attf
  refine (shapeCast_apply _ _ _ (ix7 c (⟨r.val / 256, by omega⟩ : Fin 4) (⟨r.val / 32 % 8, by omega⟩ : Fin 8)
    (⟨r.val % 32 / 8, by omega⟩ : Fin 4) (⟨r.val % 8, by omega⟩ : Fin 8) (⟨o.val / 24, by omega⟩ : Fin 8) (⟨o.val % 24, by omega⟩ : Fin 24)) (by
      rw [rowMajor_val7 _ 196608 49152 6144 1536 192 24 rfl rfl rfl rfl rfl rfl, Shape.rowMajor_val_two]
      show c.val * 196608 + r.val / 256 * 49152 + r.val / 32 % 8 * 6144 + r.val % 32 / 8 * 1536 + r.val % 8 * 192 + o.val / 24 * 24 + o.val % 24 =
        (c.val * 1024 + r.val) * 192 + o.val
      omega)).trans ?_
  refine (transpose_apply _ _ _ _ (ix7 (⟨o.val / 24, by omega⟩ : Fin 8) c (⟨r.val / 256, by omega⟩ : Fin 4) (⟨r.val % 32 / 8, by omega⟩ : Fin 4)
    (⟨r.val / 32 % 8, by omega⟩ : Fin 8) (⟨r.val % 8, by omega⟩ : Fin 8) (⟨o.val % 24, by omega⟩ : Fin 24)) fun b => by
      match b with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl).trans ?_
  refine shapeCast_apply _ _ _ _ ?_
  rw [rowMajor_val7 _ 196608 24576 6144 1536 192 24 rfl rfl rfl rfl rfl rfl, Shape.rowMajor_val_four]
  show ((o.val / 24 * 128 + (c.val * 16 + r.val / 256 * 4 + r.val % 32 / 8)) * 64 + (r.val / 32 % 8 * 8 + r.val % 8)) * 24 + o.val % 24 =
    o.val / 24 * 196608 + c.val * 24576 + r.val / 256 * 6144 + r.val % 32 / 8 * 1536 + r.val / 32 % 8 * 192 + r.val % 8 * 24 + o.val % 24
  omega

/-- The depthwise weights by tap, element by element. -/
theorem taps_apply (w : FVec Ideal S192x1x3x3x3 .f32) (n : Fin 27) (k : Fin 192) : taps (F := Ideal) w (ix2 n k) = wt w k n := by
  unfold taps
  refine (shapeCast_apply _ _ _ (ix4 (⟨n.val / 9, by omega⟩ : Fin 3) (⟨n.val / 3 % 3, by omega⟩ : Fin 3) (⟨n.val % 3, by omega⟩ : Fin 3) k) (by
      rw [Shape.rowMajor_val_four, Shape.rowMajor_val_two]
      show ((n.val / 9 * 3 + n.val / 3 % 3) * 3 + n.val % 3) * 192 + k.val = n.val * 192 + k.val
      omega)).trans ?_
  refine (transpose_apply _ _ _ _ (ix4 k (⟨n.val / 9, by omega⟩ : Fin 3) (⟨n.val / 3 % 3, by omega⟩ : Fin 3) (⟨n.val % 3, by omega⟩ : Fin 3)) fun b => by
      match b with
      | ⟨0, _⟩ => rfl
      | ⟨1, _⟩ => rfl
      | ⟨2, _⟩ => rfl
      | ⟨3, _⟩ => rfl).trans ?_
  refine shapeCast_apply _ _ _ _ ?_
  rw [Shape.rowMajor_val_four, Shape.rowMajor_val_five]
  show (((k.val * 1 + 0) * 3 + n.val / 9) * 3 + n.val / 3 % 3) * 3 + n.val % 3 = ((k.val * 3 + n.val / 9) * 3 + n.val / 3 % 3) * 3 + n.val % 3
  omega

/-- A bias's row. -/
theorem row_apply (b : FVec Ideal S192 .f32) (o : Fin 192) : row (F := Ideal) b (ix2 (0 : Fin 1) o) = b (ix1 o) := by
  unfold row
  refine shapeCast_apply _ _ _ _ ?_
  rw [Shape.rowMajor_val_two, rowMajor_val1]
  show o.val = 0 * 192 + o.val
  omega

/-- The projection's weights, transposed. -/
theorem w2_apply (w : FVec Ideal S192x192x1x1x1 .f32) (k o : Fin 192) :
    w2 (F := Ideal) w (ix2 k o) = w (ix5 o k (0 : Fin 1) (0 : Fin 1) (0 : Fin 1)) := by
  unfold w2
  refine (transpose_apply _ _ _ _ (ix2 o k) fun b => by
      match b with
      | ⟨0, _⟩ => rfl
      | ⟨1, _⟩ => rfl).trans ?_
  refine shapeCast_apply _ _ _ _ ?_
  rw [Shape.rowMajor_val_two, Shape.rowMajor_val_five]
  show (((o.val * 192 + k.val) * 1 + 0) * 1 + 0) * 1 + 0 = o.val * 192 + k.val
  omega

/-- A row spread over a chunk. -/
theorem spread_apply (b : FVec Ideal S1x192 .f32) (r : Fin 1024) (o : Fin 192) :
    broadcastTo S1024x192 (shapeCast S1x192 b shapeCasts_S1x192_S1x192) broadcasts_S1x192_S1024x192 (ix2 r o) = b (ix2 (0 : Fin 1) o) := by
  rw [shapeCast_self]
  exact broadcastTo_apply _ _ _ (ix2 (0 : Fin 1) o) (fun a => by
      match a with
      | ⟨0, _⟩ => rfl
      | ⟨1, _⟩ => rfl)

/-- The whole row, loaded. -/
theorem ld_row (b : FVec Ideal S1x192 .f32) (o : Fin 192) : (View.ld (Val := Elt Ideal) (e' := .f32) b r0_1 : FVec Ideal S1x192 .f32) (ix2 (0 : Fin 1) o) = b (ix2 (0 : Fin 1) o) := by
  refine View.ld_unit_apply_of _ _ _ _ _ _ fun a => ?_
  match a with
  | ⟨0, _⟩ => rfl
  | ⟨1, _⟩ => show o.val = 0 + o.val; omega

/-- A tap's row of weights. -/
theorem wtap_apply (w : FVec Ideal S27x192 .f32) (n : ℕ) (o : Fin 192) :
    wtap (F := Ideal) w n (ix2 (0 : Fin 1) o) = w (ix2 (⟨n % 27, Nat.mod_lt _ (by decide)⟩ : Fin 27) o) := by
  unfold wtap
  refine View.ld_unit_apply_of _ _ _ _ _ _ fun a => ?_
  match a with
  | ⟨0, _⟩ => rfl
  | ⟨1, _⟩ => show o.val = 0 + o.val; omega

/-- A chunk's rows of the attention's output. -/
theorem att_apply (x : FVec Ideal S8192x192 .f32) (c : Fin 8) (r : Fin 1024) (o : Fin 192) :
    att (F := Ideal) x c (ix2 r o) = x (ix2 (⟨c.val * 1024 + r.val, by omega⟩ : Fin 8192) o) := by
  unfold att
  refine View.ld_unit_apply_of _ _ _ _ _ _ fun a => ?_
  match a with
  | ⟨0, _⟩ => rfl
  | ⟨1, _⟩ => show o.val = 0 + o.val; omega

/-- The attention's rows, the bias and the first `N` taps of a chunk, at an entry. -/
theorem acc_apply (x0 : FVec Ideal S8192x192 .f32) (x1 : FVec Ideal S10368x192 .f32) (x2 : FVec Ideal S27x192 .f32) (x3 : FVec Ideal S1x192 .f32)
    (c : Fin 8) (r : Fin 1024) (o : Fin 192) : ∀ N : ℕ, acc (F := Ideal) x0 x1 x2 x3 c N (ix2 r o) =
      x0 (ix2 (⟨c.val * 1024 + r.val, by omega⟩ : Fin 8192) o) + x3 (ix2 (0 : Fin 1) o) +
      ∑ n ∈ Finset.range N, xs (F := Ideal) x1 c n (ix2 r o) * x2 (ix2 (⟨n % 27, Nat.mod_lt _ (by decide)⟩ : Fin 27) o)
  | 0 => by
    rw [Finset.sum_range_zero, add_zero]
    show k0_pay19 (F := Ideal) (att x0 c) (View.ld x3 r0_1) (ix2 r o) = _
    unfold k0_pay19
    refine congrArg₂ (· + ·) ?_ ((spread_apply _ r o).trans (ld_row x3 o))
    rw [shapeCast_self]
    exact att_apply x0 c r o
  | N + 1 => by
    rw [Finset.sum_range_succ, ← add_assoc, ← acc_apply x0 x1 x2 x3 c r o N]
    exact congrArg (acc (F := Ideal) x0 x1 x2 x3 c N (ix2 r o) + ·) (congrArg (xs (F := Ideal) x1 c N (ix2 r o) * ·)
      ((spread_apply _ r o).trans (wtap_apply x2 N o)))

/-- A chunk of the result at an entry. -/
theorem res_apply (x0 : FVec Ideal S8192x192 .f32) (x1 : FVec Ideal S10368x192 .f32) (x2 : FVec Ideal S27x192 .f32) (x3 : FVec Ideal S1x192 .f32)
    (x4 : FVec Ideal S192x192 .f32) (x5 : FVec Ideal S1x192 .f32) (c : Fin 8) (r : Fin 1024) (o : Fin 192) :
    res (F := Ideal) x0 x1 x2 x3 x4 x5 c (ix2 r o) =
      (∑ k : Fin 192, acc (F := Ideal) x0 x1 x2 x3 c 27 (ix2 r k) * x4 (ix2 k o)) + x5 (ix2 (0 : Fin 1) o) := by
  unfold res k0_pay1
  refine congrArg₂ (· + ·) ?_ ((spread_apply _ r o).trans (ld_row x5 o))
  rw [show dot_S1024x192_S192x192_S1024x192_1_0_0_1_n_n = DotDims.plain 1024 192 192 from rfl]
  refine (Ideal.matmul_plain_apply _ _ _ _ _ _).trans ?_
  rw [ValueIdx.constant_apply, Ideal.ofBits_zero_f32, zero_add]
  refine Finset.sum_congr rfl fun k _ => congrArg (acc (F := Ideal) x0 x1 x2 x3 c 27 (ix2 r k) * ·) ?_
  refine (congrFun (shapeCast_self (View.ld (Val := Elt Ideal) (e' := .f32) x4 r0_56 : FVec Ideal S192x192 .f32) shapeCasts_S192x192_S192x192) _).trans ?_
  refine View.ld_unit_apply_of _ _ _ _ _ _ fun a => ?_
  match a with
  | ⟨0, _⟩ => show k.val = 0 + k.val; omega
  | ⟨1, _⟩ => show o.val = 0 + o.val; omega

/-- The kernel's result at row `c * 1024 + r` and channel `o`, from the arguments. -/
theorem out_apply (a : FVec Ideal S8x128x64x24 .f32) (v : FVec Ideal S8192x192 .f32) (w : FVec Ideal S192x1x3x3x3 .f32) (lb : FVec Ideal S192 .f32)
    (wo : FVec Ideal S192x192x1x1x1 .f32) (ob : FVec Ideal S192 .f32) (c : Fin 8) (r : Fin 1024) (o : Fin 192) :
    out0_6 (F := Ideal) (attf a) (vpad v) (taps w) (row lb) (w2 wo) (row ob) (ix2 (⟨c.val * 1024 + r.val, by omega⟩ : Fin 8192) o) =
      (∑ k : Fin 192, (src a c r k + lb (ix1 k) + ∑ n : Fin 27,
          px (img v) (0 : EReal) k (n.val / 9 % 3 + c.val) (n.val / 3 % 3 + r.val / 32) (n.val % 3 + r.val % 32) * wt w k n) *
        wo (ix5 o k (0 : Fin 1) (0 : Fin 1) (0 : Fin 1))) + ob (ix1 o) := by
  rw [out_eq]
  refine (Cert.QkvIdeal.Read.chunks_apply (fun c => res (F := Ideal) (attf a) (vpad v) (taps w) (row lb) (w2 wo) (row ob) c) c r o).trans ?_
  refine (res_apply _ _ _ _ _ _ c r o).trans ?_
  refine congrArg₂ (· + ·) (Finset.sum_congr rfl fun k _ => congrArg₂ (· * ·) ?_ (w2_apply wo k o)) (row_apply ob o)
  refine (acc_apply _ _ _ _ c r k 27).trans (congrArg₂ (· + ·) (congrArg₂ (· + ·) (attf_apply a c r k) (row_apply lb k)) ?_)
  rw [← Fin.sum_univ_eq_sum_range (fun n => xs (F := Ideal) (vpad v) c n (ix2 r k) * taps (F := Ideal) w (ix2 (⟨n % 27, Nat.mod_lt _ (by decide)⟩ : Fin 27) k)) 27]
  refine Finset.sum_congr rfl fun n _ => congrArg₂ (· * ·) ?_ ?_
  · rw [xs_eq]
    refine Cert.QkvIdeal.Read.xs_apply v (sitofp (F := Ideal) .f32 (constantI S_ 32 0#32)) ?_ c n.val r k
    show (((0#32 : BitVec 32).toInt : ℝ) : EReal) = 0
    norm_num
  · rw [show (⟨n.val % 27, Nat.mod_lt _ (by decide)⟩ : Fin 27) = n from Fin.ext (Nat.mod_eq_of_lt n.isLt)]
    exact taps_apply w n k

end Cert.LepeIdeal.Read

end
-- ==== Proof.LepeRefRead.lean ====
module

public import proofs.«01_k».proof.Proof.Gen.LepeRefIdeal.Run
public import proofs.«01_k».proof.Proof.QkvRefRead
public import proofs.«01_k».proof.Proof.LepeRead
public import Idealize.ShloMosaic.Lib.Pointwise.Reduce

@[expose] public section

set_option maxRecDepth 65536

noncomputable section

namespace Cert.LepeRefIdeal.At

open Cert.Windows Cert.LepeRefIdeal Cert.LepeRefIdeal.Gen Idealize.ShloMosaic Idealize.ShloMosaic.TcCoe
open Cert.LepeIdeal.Read (src wt)
open Cert.QkvRefIdeal.At (pix)

/-- The attention's output as an image. -/
def out (a : FVec Ideal S8x128x64x24 .f32) : FVec Ideal S192x8x32x32 .f32 :=
  shapeCast S192x8x32x32 (transpose S1x8x24x8x1x4x8x4x8 [0, 1, 8, 2, 5, 3, 6, 4, 7]
    (shapeCast S1x8x8x4x4x1x8x8x24 a shapeCasts_S8x128x64x24_S1x8x8x4x4x1x8x8x24)
    transposes_S1x8x8x4x4x1x8x8x24_S1x8x24x8x1x4x8x4x8_0_1_8_2_5_3_6_4_7) shapeCasts_S1x8x24x8x1x4x8x4x8_S192x8x32x32

/-- The values as an image. -/
def vimg (v : FVec Ideal S8192x192 .f32) : FVec Ideal S192x8x32x32 .f32 :=
  shapeCast S192x8x32x32 (transpose S192x8192 [1, 0] v transposes_S8192x192_S192x8192_1_0) shapeCasts_S192x8192_S192x8x32x32

/-- The 27 shifted copies of that image. -/
def wins (v : FVec Ideal S8192x192 .f32) : FVec Ideal S192x27x8x32x32 .f32 :=
  windows (pad S192x10x34x34 ![0, 1, 1, 1] ![0, 1, 1, 1] ![0, 0, 0, 0] (vimg v) (sitofp (F := Ideal) .f32 (constantI S_ 32 0#32))
      pads_S192x8x32x32_S192x10x34x34_000_110_110_110 h_S_)
    concatenates_S192x1x8x32x32_S192x1x8x32x32_S192x1x8x32x32_S192x1x8x32x32_S192x1x8x32x32_S192x1x8x32x32_S192x1x8x32x32_S192x1x8x32x32_S192x1x8x32x32_S192x1x8x32x32_S192x1x8x32x32_S192x1x8x32x32_S192x1x8x32x32_S192x1x8x32x32_S192x1x8x32x32_S192x1x8x32x32_S192x16x8x32x32_d1
    concatenates_S192x1x8x32x32_S192x1x8x32x32_S192x1x8x32x32_S192x1x8x32x32_S192x1x8x32x32_S192x1x8x32x32_S192x1x8x32x32_S192x1x8x32x32_S192x1x8x32x32_S192x1x8x32x32_S192x1x8x32x32_S192x11x8x32x32_d1
    concatenates_S192x16x8x32x32_S192x11x8x32x32_S192x27x8x32x32_d1

/-- A number per channel, spread over the image. -/
def spread (b : FVec Ideal S192 .f32) : FVec Ideal S192x8x32x32 .f32 :=
  broadcastInDim S192x8x32x32 ![0, 1, 2, 3] bcast_S192x1x1x1_S192x8x32x32_0_1_2_3 (broadcastInDim S192x1x1x1 ![0] bcast_S192_S192x1x1x1_0 b)

/-- The weights, spread over the image. -/
def wspread (w : FVec Ideal S192x1x3x3x3 .f32) : FVec Ideal S192x27x8x32x32 .f32 :=
  broadcastInDim S192x27x8x32x32 ![0, 1, 2, 3, 4] bcast_S192x27x1x1x1_S192x27x8x32x32_0_1_2_3_4
    (broadcastInDim S192x27x1x1x1 ![0, 1] bcast_S192x27_S192x27x1x1x1_0_1 (shapeCast S192x27 w shapeCasts_S192x1x3x3x3_S192x27))

/-- The depthwise convolution, without its bias. -/
def conv (v : FVec Ideal S8192x192 .f32) (w : FVec Ideal S192x1x3x3x3 .f32) : FVec Ideal S192x8x32x32 .f32 :=
  Host.reduceAdd (F := Ideal) (mulf (wins v) (wspread w)) (constant S_ .f32 0x00000000#32) reducesTo_S192x27x8x32x32_S192x8x32x32_d1 h_S_

/-- The image that the projection takes. -/
def mixed (a : FVec Ideal S8x128x64x24 .f32) (v : FVec Ideal S8192x192 .f32) (w : FVec Ideal S192x1x3x3x3 .f32) (lb : FVec Ideal S192 .f32) :
    FVec Ideal S192x8x32x32 .f32 :=
  addf (out a) (addf (conv v w) (spread lb))

/-- The projection of an image. -/
def proj (y : FVec Ideal S192x8x32x32 .f32) (wo : FVec Ideal S192x192x1x1x1 .f32) : FVec Ideal S192x8192 .f32 :=
  Host.dotGeneral dot_S192x192_S192x8192_S192x8192_1_0_0_1_n_n none (shapeCast S192x192 wo shapeCasts_S192x192x1x1x1_S192x192)
    (shapeCast S192x8192 y shapeCasts_S192x8x32x32_S192x8192)

/-- The reference's result. -/
def res (a : FVec Ideal S8x128x64x24 .f32) (v : FVec Ideal S8192x192 .f32) (w : FVec Ideal S192x1x3x3x3 .f32) (lb : FVec Ideal S192 .f32)
    (wo : FVec Ideal S192x192x1x1x1 .f32) (ob : FVec Ideal S192 .f32) : FVec Ideal S8192x192 .f32 :=
  transpose S8192x192 [1, 0] (shapeCast S192x8192
    (addf (shapeCast S192x8x32x32 (proj (mixed a v w lb) wo) shapeCasts_S192x8192_S192x8x32x32) (spread ob))
    shapeCasts_S192x8x32x32_S192x8192) transposes_S192x8192_S8192x192_1_0

/-- What the reference leaves is that array of its arguments. -/
theorem run_eq (m : (ℓ : Loc nD τ sig) → Buf (Elt Ideal) ℓ) (c : Dev nD) :
    Value.res_main_v80 (F := Ideal) m c = res (m (c.tc.loc main_arg0)) (m (c.tc.loc main_arg1)) (m (c.tc.loc main_arg2)) (m (c.tc.loc main_arg3))
      (m (c.tc.loc main_arg4)) (m (c.tc.loc main_arg5)) := rfl

/-- The attention's output as an image, element by element. -/
theorem out_apply (a : FVec Ideal S8x128x64x24 .f32) (o : Fin 192) (c : Fin 8) (r : Fin 1024) : pix (out a) o c r = src a c r o := by
  unfold out
  refine (shapeCast_apply _ _ _ (ix9 (0 : Fin 1) (⟨o.val / 24, by omega⟩ : Fin 8) (⟨o.val % 24, by omega⟩ : Fin 24) c (0 : Fin 1) (⟨r.val / 256, by omega⟩ : Fin 4)
    (⟨r.val / 32 % 8, by omega⟩ : Fin 8) (⟨r.val % 32 / 8, by omega⟩ : Fin 4) (⟨r.val % 8, by omega⟩ : Fin 8)) (by
      rw [rowMajor_val9 _ 1572864 196608 8192 1024 1024 256 32 8 rfl rfl rfl rfl rfl rfl rfl rfl, Shape.rowMajor_val_four]
      show 0 * 1572864 + o.val / 24 * 196608 + o.val % 24 * 8192 + c.val * 1024 + 0 * 1024 + r.val / 256 * 256 + r.val / 32 % 8 * 32 + r.val % 32 / 8 * 8 + r.val % 8 =
        ((o.val * 8 + c.val) * 32 + r.val / 32) * 32 + r.val % 32
      omega)).trans ?_
  refine (transpose_apply _ _ _ _ (ix9 (0 : Fin 1) (⟨o.val / 24, by omega⟩ : Fin 8) c (⟨r.val / 256, by omega⟩ : Fin 4) (⟨r.val % 32 / 8, by omega⟩ : Fin 4) (0 : Fin 1)
    (⟨r.val / 32 % 8, by omega⟩ : Fin 8) (⟨r.val % 8, by omega⟩ : Fin 8) (⟨o.val % 24, by omega⟩ : Fin 24)) fun b => by
      match b with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => rfl
      | ⟨8, _⟩ => rfl).trans ?_
  refine shapeCast_apply _ _ _ _ ?_
  rw [rowMajor_val9 _ 1572864 196608 24576 6144 1536 1536 192 24 rfl rfl rfl rfl rfl rfl rfl rfl, Shape.rowMajor_val_four]
  show ((o.val / 24 * 128 + (c.val * 16 + r.val / 256 * 4 + r.val % 32 / 8)) * 64 + (r.val / 32 % 8 * 8 + r.val % 8)) * 24 + o.val % 24 =
    0 * 1572864 + o.val / 24 * 196608 + c.val * 24576 + r.val / 256 * 6144 + r.val % 32 / 8 * 1536 + 0 * 1536 + r.val / 32 % 8 * 192 + r.val % 8 * 24 + o.val % 24
  omega

/-- The values' image is the one whose pixels are the rows. -/
theorem vimg_eq (v : FVec Ideal S8192x192 .f32) : (vimg v : SI.Idx → EReal) = img v := by
  funext i
  have h1 : (i 1).val < 8 := (i 1).isLt
  have h2 : (i 2).val < 32 := (i 2).isLt
  have h3 : (i 3).val < 32 := (i 3).isLt
  unfold vimg img
  refine (shapeCast_apply _ _ _ (ix2 (i 0) (⟨(i 1).val * 1024 + (i 2).val * 32 + (i 3).val, by omega⟩ : Fin 8192)) (by
    rw [Shape.rowMajor_val_four, Shape.rowMajor_val_two]
    show (i 0).val * 8192 + ((i 1).val * 1024 + (i 2).val * 32 + (i 3).val) = (((i 0).val * 8 + (i 1).val) * 32 + (i 2).val) * 32 + (i 3).val
    omega)).trans ?_
  refine transpose_apply _ _ _ _ _ fun b => ?_
  match b with
  | ⟨0, _⟩ => rfl
  | ⟨1, _⟩ => rfl

/-- The shifted copies, element by element. -/
theorem wins_apply (v : FVec Ideal S8192x192 .f32) (k : Fin 192) (n : Fin 27) (t : Fin 8) (h w : Fin 32) :
    wins v (ix5 k n t h w) = px (img v) (0 : EReal) k (n.val / 9 % 3 + t.val) (n.val / 3 % 3 + h.val) (n.val % 3 + w.val) := by
  unfold wins
  refine (windows_apply (α := EReal) _ _ _ _ k n t h w).trans ?_
  refine (pad_image (α := EReal) (vimg v) (sitofp (F := Ideal) .f32 (constantI S_ 32 0#32)) _ _ _ _ _ _).trans ?_
  rw [vimg_eq]
  congr 1
  show (((0#32 : BitVec 32).toInt : ℝ) : EReal) = 0
  norm_num

/-- The spread weights, element by element. -/
theorem wspread_apply (w : FVec Ideal S192x1x3x3x3 .f32) (k : Fin 192) (n : Fin 27) (t : Fin 8) (h x : Fin 32) :
    wspread w (ix5 k n t h x) = wt w k n := by
  unfold wspread
  refine (broadcastInDim_apply _ _ _ _ (ix5 k n (0 : Fin 1) (0 : Fin 1) (0 : Fin 1)) (fun a => by
      match a with
      | ⟨0, _⟩ => rfl
      | ⟨1, _⟩ => rfl
      | ⟨2, _⟩ => rfl
      | ⟨3, _⟩ => rfl
      | ⟨4, _⟩ => rfl)).trans ?_
  refine (broadcastInDim_apply _ _ _ _ (ix2 k n) (fun a => by
      match a with
      | ⟨0, _⟩ => rfl
      | ⟨1, _⟩ => rfl)).trans ?_
  refine shapeCast_apply _ _ _ _ ?_
  rw [Shape.rowMajor_val_two, Shape.rowMajor_val_five]
  show (((k.val * 1 + 0) * 3 + n.val / 9) * 3 + n.val / 3 % 3) * 3 + n.val % 3 = k.val * 27 + n.val
  omega

/-- The depthwise convolution, element by element. -/
theorem conv_apply (v : FVec Ideal S8192x192 .f32) (w : FVec Ideal S192x1x3x3x3 .f32) (k : Fin 192) (c : Fin 8) (r : Fin 1024) :
    pix (conv v w) k c r = ∑ n : Fin 27,
      px (img v) (0 : EReal) k (n.val / 9 % 3 + c.val) (n.val / 3 % 3 + r.val / 32) (n.val % 3 + r.val % 32) * wt w k n := by
  unfold conv
  refine (Ideal.hostReduceAdd_r5_a1 reducesTo_S192x27x8x32x32_S192x8x32x32_d1 (mulf (wins v) (wspread w))
    (constant (F := Ideal) S_ .f32 0x00000000#32 (Shape.Idx.first h_S_)) _).trans ?_
  rw [ValueIdx.constant_apply, Ideal.ofBits_zero_f32, zero_add]
  exact Finset.sum_congr rfl fun n _ => congrArg₂ (· * ·) (wins_apply v k n c _ _) (wspread_apply w k n c _ _)

/-- The reference's result at row `c * 1024 + r` and channel `o`. -/
theorem res_apply (a : FVec Ideal S8x128x64x24 .f32) (v : FVec Ideal S8192x192 .f32) (w : FVec Ideal S192x1x3x3x3 .f32) (lb : FVec Ideal S192 .f32)
    (wo : FVec Ideal S192x192x1x1x1 .f32) (ob : FVec Ideal S192 .f32) (c : Fin 8) (r : Fin 1024) (o : Fin 192) :
    res a v w lb wo ob (ix2 (⟨c.val * 1024 + r.val, by omega⟩ : Fin 8192) o) =
      (∑ k : Fin 192, wo (ix5 o k (0 : Fin 1) (0 : Fin 1) (0 : Fin 1)) * (src a c r k + ((∑ n : Fin 27,
          px (img v) (0 : EReal) k (n.val / 9 % 3 + c.val) (n.val / 3 % 3 + r.val / 32) (n.val % 3 + r.val % 32) * wt w k n) + lb (ix1 k)))) + ob (ix1 o) := by
  unfold res
  refine (Cert.QkvRefIdeal.At.rows_apply _ _ _ _).trans ?_
  refine (Cert.QkvRefIdeal.At.flat_apply (addf (F := Ideal) (shapeCast S192x8x32x32 (proj (mixed a v w lb) wo) shapeCasts_S192x8192_S192x8x32x32) (spread ob)) _ o c r).trans ?_
  refine congrArg₂ (· + ·) ((Cert.QkvRefIdeal.At.unflat_apply _ _ o c r).trans ?_) (Cert.QkvRefIdeal.At.spread_apply ob o _ _ _)
  unfold proj
  rw [show dot_S192x192_S192x8192_S192x8192_1_0_0_1_n_n = DotDims.plain 192 192 8192 from rfl]
  refine (StackMember.dotGeneral_plain_apply none _ _ _ _).trans ?_
  refine Finset.sum_congr rfl fun k _ => congrArg₂ (· * ·) ?_ ((Cert.QkvRefIdeal.At.flat_apply (mixed a v w lb) _ k c r).trans ?_)
  · refine shapeCast_apply _ _ _ _ ?_
    rw [Shape.rowMajor_val_two, Shape.rowMajor_val_five]
    show (((o.val * 192 + k.val) * 1 + 0) * 1 + 0) * 1 + 0 = o.val * 192 + k.val
    omega
  · exact congrArg₂ (· + ·) (out_apply a k c r) (congrArg₂ (· + ·) (conv_apply v w k c r) (Cert.QkvRefIdeal.At.spread_apply lb k _ _ _))

end Cert.LepeRefIdeal.At

end
-- ==== Proof.LepeClaim.lean ====
module

public import proofs.«01_k».proof.Defs
public import proofs.«01_k».proof.Proof.LepeRefRead
public import proofs.«01_k».proof.Proof.Gen.LepeIdeal.Value
public import Idealize.ShloMosaic.Lib.Pipeline.ValueKit
public import Idealize.ShloMosaic.Init

@[expose] public section

set_option maxRecDepth 65536

noncomputable section

namespace Cert.LepeClaim

open Cert.LepeIdeal Cert.LepeIdeal.Gen Cert.LepeIdeal.Prep Idealize.ShloMosaic Idealize.ShloMosaic.TcCoe Idealize.SL.Sem
open Idealize.ShloMosaic.Pipeline (Dat)

variable (m : (ℓ : Loc nD τ sig) → Buf (Elt Ideal) ℓ) (c : Dev nD)

/-- The block indices of the input windows at the one point. -/
theorem idx : win0_0.index t0_0 = ![0, 0] ∧ win0_1.index t0_0 = ![0, 0] ∧ win0_2.index t0_0 = ![0, 0] ∧ win0_3.index t0_0 = ![0, 0] ∧ win0_4.index t0_0 = ![0, 0] ∧ win0_5.index t0_0 = ![0, 0] := by
  decide +kernel

/-- Reading window 0's block off an array gives the array. -/
theorem read0 (Y : FVec Ideal S8192x192 .f32) :
    (((cfg0.win 0).blk t0_0).view.read (Elt Ideal) Y : FVec Ideal S8192x192 .f32) = Y := by
  funext j
  blk_point [idx]

/-- Reading window 1's block off an array gives the array. -/
theorem read1 (Y : FVec Ideal S10368x192 .f32) :
    (((cfg0.win 1).blk t0_0).view.read (Elt Ideal) Y : FVec Ideal S10368x192 .f32) = Y := by
  funext j
  blk_point [idx]

/-- Reading window 2's block off an array gives the array. -/
theorem read2 (Y : FVec Ideal S27x192 .f32) :
    (((cfg0.win 2).blk t0_0).view.read (Elt Ideal) Y : FVec Ideal S27x192 .f32) = Y := by
  funext j
  blk_point [idx]

/-- Reading window 3's block off an array gives the array. -/
theorem read3 (Y : FVec Ideal S1x192 .f32) :
    (((cfg0.win 3).blk t0_0).view.read (Elt Ideal) Y : FVec Ideal S1x192 .f32) = Y := by
  funext j
  blk_point [idx]

/-- Reading window 4's block off an array gives the array. -/
theorem read4 (Y : FVec Ideal S192x192 .f32) :
    (((cfg0.win 4).blk t0_0).view.read (Elt Ideal) Y : FVec Ideal S192x192 .f32) = Y := by
  funext j
  blk_point [idx]

/-- Reading window 5's block off an array gives the array. -/
theorem read5 (Y : FVec Ideal S1x192 .f32) :
    (((cfg0.win 5).blk t0_0).view.read (Elt Ideal) Y : FVec Ideal S1x192 .f32) = Y := by
  funext j
  blk_point [idx]

/-- The block of input window 0 is the attention's output, one row per pixel. -/
theorem blk0 : (iblk m c 0 t0_0 : FVec Ideal S8192x192 .f32) = attf (F := Ideal) (m (c.tc.loc main_arg0)) := (read0 _).trans (V_attf m c)

/-- The block of input window 1 is the padded values. -/
theorem blk1 : (iblk m c 1 t0_0 : FVec Ideal S10368x192 .f32) = vpad (F := Ideal) (m (c.tc.loc main_arg1)) := (read1 _).trans (V_vpad m c)

/-- The block of input window 2 is the depthwise weights. -/
theorem blk2 : (iblk m c 2 t0_0 : FVec Ideal S27x192 .f32) = taps (F := Ideal) (m (c.tc.loc main_arg2)) := (read2 _).trans (V_taps m c)

/-- The block of input window 3 is the depthwise bias. -/
theorem blk3 : (iblk m c 3 t0_0 : FVec Ideal S1x192 .f32) = row (F := Ideal) (m (c.tc.loc main_arg3)) := (read3 _).trans (V_lb m c)

/-- The block of input window 4 is the projection's weights. -/
theorem blk4 : (iblk m c 4 t0_0 : FVec Ideal S192x192 .f32) = w2 (F := Ideal) (m (c.tc.loc main_arg4)) := (read4 _).trans (V_w2 m c)

/-- The block of input window 5 is the projection's bias. -/
theorem blk5 : (iblk m c 5 t0_0 : FVec Ideal S1x192 .f32) = row (F := Ideal) (m (c.tc.loc main_arg5)) := (read5 _).trans (V_ob m c)

/-- The kernel's result is the reference's, for any arguments. -/
theorem out_res (a : FVec Ideal S8x128x64x24 .f32) (v : FVec Ideal S8192x192 .f32) (w : FVec Ideal S192x1x3x3x3 .f32) (lb : FVec Ideal S192 .f32)
    (wo : FVec Ideal S192x192x1x1x1 .f32) (ob : FVec Ideal S192 .f32) :
    out0_6 (F := Ideal) (attf a) (vpad v) (taps w) (row lb) (w2 wo) (row ob) = LepeRefIdeal.At.res a v w lb wo ob := by
  funext j
  obtain ⟨c, r, o, rfl⟩ : ∃ (c : Fin 8) (r : Fin 1024) (o : Fin 192), j = ix2 (⟨c.val * 1024 + r.val, by omega⟩ : Fin 8192) o := by
    have h0 : (j 0).val < 8192 := (j 0).isLt
    refine ⟨⟨(j 0).val / 1024, by omega⟩, ⟨(j 0).val % 1024, by omega⟩, j 1, funext fun a => Fin.ext ?_⟩
    match a with
    | ⟨0, _⟩ => show (j 0).val = (j 0).val / 1024 * 1024 + (j 0).val % 1024; omega
    | ⟨1, _⟩ => rfl
  refine (Cert.LepeIdeal.Read.out_apply a v w lb wo ob c r o).trans ((LepeRefIdeal.At.res_apply a v w lb wo ob c r o).trans ?_).symm
  refine congrArg (· + ob (ix1 o)) (Finset.sum_congr rfl fun k _ => ?_)
  rw [mul_comm, add_assoc, add_comm (lb (ix1 k))]

/-- The output after the run. -/
theorem final : (dats m 0 c).arrAt 6 cfg0.N = LepeRefIdeal.At.res (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_after_last 6 t0_0 (by decide +kernel) _ fun j => ?_
  blk_simp
  rw [after0_6, blk0 m c, blk1 m c, blk2 m c, blk3 m c, blk4 m c, blk5 m c]
  exact congrFun (out_res _ _ _ _ _ _) _

/-- The reference's run as the claim reads it: its arguments unchanged and every counter 0. -/
theorem frame_ref : Cert.quiescent_LepeRefIdeal := fun m ρ _ =>
  (θ_run Cert.LepeRefIdeal.defs _ _).mono (fun r h => ⟨fun c => (h c).2, sem_eq_zero_of_no_sems (by decide) r.2⟩)
    (Cert.LepeRefIdeal.Value.run (F := Ideal) m ρ)

/-- The kernel's array is the reference's result, exactly. -/
theorem algebraic : @Cert.algebraic_LepeIdeal_LepeRefIdeal Cert.LepeIdeal.Gen.facts Cert.LepeRefIdeal.Gen.facts := by
  intro m g m' g' hpre hag
  refine ⟨fun c => (dats m 0 c).arrAt 6 cfg0.N, Cert.LepeIdeal.Value.run_blocks m g, ?_⟩
  refine (θ_run Cert.LepeRefIdeal.defs _ _).mono (fun r h c => ⟨?_, (h c).2⟩) (Cert.LepeRefIdeal.Value.run (F := Ideal) m' g')
  obtain ⟨h0, h1, h2, h3, h4, h5⟩ := hag c
  refine (h c).1.trans ((LepeRefIdeal.At.run_eq m' c).trans (Eq.symm ?_))
  refine (final m c).trans ?_
  rw [← h0, ← h1, ← h2, ← h3, ← h4, ← h5]

end Cert.LepeClaim

end
-- ==== Proof.TopKSort.lean ====
module

public import Idealize.ShloMosaic.Lib.SortFacts
public import Idealize.ShloMosaic.PureOps.Ideal.Laws

@[expose] public section

set_option maxRecDepth 65536

noncomputable section

namespace Cert.TopKSort

open Idealize.ShloMosaic

/-! ## A stable sort by "greater than" -/

/-- A stable sort asks of two entries only whether the later one goes first. -/
theorem stableSort_later {ι : Type} (R T : ι → ι → Bool) (l : List ι) (h : l.Pairwise fun a b => R b a = T b a) :
    stableSort R l = stableSort T l := by
  induction l with
  | nil => rfl
  | cons a l ih =>
    rw [List.pairwise_cons] at h
    unfold stableSort
    rw [ih h.2]
    exact insertBefore_congr R T a _ fun b hb => h.1 b ((perm_stableSort T l).mem_iff.mp hb)

variable {n : ℕ} (f : Fin n → EReal)

/-- `a` goes before `b`: its value is greater, or the two values are equal and it is the earlier one. -/
def First (a b : Fin n) : Prop := f b < f a ∨ (f a = f b ∧ a < b)

/-- The order in which a stable sort by "greater than" lists the places. -/
def place (j : Fin n) : Fin n := sortedFrom (fun a b => decide (f b < f a)) j

open Classical in
/-- A stable sort by "greater than" is the sort by `First`. -/
theorem place_eq (j : Fin n) : place f j = sortedFrom (fun a b => decide (First f a b)) j := by
  have e : sortPositions n (fun a b => decide (f b < f a)) = sortPositions n (fun a b => decide (First f a b)) := by
    unfold sortPositions
    refine stableSort_later _ _ _ ((List.pairwise_lt_finRange n).imp fun {a b} hab => ?_)
    refine decide_eq_decide.2 ⟨Or.inl, fun h => h.elim id fun h => absurd hab (not_lt.2 h.2.le)⟩
  unfold place sortedFrom
  rw [List.get_of_eq e]
  rfl

/-- The places are listed by `First`. -/
theorem place_first {i j : Fin n} (h : i < j) : First f (place f i) (place f j) := by
  classical
  have hn : ¬First f (place f j) (place f i) := by
    rw [place_eq, place_eq]
    have := sortedFrom_noInversion (fun a b => decide (First f a b)) (fun a b => decide (First f a b)) ?_ (fun _ _ => id) ?_ i j h
    · exact of_decide_eq_false this
    · intro a b hab
      have hab := of_decide_eq_true hab
      refine decide_eq_false fun hba => ?_
      rcases hab with h1 | h1 <;> rcases hba with h2 | h2
      · exact lt_asymm h1 h2
      · exact h1.ne h2.1
      · exact h2.ne h1.1
      · exact lt_asymm h1.2 h2.2
    · intro a b c hab hbc
      have hab := of_decide_eq_false hab
      have hbc := of_decide_eq_false hbc
      refine decide_eq_false fun hac => ?_
      have p1 : f a ≤ f b := not_lt.1 fun h => hab (Or.inl h)
      have p2 : f b ≤ f c := not_lt.1 fun h => hbc (Or.inl h)
      rcases hac with h1 | h1
      · exact absurd h1 (not_lt.2 (p1.trans p2))
      · have q1 : f a = f b := le_antisymm p1 (h1.1 ▸ p2)
        have q2 : f b = f c := q1.symm.trans h1.1
        have r1 : b ≤ a := not_lt.1 fun h => hab (Or.inr ⟨q1, h⟩)
        have r2 : c ≤ b := not_lt.1 fun h => hbc (Or.inr ⟨q2, h⟩)
        exact absurd h1.2 (not_lt.2 (r2.trans r1))
  have hne : place f i ≠ place f j := fun e => h.ne (sortedFrom_injective _ e)
  rcases lt_trichotomy (f (place f i)) (f (place f j)) with h1 | h1 | h1
  · exact absurd (Or.inl h1) hn
  · rcases lt_trichotomy (place f i) (place f j) with h2 | h2 | h2
    · exact Or.inr ⟨h1, h2⟩
    · exact absurd h2 hne
    · exact absurd (Or.inr ⟨h1.symm, h2⟩) hn
  · exact Or.inl h1

/-! ## Taking the first place again and again -/

/-- The values with the first `r` places of the list struck out. -/
def struck (r : ℕ) (p : Fin n) : EReal := if ∃ i : Fin n, i.val < r ∧ place f i = p then ⊥ else f p

/-- Nothing is struck out at the start. -/
theorem struck_zero : struck f 0 = f := by
  funext p
  exact if_neg fun ⟨i, h, _⟩ => Nat.not_lt_zero _ h

/-- The next place struck out. -/
theorem struck_succ (r : Fin n) (p : Fin n) : struck f (r.val + 1) p = if p = place f r then ⊥ else struck f r.val p := by
  unfold struck
  by_cases hp : p = place f r
  · rw [if_pos hp, if_pos ⟨r, Nat.lt_succ_self _, hp.symm⟩]
  · rw [if_neg hp]
    refine if_congr ⟨?_, ?_⟩ rfl rfl
    · rintro ⟨i, hi, e⟩
      refine ⟨i, lt_of_le_of_ne (Nat.lt_succ_iff.1 hi) fun h => hp ?_, e⟩
      rw [← e, Fin.ext h]
    · rintro ⟨i, hi, e⟩
      exact ⟨i, hi.trans (Nat.lt_succ_self _), e⟩

variable (hf : ∀ p, f p ≠ ⊥)
include hf

/-- With the first `r` places struck out, place `r` holds the greatest value left and is the earliest that holds it. -/
theorem struck_first (r : Fin n) : (∀ p, struck f r.val p ≤ struck f r.val (place f r)) ∧
    ∀ p, struck f r.val p = struck f r.val (place f r) → place f r ≤ p := by
  have e : struck f r.val (place f r) = f (place f r) :=
    if_neg fun ⟨i, hi, h⟩ => hi.ne (congrArg Fin.val (sortedFrom_injective _ h))
  have key : ∀ p, p = place f r ∨ struck f r.val p = ⊥ ∨ (struck f r.val p = f p ∧ First f (place f r) p) := by
    intro p
    obtain ⟨j, rfl⟩ := sortedFrom_surjective (fun a b => decide (f b < f a)) p
    rcases lt_trichotomy j r with h | h | h
    · exact Or.inr (Or.inl (if_pos ⟨j, h, rfl⟩))
    · exact Or.inl (congrArg (place f) h)
    · refine Or.inr (Or.inr ⟨if_neg fun ⟨i, hi, h'⟩ => ?_, place_first f h⟩)
      have := sortedFrom_injective _ h'
      subst this
      exact absurd hi (not_lt.2 (Fin.lt_def.1 h).le)
  rw [e]
  refine ⟨fun p => ?_, fun p hp => ?_⟩
  · rcases key p with h | h | ⟨h, h'⟩
    · rw [h, e]
    · rw [h]; exact bot_le
    · rw [h]
      exact h'.elim le_of_lt fun h' => h'.1.ge
  · rcases key p with h | h | ⟨h, h'⟩
    · exact h.ge
    · exact absurd (hp.symm.trans h) (hf _)
    · rw [h] at hp
      exact h'.elim (fun h' => absurd hp h'.ne) fun h' => h'.2.le

end Cert.TopKSort

end
-- ==== Proof.TopKRounds.lean ====
module

public import proofs.«01_k».proof.Proof.TopKSort
public import proofs.«01_k».proof.Proof.Gen.TopKIdeal.Value
public import Idealize.ShloMosaic.Lib.Pointwise.Reduce
public import Idealize.ShloMosaic.Lib.SortNet.Extract

@[expose] public section

set_option maxRecDepth 65536

noncomputable section

namespace Cert.TopKIdeal.Rounds

open Cert.TopKSort Cert.TopKIdeal Cert.TopKIdeal.Gen Idealize.ShloMosaic Idealize.ShloMosaic.TcCoe

/-! ## The kernel's four rounds -/

/-- The number of each column. -/
def cols : IVec S128x128 32 := iota .tc S128x128 32 [1] iota_S128x128_d1_w32

/-- A row's greatest value, along the row. -/
def best (a : FVec Ideal S128x128 .f32) : FVec Ideal S128x128 .f32 :=
  broadcastTo S128x128 (shapeCast S128x1 (multiReduction .maximumf [1] S128 a 0xFF800000#32 reduces_S128x128_S128 (.inl rfl) rfl)
    shapeCasts_S128_S128x1) broadcasts_S128x1_S128x128

/-- The first column of each row that holds the row's greatest value. -/
def pick (a : FVec Ideal S128x128 .f32) : IVec S128x1 32 :=
  shapeCast S128x1 (multiReductionI .minsi [1] S128 (select (cmpf .oeq a (best a)) cols (broadcast S128x128 128#32)) 2147483647#32
    reduces_S128x128_S128 rfl) shapeCasts_S128_S128x1

/-- The values with the picked column of each row struck out. -/
def strike (a : FVec Ideal S128x128 .f32) : FVec Ideal S128x128 .f32 :=
  select (cmpi .eq cols (broadcastTo S128x128 (pick a) broadcasts_S128x1_S128x128)) (k0_pay14 (F := Ideal)) a

/-- The values that each round sees. -/
def round (a : FVec Ideal S128x128 .f32) : ℕ → FVec Ideal S128x128 .f32
  | 0 => a
  | n + 1 => strike (round a n)

/-- The picks of four rounds, side by side. -/
def picks (a : FVec Ideal S128x128 .f32) : IVec S128x4 32 :=
  concatenate S128x4 1 [⟨S128x1, pick (round a 0)⟩, ⟨S128x1, pick (round a 1)⟩, ⟨S128x1, pick (round a 2)⟩, ⟨S128x1, pick (round a 3)⟩]
    concatenates_S128x1_S128x1_S128x1_S128x1_S128x4_d1

/-- The kernel's scores. -/
def score (q k : FVec Ideal S8192x192 .f32) : FVec Ideal S128x128 .f32 :=
  k0_pay11 (F := Ideal) (k0_pay16 (F := Ideal) q k) (k0_pay17 (F := Ideal) q k) 8#32 (k0_pay18 (F := Ideal) q k) (k0_pay19 (F := Ideal) q k) q k

/-- Rounds two to four, from what the first leaves. -/
theorem rounds_eq (a : FVec Ideal S128x128 .f32) :
    k0_pay1 (F := Ideal) a cols (pick a) (cmpi .eq cols (broadcastTo S128x128 (pick a) broadcasts_S128x1_S128x128)) (k0_pay14 (F := Ideal)) = picks a := by
  unfold k0_pay1 picks
  rfl

/-- The kernel's output is the picks of its scores. -/
theorem out_eq (q k : FVec Ideal S8192x192 .f32) : Value.G2 (F := Ideal) q k = picks (score q k) := by
  rw [← rounds_eq]
  unfold Value.G2 score k0_pay13 k0_pay12
  rfl

/-- The number of a column. -/
theorem cols_apply (r q : Fin 128) : cols (ix2 r q) = BitVec.ofNat 32 q.val := iota_single_apply _ _ _ _ _ _

/-- A column of numbers, spread along the rows. -/
theorem spread_apply {α : Type} (x : S128x1.Idx → α) (r q : Fin 128) : broadcastTo S128x128 x broadcasts_S128x1_S128x128 (ix2 r q) = x (ix2 r 0) :=
  broadcastTo_apply _ _ _ (ix2 r (0 : Fin 1)) (fun a => by
    match a with
    | ⟨0, _⟩ => rfl
    | ⟨1, _⟩ => rfl)

/-! ## What a round picks -/

/-- The greatest of a row is the value that no other exceeds. -/
theorem fold_max (g : Fin 128 → EReal) (p : Fin 128) (h : ∀ q, g q ≤ g p) : (Finset.univ : Finset (Fin 128)).fold max ⊥ g = g p :=
  le_antisymm (Finset.fold_max_le _ |>.2 ⟨bot_le, fun q _ => h q⟩) (Finset.le_fold_max _ |>.2 (Or.inr ⟨p, Finset.mem_univ _, le_rfl⟩))

/-- The least of some words below the largest, read signed. -/
theorem fold_min (w : Fin 128 → BitVec 32) (p : Fin 128) (h : ∀ q, (w p).toInt ≤ (w q).toInt) (h0 : (w p).toInt ≤ (2147483647#32 : BitVec 32).toInt) :
    (Finset.univ : Finset (Fin 128)).fold IntOp.minsi 2147483647#32 w = w p := by
  refine BitVec.eq_of_toInt_eq ?_
  have e := Finset.fold_hom (op := IntOp.minsi (w := 32)) (op' := min) (m := BitVec.toInt) (f := w) (b := 2147483647#32)
    (s := (Finset.univ : Finset (Fin 128))) (fun x y => SortNet.toInt_minsi x y)
  rw [← e]
  exact le_antisymm (Finset.fold_min_le _ |>.2 (Or.inr ⟨p, Finset.mem_univ _, le_rfl⟩)) (Finset.le_fold_min _ |>.2 ⟨h0, fun q _ => h q⟩)

/-- A row's greatest value is the one that no other of the row exceeds. -/
theorem best_apply (a : FVec Ideal S128x128 .f32) (r p c : Fin 128) (h : ∀ q, a (ix2 r q) ≤ a (ix2 r p)) :
    best a (ix2 r c) = a (ix2 r p) := by
  have e : best a (ix2 r c) = multiReduction .maximumf [1] S128 a 0xFF800000#32 reduces_S128x128_S128 (.inl rfl) rfl (ix1 r) := by
    unfold best
    rw [spread_apply]
    refine shapeCast_apply _ _ _ _ ?_
    rw [Shape.rowMajor_val_one, Shape.rowMajor_val_two]
    show r.val = r.val * 1 + 0
    omega
  refine e.trans ((multiReduction_maximumf_eq_fold a _ _ _ _ _).trans ((Shape.Reduces.fold_fiber_r2_a1 _ _ _ _ _).trans ?_))
  have hb : (FloatOps.ofBits (F := Ideal) .f32 0xFF800000#32 : EReal) = ⊥ := by
    show Ideal.ofBits .f32 0xFF800000#32 = ⊥
    simp [Ideal.ofBits, Ideal.ieee]
  rw [hb]
  exact fold_max (fun q => a (ix2 r q)) p h

/-- A round picks the first column that holds the row's greatest value. -/
theorem pick_apply (a : FVec Ideal S128x128 .f32) (r p : Fin 128) (h : ∀ q, a (ix2 r q) ≤ a (ix2 r p))
    (h' : ∀ q, a (ix2 r q) = a (ix2 r p) → p ≤ q) : pick a (ix2 r 0) = BitVec.ofNat 32 p.val := by
  set w : IVec S128x128 32 := select (cmpf .oeq a (best a)) cols (broadcast S128x128 128#32) with hw
  have e : pick a (ix2 r 0) = multiReductionI .minsi [1] S128 w 2147483647#32 reduces_S128x128_S128 rfl (ix1 r) := by
    unfold pick
    refine shapeCast_apply _ _ _ _ ?_
    rw [Shape.rowMajor_val_one, Shape.rowMajor_val_two]
    show r.val = r.val * 1 + 0
    omega
  have hc : ∀ q : Fin 128, w (ix2 r q) = if a (ix2 r q) = a (ix2 r p) then BitVec.ofNat 32 q.val else 128#32 := by
    intro q
    show (if Ideal.cmp .oeq (a (ix2 r q)) (best a (ix2 r q)) = 1#1 then cols (ix2 r q) else 128#32) = _
    rw [best_apply a r p q h]
    have hq := cols_apply r q
    rw [hq]
    refine if_congr ?_ rfl rfl
    unfold Ideal.cmp
    by_cases hab : a (ix2 r q) = a (ix2 r p) <;> simp [hab]
  have hp : w (ix2 r p) = BitVec.ofNat 32 p.val := (hc p).trans (if_pos rfl)
  have hint : ∀ n : ℕ, n ≤ 128 → (BitVec.ofNat 32 n).toInt = n := fun n hn => by
    rw [BitVec.toInt_eq_toNat_of_lt (by rw [BitVec.toNat_ofNat]; omega), BitVec.toNat_ofNat]
    omega
  refine e.trans ((multiReductionI_eq_fold .minsi w _ _ _ _).trans ((Shape.Reduces.fold_fiber_r2_a1 _ _ _ _ _).trans ?_))
  refine (fold_min (fun q => w (ix2 r q)) p (fun q => ?_) ?_).trans hp
  · show (w (ix2 r p)).toInt ≤ (w (ix2 r q)).toInt
    rw [hp, hc q, hint _ p.isLt.le]
    by_cases hab : a (ix2 r q) = a (ix2 r p)
    · rw [if_pos hab, hint _ q.isLt.le]
      exact_mod_cast Fin.le_def.1 (h' q hab)
    · rw [if_neg hab, hint 128 le_rfl]
      exact_mod_cast p.isLt.le
  · show (w (ix2 r p)).toInt ≤ _
    rw [hp, hint _ p.isLt.le]
    have : (p.val : ℤ) < 128 := by exact_mod_cast p.isLt
    have h2 : (2147483647#32 : BitVec 32).toInt = 2147483647 := by decide
    omega

/-- The values after a round: the picked column is at minus infinity. -/
theorem strike_apply (a : FVec Ideal S128x128 .f32) (r p q : Fin 128) (h : pick a (ix2 r 0) = BitVec.ofNat 32 p.val) :
    strike a (ix2 r q) = if q = p then (⊥ : EReal) else a (ix2 r q) := by
  have e : broadcastTo S128x128 (pick a) broadcasts_S128x1_S128x128 (ix2 r q) = BitVec.ofNat 32 p.val := by
    rw [spread_apply]
    exact h
  have hb : (k0_pay14 (F := Ideal) (ix2 r q) : EReal) = ⊥ := by
    show Ideal.ofBits .f32 0xFF800000#32 = ⊥
    simp [Ideal.ofBits, Ideal.ieee]
  show (if IntOp.cmpi .eq (cols (ix2 r q)) (broadcastTo S128x128 (pick a) broadcasts_S128x1_S128x128 (ix2 r q)) = 1#1
    then (k0_pay14 (F := Ideal) (ix2 r q) : EReal) else a (ix2 r q)) = _
  rw [e, hb]
  refine if_congr ?_ rfl rfl
  have hq := cols_apply r q
  rw [hq]
  have : BitVec.ofNat 32 q.val = BitVec.ofNat 32 p.val ↔ q = p := by
    refine ⟨fun h => Fin.ext ?_, fun h => h ▸ rfl⟩
    have := congrArg BitVec.toNat h
    rw [BitVec.toNat_ofNat, BitVec.toNat_ofNat] at this
    omega
  rw [← this]
  show BitVec.ofBool (BitVec.ofNat 32 q.val == BitVec.ofNat 32 p.val) = 1#1 ↔ _
  by_cases hh : BitVec.ofNat 32 q.val = BitVec.ofNat 32 p.val
  · rw [hh, beq_self_eq_true]
    exact ⟨fun _ => rfl, fun _ => rfl⟩
  · rw [beq_false_of_ne hh]
    exact ⟨fun h => absurd h (by decide), fun h => absurd h hh⟩

/-- The values that a round sees: the row with the first places of its sorted list struck out. -/
theorem round_apply (a : FVec Ideal S128x128 .f32) (r : Fin 128) (ha : ∀ q, a (ix2 r q) ≠ (⊥ : EReal)) (n : ℕ) (hn : n < 128) (q : Fin 128) :
    round a n (ix2 r q) = struck (fun q => a (ix2 r q)) n q := by
  induction n generalizing q with
  | zero => rw [struck_zero]; rfl
  | succ n ih =>
    have ih := fun q => ih (by omega) q
    obtain ⟨h1, h2⟩ := struck_first (fun q => a (ix2 r q)) ha ⟨n, by omega⟩
    refine (strike_apply (round a n) r (place (fun q => a (ix2 r q)) ⟨n, by omega⟩) q (pick_apply _ r _ ?_ ?_)).trans ?_
    · intro p; rw [ih, ih]; exact h1 p
    · intro p; rw [ih, ih]; exact h2 p
    · rw [ih]; exact (struck_succ _ ⟨n, by omega⟩ q).symm

/-- The kernel's output for scores above minus infinity: the first four places of each row's sorted list. -/
theorem picks_apply (a : FVec Ideal S128x128 .f32) (r : Fin 128) (ha : ∀ q, a (ix2 r q) ≠ (⊥ : EReal)) (k : Fin 4) :
    picks a (ix2 r k) = BitVec.ofNat 32 (place (fun q => a (ix2 r q)) ⟨k.val, by omega⟩).val := by
  obtain ⟨h1, h2⟩ := struck_first (fun q => a (ix2 r q)) ha ⟨k.val, by omega⟩
  have e : picks a (ix2 r k) = pick (round a k.val) (ix2 r 0) := by
    have e : picks a = concatenate S128x4 1 (List.ofFn fun k : Fin 4 => (⟨S128x1, pick (round a k.val)⟩ : (s : Shape) × (s.Idx → BitVec 32)))
      concatenates_S128x1_S128x1_S128x1_S128x1_S128x4_d1 := rfl
    rw [e]
    refine concatenate_ofFn_unit_apply (t := S128x4) (s₁ := S128x1) 1 (fun k : Fin 4 => pick (round a k.val)) _ rfl rfl (ix2 r k) k rfl (ix2 r 0) fun b hb => ?_
    match b, hb with
    | ⟨0, _⟩, _ => rfl
    | ⟨1, _⟩, hb => exact absurd rfl hb
  rw [e]
  refine pick_apply _ r _ ?_ ?_
  · intro p
    rw [round_apply a r ha k.val (by omega), round_apply a r ha k.val (by omega)]
    exact h1 p
  · intro p
    rw [round_apply a r ha k.val (by omega), round_apply a r ha k.val (by omega)]
    exact h2 p

end Cert.TopKIdeal.Rounds

end
-- ==== Proof.TopKRegion.lean ====
module

public import proofs.«01_k».proof.Proof.Gen.TopKIdeal.Value
public import Idealize.ShloMosaic.Lib.Pointwise.Reduce

@[expose] public section

set_option maxRecDepth 65536

noncomputable section

namespace Cert.TopKIdeal.Score

open Cert.TopKIdeal Cert.TopKIdeal.Gen Idealize.ShloMosaic Idealize.ShloMosaic.TcCoe

/-! ## The number of a pixel's region -/

/-- The region that pixel `s` lies in. -/
def region (s : ℕ) : ℕ := s / 1024 * 16 + s / 256 % 4 * 4 + s % 32 / 8

/-- The number of the region of each pixel, as the kernel computes it. -/
def regions (v69 v85 : IVec S1x8192 32) (c8 : BitVec 32) (v87 : IVec S1x8192 32) (v89 : IVec S1x8192 1) : IVec S1x8192 32 :=
  have v90 : IVec S1x8192 32 := extui 32 v89 natLt_1_32
  have v91 : IVec S1x8192 32 := broadcast S1x8192 0#32
  have v92 : IVec S1x8192 1 := cmpi .slt v85 v91
  have v93 : IVec S1x8192 32 := extui 32 v92 natLt_1_32
  have v94 : IVec S1x8192 32 := subi v90 v93
  let v99 : BitVec 32 := Scalar.subi (Scalar.extui (Scalar.cmpi .sgt c8 0#32)) (Scalar.extui (Scalar.cmpi .slt c8 0#32))
  have v100 : IVec S1x8192 32 := broadcast S1x8192 v99
  have v101 : IVec S1x8192 1 := cmpi .ne v94 v100
  have v102 : IVec S1x8192 32 := broadcast S1x8192 c8
  have v103 : IVec S1x8192 32 := remsi v85 v102
  have v104 : IVec S1x8192 32 := broadcast S1x8192 0#32
  have v105 : IVec S1x8192 1 := cmpi .ne v103 v104
  have v106 : IVec S1x8192 1 := andi v101 v105
  have v107 : IVec S1x8192 32 := broadcast S1x8192 1#32
  have v108 : IVec S1x8192 32 := subi v87 v107
  have v109 : IVec S1x8192 32 := select v106 v108 v87
  addi v69 v109

/-- The numbers of the regions, from the pixels' numbers alone. -/
def regs : IVec S1x8192 32 :=
  regions (k0_pay7 k0_pay2 k0_pay3 k0_pay4 k0_pay5 k0_pay6) (k0_pay8 (iota .tc S1x8192 32 [1] iota_S1x8192_d1_w32)) 8#32
    (k0_pay9 (iota .tc S1x8192 32 [1] iota_S1x8192_d1_w32)) (k0_pay10 (iota .tc S1x8192 32 [1] iota_S1x8192_d1_w32))

/-- The kernel's number of a pixel's region is that region. -/
theorem regs_apply : ∀ s : Fin 8192, regs (ix2 (0 : Fin 1) s) = BitVec.ofNat 32 (region s.val) := by decide +kernel

end Cert.TopKIdeal.Score

end
-- ==== Proof.TopKScore.lean ====
module

public import proofs.«01_k».proof.Proof.TopKRounds
public import proofs.«01_k».proof.Proof.TopKRegion
public import Idealize.ShloMosaic.Lib.MatmulPlain

@[expose] public section

set_option maxRecDepth 65536

noncomputable section

namespace Cert.TopKIdeal.Score

open Cert.TopKIdeal Cert.TopKIdeal.Gen Cert.TopKIdeal.Rounds Idealize.ShloMosaic Idealize.ShloMosaic.TcCoe

/-! ## The kernel's scores, read at an index -/

/-- For each region and pixel: 1 where the pixel lies in the region, 0 elsewhere. -/
def pool : FVec Ideal S128x8192 .f32 :=
  sitofp .f32 (extui 32 (cmpi .eq (broadcastTo S128x8192 (iota .tc S128x1 32 [0] iota_S128x1_d0_w32) broadcasts_S128x1_S128x8192)
    (broadcastTo S128x8192 regs broadcasts_S1x8192_S128x8192)) natLt_1_32)

/-- The sums of an array over the regions. -/
def sums (x : FVec Ideal S8192x192 .f32) : FVec Ideal S128x192 .f32 :=
  matmul dot_S128x8192_S8192x192_S128x192_1_0_0_1_n_n (some .fp32) pool x (constant S128x192 .f32 0x00000000#32)

/-- The kernel's scores are the inner products of those sums. -/
theorem score_eq (q k : FVec Ideal S8192x192 .f32) : score q k =
    matmul dot_S128x192_S128x192_S128x128_1_1_0_0_n_n (some .fp32) (sums q) (sums k) (constant S128x128 .f32 0x00000000#32) := by
  unfold score k0_pay11
  rfl

/-- A pixel's region is one of 128. -/
theorem region_lt (s : Fin 8192) : region s.val < 128 := by
  unfold region
  omega

/-- The entries of the pooling matrix. -/
theorem pool_apply (r : Fin 128) (s : Fin 8192) : pool (ix2 r s) = if region s.val = r.val then (1 : EReal) else 0 := by
  have e1 : broadcastTo S128x8192 (iota .tc S128x1 32 [0] iota_S128x1_d0_w32) broadcasts_S128x1_S128x8192 (ix2 r s) = BitVec.ofNat 32 r.val :=
    (broadcastTo_apply _ _ _ (ix2 r (0 : Fin 1)) (fun a => by
      match a with
      | ⟨0, _⟩ => rfl
      | ⟨1, _⟩ => rfl)).trans (iota_single_apply _ _ _ _ _ _)
  have e2 : broadcastTo S128x8192 regs broadcasts_S1x8192_S128x8192 (ix2 r s) = BitVec.ofNat 32 (region s.val) :=
    (broadcastTo_apply _ _ _ (ix2 (0 : Fin 1) s) (fun a => by
      match a with
      | ⟨0, _⟩ => rfl
      | ⟨1, _⟩ => rfl)).trans (regs_apply s)
  show ((((BitVec.ofBool (broadcastTo S128x8192 (iota .tc S128x1 32 [0] iota_S128x1_d0_w32) broadcasts_S128x1_S128x8192 (ix2 r s)
    == broadcastTo S128x8192 regs broadcasts_S1x8192_S128x8192 (ix2 r s))).setWidth 32).toInt : ℝ) : EReal) = _
  rw [e1, e2]
  have hlt := region_lt s
  by_cases h : region s.val = r.val
  · rw [if_pos h, h, beq_self_eq_true, show ((BitVec.ofBool true).setWidth 32).toInt = 1 by decide]
    norm_num
  · have hne : BitVec.ofNat 32 r.val ≠ BitVec.ofNat 32 (region s.val) := fun e => h (by
      have := congrArg BitVec.toNat e
      rw [BitVec.toNat_ofNat, BitVec.toNat_ofNat] at this
      omega)
    rw [if_neg h, beq_false_of_ne hne, show ((BitVec.ofBool false).setWidth 32).toInt = 0 by decide]
    norm_num

/-- The pixels of a region. -/
def pixels (r : Fin 128) : Finset (Fin 8192) := Finset.univ.filter fun s => region s.val = r.val

/-- The sum of a channel over a region. -/
theorem sums_apply (x : FVec Ideal S8192x192 .f32) (r : Fin 128) (d : Fin 192) : sums x (ix2 r d) = ∑ s ∈ pixels r, (x (ix2 s d) : EReal) := by
  unfold sums
  refine (Ideal.matmul_plain_apply (M := 128) (K := 8192) (N := 192) _ pool x _ r d).trans ?_
  have h0 : (constant (F := Ideal) S128x192 .f32 0x00000000#32 (ix2 r d) : EReal) = 0 := Ideal.ofBits_zero_f32
  refine (congrArg₂ (· + ·) h0 rfl).trans ?_
  rw [zero_add, pixels, Finset.sum_filter]
  refine Finset.sum_congr rfl fun s _ => ?_
  show pool (ix2 r s) * x (ix2 s d) = _
  rw [pool_apply]
  by_cases h : region s.val = r.val
  · rw [if_pos h, if_pos h, one_mul]
  · rw [if_neg h, if_neg h, zero_mul]

/-- A score of the kernel. -/
theorem score_apply (q k : FVec Ideal S8192x192 .f32) (r c : Fin 128) : score q k (ix2 r c) =
    ∑ d : Fin 192, (∑ s ∈ pixels r, (q (ix2 s d) : EReal)) * ∑ s ∈ pixels c, (k (ix2 s d) : EReal) := by
  rw [score_eq]
  refine (Ideal.matmul_transposedRhs_apply (M := 128) (K := 192) (N := 128) _ (sums q) (sums k) _ r c).trans ?_
  have h0 : (constant (F := Ideal) S128x128 .f32 0x00000000#32 (ix2 r c) : EReal) = 0 := Ideal.ofBits_zero_f32
  refine (congrArg₂ (· + ·) h0 rfl).trans ?_
  rw [zero_add]
  exact Finset.sum_congr rfl fun d _ => congrArg₂ (· * ·) (sums_apply q r d) (sums_apply k c d)

end Cert.TopKIdeal.Score

end
-- ==== Proof.TopKRefRead.lean ====
module

public import proofs.«01_k».proof.Proof.Gen.TopKRefIdeal.Run
public import proofs.«01_k».proof.Proof.TopKSort
public import proofs.«01_k».proof.Proof.TopKScore
public import Idealize.ShloMosaic.Lib.Pointwise.Reshape
public import Idealize.ShloMosaic.Lib.StackMember
public import Idealize.ShloMosaic.Lib.IdealHost

@[expose] public section

set_option maxRecDepth 65536

noncomputable section

namespace Cert.TopKRefIdeal.At

open Cert.TopKSort Cert.TopKRefIdeal Cert.TopKRefIdeal.Gen Idealize.ShloMosaic Idealize.ShloMosaic.TcCoe
open Cert.TopKIdeal.Score (region pixels)

/-! ## The reference's result, in parts -/

/-- The sums over the regions. -/
def sums (x : FVec Ideal S8192x192 .f32) : FVec Ideal S1x192x8x4x4 .f32 :=
  Host.reduceAdd (F := Ideal) (shapeCast S1x192x8x1x4x8x4x8 (shapeCast S1x192x8x32x32
      (transpose S192x8192 [1, 0] x transposes_S8192x192_S192x8192_1_0) shapeCasts_S192x8192_S1x192x8x32x32)
    shapeCasts_S1x192x8x32x32_S1x192x8x1x4x8x4x8) (constant S_ .f32 0x00000000#32) reducesTo_S1x192x8x1x4x8x4x8_S1x192x8x4x4_d3_5_7 h_S_

/-- The means over the regions. -/
def means (x : FVec Ideal S8192x192 .f32) : FVec Ideal S1x192x8x4x4 .f32 :=
  Host.divf (F := Ideal) (sums x) (broadcastInDim S1x192x8x4x4 ![] bcast_S_S1x192x8x4x4 (constant S_ .f32 0x42800000#32))

/-- The queries' means, a region in each row. -/
def lhs (q : FVec Ideal S8192x192 .f32) : FVec Ideal S128x192 .f32 :=
  shapeCast S128x192 (shapeCast S1x128x192 (transpose S1x8x4x4x192 [0, 2, 3, 4, 1] (means q) transposes_S1x192x8x4x4_S1x8x4x4x192_0_2_3_4_1)
    shapeCasts_S1x8x4x4x192_S1x128x192) shapeCasts_S1x128x192_S128x192

/-- The keys' means, a region in each column. -/
def rhs (k : FVec Ideal S8192x192 .f32) : FVec Ideal S192x128 .f32 :=
  shapeCast S192x128 (shapeCast S1x192x128 (means k) shapeCasts_S1x192x8x4x4_S1x192x128) shapeCasts_S1x192x128_S192x128

/-- The scores. -/
def score (q k : FVec Ideal S8192x192 .f32) : FVec Ideal S128x128 .f32 :=
  Host.dotGeneral (F := Ideal) dot_S128x192_S192x128_S128x128_1_0_0_1_n_n none (lhs q) (rhs k)

/-- The four best regions for each region. -/
def res (q k : FVec Ideal S8192x192 .f32) : IVec S128x4 32 :=
  shapeCast S128x4 (Host.topK S1x128x4 2 (FloatOps.cmpfTotal (F := Ideal) (φ := .f32) .gt)
    (broadcastInDim S1x128x128 ![1, 2] bcast_S128x128_S1x128x128_1_2 (score q k)) sliceFits_S1x128x128_S1x128x4).2 shapeCasts_S1x128x4_S128x4

/-! ## The scores, element by element -/

/-- The pixel that an entry of the regrouped image comes from. -/
def pixel (i : S1x192x8x1x4x8x4x8.Idx) : Fin 8192 :=
  ⟨(i 2).val * 1024 + (i 4).val * 256 + (i 5).val * 32 + (i 6).val * 8 + (i 7).val, by
    have h2 : (i 2).val < 8 := (i 2).isLt
    have h4 : (i 4).val < 4 := (i 4).isLt
    have h5 : (i 5).val < 8 := (i 5).isLt
    have h6 : (i 6).val < 4 := (i 6).isLt
    have h7 : (i 7).val < 8 := (i 7).isLt
    omega⟩

/-- The regrouped image, element by element. -/
theorem grouped_apply (x : FVec Ideal S8192x192 .f32) (i : S1x192x8x1x4x8x4x8.Idx) :
    shapeCast S1x192x8x1x4x8x4x8 (shapeCast S1x192x8x32x32
      (transpose S192x8192 [1, 0] x transposes_S8192x192_S192x8192_1_0) shapeCasts_S192x8192_S1x192x8x32x32)
      shapeCasts_S1x192x8x32x32_S1x192x8x1x4x8x4x8 i = x (ix2 (pixel i) (⟨(i 1).val, (i 1).isLt⟩ : Fin 192)) := by
  have h0 : (i 0).val < 1 := (i 0).isLt
  have h1 : (i 1).val < 192 := (i 1).isLt
  have h2 : (i 2).val < 8 := (i 2).isLt
  have h3 : (i 3).val < 1 := (i 3).isLt
  have h4 : (i 4).val < 4 := (i 4).isLt
  have h5 : (i 5).val < 8 := (i 5).isLt
  have h6 : (i 6).val < 4 := (i 6).isLt
  have h7 : (i 7).val < 8 := (i 7).isLt
  refine (shapeCast_apply _ _ _ (ix5 (0 : Fin 1) (⟨(i 1).val, h1⟩ : Fin 192) (⟨(i 2).val, h2⟩ : Fin 8)
    (⟨(i 4).val * 8 + (i 5).val, by omega⟩ : Fin 32) (⟨(i 6).val * 8 + (i 7).val, by omega⟩ : Fin 32)) (by
      rw [rowMajor_val8 _ 1572864 8192 1024 1024 256 32 8 rfl rfl rfl rfl rfl rfl rfl, Shape.rowMajor_val_five]
      show (((0 * 192 + (i 1).val) * 8 + (i 2).val) * 32 + ((i 4).val * 8 + (i 5).val)) * 32 + ((i 6).val * 8 + (i 7).val) =
        (i 0).val * 1572864 + (i 1).val * 8192 + (i 2).val * 1024 + (i 3).val * 1024 + (i 4).val * 256 + (i 5).val * 32 + (i 6).val * 8 + (i 7).val
      omega)).trans ?_
  refine (shapeCast_apply _ _ _ (ix2 (⟨(i 1).val, h1⟩ : Fin 192) (pixel i)) (by
      rw [Shape.rowMajor_val_two, Shape.rowMajor_val_five]
      show (i 1).val * 8192 + ((i 2).val * 1024 + (i 4).val * 256 + (i 5).val * 32 + (i 6).val * 8 + (i 7).val) =
        (((0 * 192 + (i 1).val) * 8 + (i 2).val) * 32 + ((i 4).val * 8 + (i 5).val)) * 32 + ((i 6).val * 8 + (i 7).val)
      omega)).trans ?_
  refine transpose_apply _ _ _ _ _ fun b => ?_
  match b with
  | ⟨0, _⟩ => rfl
  | ⟨1, _⟩ => rfl

/-- A region's sum is the sum over its pixels. -/
theorem sums_apply (x : FVec Ideal S8192x192 .f32) (d : Fin 192) (t : Fin 8) (h w : Fin 4) :
    sums x (ix5 (0 : Fin 1) d t h w) = ∑ s ∈ pixels (⟨t.val * 16 + h.val * 4 + w.val, by omega⟩ : Fin 128), (x (ix2 s d) : EReal) := by
  have hd : ∀ i : S1x192x8x1x4x8x4x8.Idx, reducesTo_S1x192x8x1x4x8x4x8_S1x192x8x4x4_d3_5_7.drop i = ix5 (0 : Fin 1) d t h w ↔
      (i 1).val = d.val ∧ (i 2).val = t.val ∧ (i 4).val = h.val ∧ (i 6).val = w.val := by
    intro i
    have h0 : (i 0).val < 1 := (i 0).isLt
    refine ⟨fun e => ⟨congrArg Fin.val (congrFun e 1), congrArg Fin.val (congrFun e 2), congrArg Fin.val (congrFun e 3), congrArg Fin.val (congrFun e 4)⟩, fun ⟨e1, e2, e3, e4⟩ => funext fun a => Fin.ext ?_⟩
    match a with
    | ⟨0, _⟩ => show (i 0).val = 0; omega
    | ⟨1, _⟩ => exact e1
    | ⟨2, _⟩ => exact e2
    | ⟨3, _⟩ => exact e3
    | ⟨4, _⟩ => exact e4
  unfold sums
  show (constant (F := Ideal) S_ .f32 0x00000000#32 (Shape.Idx.first h_S_) : EReal) + ∑ i ∈ Finset.univ.filter (fun i => reducesTo_S1x192x8x1x4x8x4x8_S1x192x8x4x4_d3_5_7.drop i = ix5 (0 : Fin 1) d t h w), _ = _
  rw [show (constant (F := Ideal) S_ .f32 0x00000000#32 (Shape.Idx.first h_S_) : EReal) = 0 from Ideal.ofBits_zero_f32, zero_add]
  refine Finset.sum_bij' (fun i _ => pixel i) (fun s _ => ix8 (0 : Fin 1) d t (0 : Fin 1) h (⟨s.val / 32 % 8, by omega⟩ : Fin 8) w (⟨s.val % 8, by omega⟩ : Fin 8)) ?_ ?_ ?_ ?_ ?_
  · intro i hi
    obtain ⟨e1, e2, e3, e4⟩ := (hd i).1 (Finset.mem_filter.1 hi).2
    have h2 : (i 2).val < 8 := (i 2).isLt
    have h4 : (i 4).val < 4 := (i 4).isLt
    have h5 : (i 5).val < 8 := (i 5).isLt
    have h6 : (i 6).val < 4 := (i 6).isLt
    have h7 : (i 7).val < 8 := (i 7).isLt
    refine Finset.mem_filter.2 ⟨Finset.mem_univ _, ?_⟩
    show ((i 2).val * 1024 + (i 4).val * 256 + (i 5).val * 32 + (i 6).val * 8 + (i 7).val) / 1024 * 16 +
      ((i 2).val * 1024 + (i 4).val * 256 + (i 5).val * 32 + (i 6).val * 8 + (i 7).val) / 256 % 4 * 4 +
      ((i 2).val * 1024 + (i 4).val * 256 + (i 5).val * 32 + (i 6).val * 8 + (i 7).val) % 32 / 8 = t.val * 16 + h.val * 4 + w.val
    omega
  · intro s hs
    exact Finset.mem_filter.2 ⟨Finset.mem_univ _, (hd _).2 ⟨rfl, rfl, rfl, rfl⟩⟩
  · intro i hi
    obtain ⟨e1, e2, e3, e4⟩ := (hd i).1 (Finset.mem_filter.1 hi).2
    have h0 : (i 0).val < 1 := (i 0).isLt
    have h3 : (i 3).val < 1 := (i 3).isLt
    have h4 : (i 4).val < 4 := (i 4).isLt
    have h5 : (i 5).val < 8 := (i 5).isLt
    have h6 : (i 6).val < 4 := (i 6).isLt
    have h7 : (i 7).val < 8 := (i 7).isLt
    refine funext fun a => Fin.ext ?_
    match a with
    | ⟨0, _⟩ => show 0 = (i 0).val; omega
    | ⟨1, _⟩ => exact e1.symm
    | ⟨2, _⟩ => exact e2.symm
    | ⟨3, _⟩ => show 0 = (i 3).val; omega
    | ⟨4, _⟩ => exact e3.symm
    | ⟨5, _⟩ =>
      show ((i 2).val * 1024 + (i 4).val * 256 + (i 5).val * 32 + (i 6).val * 8 + (i 7).val) / 32 % 8 = (i 5).val
      omega
    | ⟨6, _⟩ => exact e4.symm
    | ⟨7, _⟩ =>
      show ((i 2).val * 1024 + (i 4).val * 256 + (i 5).val * 32 + (i 6).val * 8 + (i 7).val) % 8 = (i 7).val
      omega
  · intro s hs
    have hr : s.val / 1024 * 16 + s.val / 256 % 4 * 4 + s.val % 32 / 8 = t.val * 16 + h.val * 4 + w.val := (Finset.mem_filter.1 hs).2
    refine Fin.ext ?_
    show t.val * 1024 + h.val * 256 + s.val / 32 % 8 * 32 + w.val * 8 + s.val % 8 = s.val
    omega
  · intro i hi
    obtain ⟨e1, e2, e3, e4⟩ := (hd i).1 (Finset.mem_filter.1 hi).2
    refine (grouped_apply x i).trans ?_
    rw [show (⟨(i 1).val, (i 1).isLt⟩ : Fin 192) = d from Fin.ext e1]

/-- The mean of channel `d` over region `r`. -/
def mean (x : FVec Ideal S8192x192 .f32) (r : Fin 128) (d : Fin 192) : EReal :=
  Ideal.div (∑ s ∈ pixels r, (x (ix2 s d) : EReal)) (Ideal.ofBits .f32 0x42800000#32)

/-- The means of a region at an entry. -/
theorem means_apply (x : FVec Ideal S8192x192 .f32) (r : Fin 128) (d : Fin 192) :
    means x (ix5 (0 : Fin 1) d (⟨r.val / 16, by omega⟩ : Fin 8) (⟨r.val / 4 % 4, by omega⟩ : Fin 4) (⟨r.val % 4, by omega⟩ : Fin 4)) = mean x r d := by
  unfold means mean
  show Ideal.div (sums x _) _ = _
  rw [sums_apply]
  have e : (⟨r.val / 16 * 16 + r.val / 4 % 4 * 4 + r.val % 4, by omega⟩ : Fin 128) = r := Fin.ext (by show r.val / 16 * 16 + r.val / 4 % 4 * 4 + r.val % 4 = r.val; omega)
  rw [e]
  rfl

/-- The left factor of the scores at an entry: the queries' mean. -/
theorem lhs_apply (q : FVec Ideal S8192x192 .f32) (r : Fin 128) (d : Fin 192) : lhs q (ix2 r d) = mean q r d := by
  unfold lhs
  refine (shapeCast_apply _ _ _ (ix3 (0 : Fin 1) r d) (by
      rw [Shape.rowMajor_val_two, Shape.rowMajor_val_three]
      show (0 * 128 + r.val) * 192 + d.val = r.val * 192 + d.val
      omega)).trans ?_
  refine (shapeCast_apply _ _ _ (ix5 (0 : Fin 1) (⟨r.val / 16, by omega⟩ : Fin 8) (⟨r.val / 4 % 4, by omega⟩ : Fin 4) (⟨r.val % 4, by omega⟩ : Fin 4) d) (by
      rw [Shape.rowMajor_val_three, Shape.rowMajor_val_five]
      show (((0 * 8 + r.val / 16) * 4 + r.val / 4 % 4) * 4 + r.val % 4) * 192 + d.val = (0 * 128 + r.val) * 192 + d.val
      omega)).trans ?_
  refine (transpose_apply _ _ _ _ (ix5 (0 : Fin 1) d (⟨r.val / 16, by omega⟩ : Fin 8) (⟨r.val / 4 % 4, by omega⟩ : Fin 4) (⟨r.val % 4, by omega⟩ : Fin 4)) fun b => by
      match b with
      | ⟨0, _⟩ => rfl
      | ⟨1, _⟩ => rfl
      | ⟨2, _⟩ => rfl
      | ⟨3, _⟩ => rfl
      | ⟨4, _⟩ => rfl).trans ?_
  exact means_apply q r d

/-- The right factor of the scores at an entry: the keys' mean. -/
theorem rhs_apply (k : FVec Ideal S8192x192 .f32) (d : Fin 192) (c : Fin 128) : rhs k (ix2 d c) = mean k c d := by
  unfold rhs
  refine (shapeCast_apply _ _ _ (ix3 (0 : Fin 1) d c) (by
      rw [Shape.rowMajor_val_two, Shape.rowMajor_val_three]
      show (0 * 192 + d.val) * 128 + c.val = d.val * 128 + c.val
      omega)).trans ?_
  refine (shapeCast_apply _ _ _ (ix5 (0 : Fin 1) d (⟨c.val / 16, by omega⟩ : Fin 8) (⟨c.val / 4 % 4, by omega⟩ : Fin 4) (⟨c.val % 4, by omega⟩ : Fin 4)) (by
      rw [Shape.rowMajor_val_three, Shape.rowMajor_val_five]
      show (((0 * 192 + d.val) * 8 + c.val / 16) * 4 + c.val / 4 % 4) * 4 + c.val % 4 = (0 * 192 + d.val) * 128 + c.val
      omega)).trans ?_
  exact means_apply k c d

/-- A score of the reference. -/
theorem score_apply (q k : FVec Ideal S8192x192 .f32) (r c : Fin 128) : score q k (ix2 r c) = ∑ d : Fin 192, mean q r d * mean k c d := by
  unfold score
  rw [show dot_S128x192_S192x128_S128x128_1_0_0_1_n_n = DotDims.plain 128 192 128 from rfl]
  refine (StackMember.dotGeneral_plain_apply none _ _ _ _).trans ?_
  exact Finset.sum_congr rfl fun d _ => congrArg₂ (· * ·) (lhs_apply q r d) (rhs_apply k d c)

/-! ## The choice -/

/-- The second result of a sort of two arrays. -/
theorem sort2_snd {s : Shape} {α β : Type} (d : ℕ) (hd : d < s.rank) (cmp : α × β → α × β → BitVec 1) (x : s.Idx → α) (y : s.Idx → β) (j : s.Idx) :
    (Host.sort2 s d cmp x y).2 j = y (j.along ⟨d, hd⟩ (sortedFrom (fun a b => cmp (x (j.along ⟨d, hd⟩ a), y (j.along ⟨d, hd⟩ a))
      (x (j.along ⟨d, hd⟩ b), y (j.along ⟨d, hd⟩ b)) == 1#1) (j ⟨d, hd⟩))) := by
  unfold Host.sort2
  rw [dif_pos hd]

/-- The numbers of the greatest entries of a row are the first places of its sorted list. -/
theorem topK_apply (x : FVec Ideal S1x128x128 .f32) (r : Fin 128) (j : Fin 4) :
    (Host.topK S1x128x4 2 (FloatOps.cmpfTotal (F := Ideal) (φ := .f32) .gt) x sliceFits_S1x128x128_S1x128x4).2 (ix3 (0 : Fin 1) r j) =
      BitVec.ofNat 32 (place (fun p : Fin 128 => (x (ix3 (0 : Fin 1) r p) : EReal)) ⟨j.val, by omega⟩).val := by
  show extractStridedSlice S1x128x4 (fun _ => 0) (Host.sort2 S1x128x128 2 (fun l r => FloatOps.cmpfTotal (F := Ideal) (φ := .f32) .gt l.1 r.1) x
    (fun i => if hd : 2 < S1x128x128.rank then iotaInDim S1x128x128 32 ⟨2, hd⟩ i else 0#32)).2 sliceFits_S1x128x128_S1x128x4 (ix3 (0 : Fin 1) r j) = _
  refine (extractStridedSlice_apply _ _ _ _ (ix3 (0 : Fin 1) r (⟨j.val, by omega⟩ : Fin 128)) fun a => by
      match a with
      | ⟨0, _⟩ => rfl
      | ⟨1, _⟩ => exact (Nat.zero_add _).symm
      | ⟨2, _⟩ => exact (Nat.zero_add _).symm).trans ?_
  have hal : ∀ p : Fin 128, Shape.Idx.along (s := S1x128x128) (ix3 (0 : Fin 1) r (⟨j.val, by omega⟩ : Fin 128)) (2 : Fin 3) p = ix3 (0 : Fin 1) r p := by
    intro p
    unfold Shape.Idx.along
    funext a
    match a with
    | ⟨0, _⟩ => exact Function.update_of_ne (show (0 : Fin 3) ≠ 2 by decide) _ _
    | ⟨1, _⟩ => exact Function.update_of_ne (show (1 : Fin 3) ≠ 2 by decide) _ _
    | ⟨2, _⟩ => exact Function.update_self _ _ _
  refine (sort2_snd 2 (by decide) _ _ _ _).trans ?_
  have hi : ∀ i : S1x128x128.Idx, (fun i : S1x128x128.Idx => if hd : 2 < S1x128x128.rank then iotaInDim S1x128x128 32 ⟨2, hd⟩ i else 0#32) i =
      BitVec.ofNat 32 (i 2).val := fun i => dif_pos (by decide)
  refine (hi _).trans ?_
  refine congrArg (BitVec.ofNat 32) ?_
  have hv : ∀ p : Fin 128, (Shape.Idx.along (s := S1x128x128) (ix3 (0 : Fin 1) r (⟨j.val, by omega⟩ : Fin 128)) (2 : Fin 3) p 2).val = p.val := fun p => by
    rw [hal]
    rfl
  refine (hv _).trans ?_
  refine congrArg Fin.val ?_
  unfold place
  refine congrFun (congrArg (sortedFrom (n := 128)) (funext fun a => funext fun b => ?_)) _
  have ha := hal a
  have hb := hal b
  refine (congrArg₂ (fun u v => FloatOps.cmpfTotal (F := Ideal) (φ := .f32) .gt (x u) (x v) == 1#1) ha hb).trans ?_
  show (BitVec.ofBool (decide ((x (ix3 (0 : Fin 1) r b) : EReal) < x (ix3 (0 : Fin 1) r a))) == 1#1) = decide ((x (ix3 (0 : Fin 1) r b) : EReal) < x (ix3 (0 : Fin 1) r a))
  cases decide ((x (ix3 (0 : Fin 1) r b) : EReal) < x (ix3 (0 : Fin 1) r a)) <;> rfl

/-- The reference's result, element by element. -/
theorem res_apply (q k : FVec Ideal S8192x192 .f32) (r : Fin 128) (j : Fin 4) :
    res q k (ix2 r j) = BitVec.ofNat 32 (place (fun p => (score q k (ix2 r p) : EReal)) ⟨j.val, by omega⟩).val := by
  unfold res
  refine (shapeCast_apply _ _ _ (ix3 (0 : Fin 1) r j) (by
      rw [Shape.rowMajor_val_two, Shape.rowMajor_val_three]
      show (0 * 128 + r.val) * 4 + j.val = r.val * 4 + j.val
      omega)).trans ?_
  refine (topK_apply _ r j).trans ?_
  have e : ∀ p : Fin 128, broadcastInDim S1x128x128 ![1, 2] bcast_S128x128_S1x128x128_1_2 (score q k) (ix3 (0 : Fin 1) r p) = score q k (ix2 r p) := fun p =>
    broadcastInDim_apply _ _ _ _ (ix2 r p) (fun a => by
      match a with
      | ⟨0, _⟩ => rfl
      | ⟨1, _⟩ => rfl)
  simp only [e]

end Cert.TopKRefIdeal.At

end
-- ==== Proof.TopKClaim.lean ====
module

public import proofs.«01_k».proof.Defs
public import proofs.«01_k».proof.Proof.TopKRefRead
public import proofs.«01_k».proof.Proof.Finite
public import proofs.«01_k».proof.Proof.Gen.Pre_finite2

@[expose] public section

set_option maxRecDepth 65536

noncomputable section

namespace Cert.TopKClaim

open Cert.TopKSort Cert.Finite Cert.TopKIdeal Cert.TopKIdeal.Gen Idealize.ShloMosaic Idealize.ShloMosaic.TcCoe Idealize.SL.Sem
open Cert.TopKIdeal.Score (pixels)

/-! ## Kernel and reference order the regions alike -/

/-- A sorted list depends on the comparisons alone. -/
theorem place_congr {n : ℕ} (f g : Fin n → EReal) (h : ∀ a b, f a < f b ↔ g a < g b) (j : Fin n) : place f j = place g j := by
  unfold place
  refine congrFun (congrArg sortedFrom (funext fun a => funext fun b => ?_)) j
  exact decide_eq_decide.2 (h b a)

/-- The number of pixels in a region, 64. -/
theorem ofBits_64 : Ideal.ofBits .f32 0x42800000#32 = ((64 : ℝ) : EReal) := by
  rw [ofBits_normal 0x42800000#32 false 133 0 (by decide) (by decide) (by decide) (by decide) (by decide)]
  refine congrArg _ ?_
  norm_num

/-- A real divided by 64. -/
theorem div_64 (x : ℝ) : Ideal.div (x : EReal) (Ideal.ofBits .f32 0x42800000#32) = ((x / 64 : ℝ) : EReal) := by
  rw [ofBits_64]
  unfold Ideal.div
  rw [if_neg (by norm_cast)]
  rw [div_eq_mul_inv, ← EReal.coe_inv, ← EReal.coe_mul, ← div_eq_mul_inv]

/-- On real queries and keys, both programs' scores are real, and the kernel's are 4096 times the reference's. -/
theorem scores (q k : FVec Ideal S8192x192 .f32) (hq : AllRe q) (hk : AllRe k) (r : Fin 128) : ∃ w : Fin 128 → ℝ,
    (∀ c, Rounds.score q k (ix2 r c) = ((w c : ℝ) : EReal)) ∧ ∀ c, TopKRefIdeal.At.score q k (ix2 r c) = ((w c / 4096 : ℝ) : EReal) := by
  have hu : ∀ (x : FVec Ideal S8192x192 .f32), AllRe x → ∃ u : Fin 128 → Fin 192 → ℝ, ∀ c d, (∑ s ∈ pixels c, (x (ix2 s d) : EReal)) = ((u c d : ℝ) : EReal) := by
    intro x hx
    have : ∀ c d, ∃ y : ℝ, (∑ s ∈ pixels c, (x (ix2 s d) : EReal)) = (y : EReal) := fun c d => Re.sum _ _ fun s _ => hx _
    choose u hu using this
    exact ⟨u, hu⟩
  obtain ⟨u, hu'⟩ := hu q hq
  obtain ⟨v, hv'⟩ := hu k hk
  refine ⟨fun c => ∑ d, u r d * v c d, fun c => ?_, fun c => ?_⟩
  · rw [Score.score_apply, coe_sum]
    exact Finset.sum_congr rfl fun d _ => by rw [hu', hv', EReal.coe_mul]
  · rw [TopKRefIdeal.At.score_apply, Finset.sum_div, coe_sum]
    refine Finset.sum_congr rfl fun d _ => ?_
    unfold TopKRefIdeal.At.mean
    rw [hu', hv', div_64, div_64, ← EReal.coe_mul]
    refine congrArg _ ?_
    ring

/-- On real queries and keys, the kernel's output is the reference's result. -/
theorem out_res (q k : FVec Ideal S8192x192 .f32) (hq : AllRe q) (hk : AllRe k) : Value.G2 (F := Ideal) q k = TopKRefIdeal.At.res q k := by
  funext j
  obtain ⟨r, i, rfl⟩ : ∃ (r : Fin 128) (i : Fin 4), j = ix2 r i := ⟨j 0, j 1, funext fun a => by
    match a with
    | ⟨0, _⟩ => rfl
    | ⟨1, _⟩ => rfl⟩
  obtain ⟨w, h1, h2⟩ := scores q k hq hk r
  refine (congrFun (Rounds.out_eq q k) _).trans ?_
  refine (Rounds.picks_apply _ r (fun c => by rw [h1 c]; exact EReal.coe_ne_bot _) i).trans ?_
  refine Eq.trans ?_ (TopKRefIdeal.At.res_apply q k r i).symm
  rw [place_congr _ (fun p => (TopKRefIdeal.At.score q k (ix2 r p) : EReal)) fun a b => ?_]
  show (Rounds.score q k (ix2 r a) : EReal) < Rounds.score q k (ix2 r b) ↔ (TopKRefIdeal.At.score q k (ix2 r a) : EReal) < TopKRefIdeal.At.score q k (ix2 r b)
  rw [h1, h1, h2, h2, EReal.coe_lt_coe_iff, EReal.coe_lt_coe_iff]
  exact (div_lt_div_iff_of_pos_right (by norm_num)).symm

/-- The second precondition: queries and keys are real. -/
theorem finite_of (q k : FVec Ideal S8192x192 .f32) (h : Cert.Pre_finite2.fn (F := Ideal) q k = fun _ => 1#1) : AllRe q ∧ AllRe k := by
  have e := congrFun h (fun a => a.elim0)
  unfold Cert.Pre_finite2.fn at e
  obtain ⟨h1, h2⟩ := and_one e
  exact ⟨allRe_of _ _ (fun _ => rfl) _ _ _ _ h1, allRe_of _ _ (fun _ => rfl) _ _ _ _ h2⟩

/-- The kernel's array is the reference's result, exactly. -/
theorem algebraic : @Cert.algebraic_TopKIdeal_TopKRefIdeal_pre_finite2 Cert.TopKIdeal.Gen.facts Cert.TopKRefIdeal.Gen.facts Cert.Pre_finite2.Gen.facts := by
  intro m g m' g' hpre hag
  refine ⟨fun c => Value.G2 (F := Ideal) (m (c.tc.loc main_arg0)) (m (c.tc.loc main_arg1)), Cert.TopKIdeal.Value.run m g, ?_⟩
  refine (θ_run Cert.TopKRefIdeal.defs _ _).mono (fun r h c => ⟨?_, (h c).2⟩) (Cert.TopKRefIdeal.Value.run (F := Ideal) m' g')
  obtain ⟨h0, h1⟩ := hag c
  obtain ⟨hq, hk⟩ := finite_of _ _ (hpre c)
  refine (h c).1.trans ((rfl : _ = TopKRefIdeal.At.res (m' (c.tc.loc Cert.TopKRefIdeal.main_arg0)) (m' (c.tc.loc Cert.TopKRefIdeal.main_arg1))).trans ?_)
  rw [h0, h1]
  exact (out_res _ _ hq hk).symm

end Cert.TopKClaim

end
-- ==== Proof.AttHead.lean ====
module

public import proofs.«01_k».proof.Proof.Gen.AttIdeal.Frame
public import Idealize.ShloMosaic.Lib.Pointwise.Reshape

@[expose] public section

set_option maxRecDepth 65536

noncomputable section

namespace Cert.AttIdeal.Head

open Cert.AttIdeal Cert.AttIdeal.Gen Idealize.ShloMosaic Idealize.ShloMosaic.TcCoe Idealize.SL.Sem

variable {F : FTy → Type} [FloatOps F]

/-- A head's queries of a region, times the scale. -/
def scaled (q : Vec F S1x1x64x24 .f32) : FVec F S64x24 .f32 :=
  mulf (shapeCast S64x24 q shapeCasts_S1x1x64x24_S64x24) (broadcast S64x24 (Scalar.ofBits .f32 0x3D93CD3A#32))

/-- The products of a region's scaled queries with the keys of one of its four regions. -/
def scores (q k : Vec F S1x1x64x24 .f32) : FVec F S64x64 .f32 :=
  matmul dot_S64x24_S64x24_S64x64_1_1_0_0_n_n none (scaled q) (shapeCast S64x24 k shapeCasts_S1x1x64x24_S64x24)
    (constant S64x64 .f32 0x00000000#32)

/-- The products with the keys of all four, side by side. -/
def logits (q k0 k1 k2 k3 : Vec F S1x1x64x24 .f32) : FVec F S64x256 .f32 :=
  concatenate S64x256 1 [⟨S64x64, scores q k0⟩, ⟨S64x64, scores q k1⟩, ⟨S64x64, scores q k2⟩, ⟨S64x64, scores q k3⟩]
    concatenates_S64x64_S64x64_S64x64_S64x64_S64x256_d1

/-- The exponentials of the logits less the greatest of their row. -/
def exps (l : FVec F S64x256 .f32) : FVec F S64x256 .f32 :=
  exp (subf l (broadcastTo S64x256 (shapeCast S64x1 (multiReduction .maximumf [1] S64 l 0xFF800000#32 reduces_S64x256_S64 (.inl rfl) rfl)
    shapeCasts_S64_S64x1) broadcasts_S64x1_S64x256))

/-- The softmax along the rows. -/
def probs (l : FVec F S64x256 .f32) : FVec F S64x256 .f32 :=
  divf (exps l) (broadcastTo S64x256 (shapeCast S64x1 (multiReduction .add [1] S64 (exps l) 0x00000000#32 reduces_S64x256_S64 (.inl rfl) rfl)
    shapeCasts_S64_S64x1) broadcasts_S64x1_S64x256)

/-- The values of the four regions, one under the other. -/
def vals (v0 v1 v2 v3 : Vec F S1x1x64x24 .f32) : FVec F S256x24 .f32 :=
  concatenate S256x24 0 [⟨S64x24, shapeCast S64x24 v0 shapeCasts_S1x1x64x24_S64x24⟩, ⟨S64x24, shapeCast S64x24 v1 shapeCasts_S1x1x64x24_S64x24⟩,
    ⟨S64x24, shapeCast S64x24 v2 shapeCasts_S1x1x64x24_S64x24⟩, ⟨S64x24, shapeCast S64x24 v3 shapeCasts_S1x1x64x24_S64x24⟩]
    concatenates_S64x24_S64x24_S64x24_S64x24_S256x24_d0

/-- A head's attention of a region: the softmax of the logits times the values. -/
def head (q k0 k1 k2 k3 v0 v1 v2 v3 : Vec F S1x1x64x24 .f32) : FVec F S1x1x64x24 .f32 :=
  shapeCast S1x1x64x24 (matmul dot_S64x256_S256x24_S64x24_1_0_0_1_n_n none (probs (logits q k0 k1 k2 k3)) (vals v0 v1 v2 v3)
    (constant S64x24 .f32 0x00000000#32)) shapeCasts_S64x24_S1x1x64x24

variable (q k0 k1 k2 k3 v0 v1 v2 v3 : Vec F S1x1x64x24 .f32)

/-- The arithmetic of head 0. -/
theorem head0 : k0_pay4 (k0_pay2 q k0 k1 k2 k3) (k0_pay3 v0) v1 v2 v3 = head q k0 k1 k2 k3 v0 v1 v2 v3 := by
  unfold k0_pay4 k0_pay2 k0_pay3 head probs exps logits scores scaled vals
  rfl

/-- The arithmetic of head 1. -/
theorem head1 : k0_pay9 (k0_pay5 q) (k0_pay6 q k0) (k0_pay7 q k1) (k0_pay8 k2) k3 v0 v1 v2 v3 = head q k0 k1 k2 k3 v0 v1 v2 v3 := by
  unfold k0_pay9 k0_pay6 k0_pay7 k0_pay8 k0_pay5 head probs exps logits scores scaled vals
  rfl

/-- The arithmetic of head 2. -/
theorem head2 : k0_pay12 (k0_pay10 q k0 k1 k2 k3) (k0_pay11 v0) v1 v2 v3 = head q k0 k1 k2 k3 v0 v1 v2 v3 := by
  unfold k0_pay12 k0_pay10 k0_pay11 head probs exps logits scores scaled vals
  rfl

/-- The arithmetic of head 3. -/
theorem head3 : k0_pay17 (k0_pay13 q) (k0_pay14 q k0) (k0_pay15 q k1) (k0_pay16 q k2) k3 v0 v1 v2 v3 = head q k0 k1 k2 k3 v0 v1 v2 v3 := by
  unfold k0_pay17 k0_pay14 k0_pay15 k0_pay16 k0_pay13 head probs exps logits scores scaled vals
  rfl

/-- The arithmetic of head 4. -/
theorem head4 : k0_pay22 (k0_pay19 (k0_pay18 q) (Scalar.ofBits .f32 0x3D93CD3A#32) k0 k1 k2 k3) (k0_pay20 v0) (k0_pay21 v1) v2 v3
    = head q k0 k1 k2 k3 v0 v1 v2 v3 := by
  unfold k0_pay22 k0_pay19 k0_pay18 k0_pay20 k0_pay21 head probs exps logits scores scaled vals
  rfl

/-- The arithmetic of head 5. -/
theorem head5 : k0_pay28 (k0_pay23 q) (k0_pay24 q k0) (k0_pay25 q k1) (k0_pay26 q k2) (k0_pay27 k3) v0 v1 v2 v3
    = head q k0 k1 k2 k3 v0 v1 v2 v3 := by
  unfold k0_pay28 k0_pay24 k0_pay25 k0_pay26 k0_pay23 k0_pay27 head probs exps logits scores scaled vals
  rfl

/-- The arithmetic of head 6. -/
theorem head6 : k0_pay34 (k0_pay30 (k0_pay29 q) k0 k1 k2 k3) (k0_pay31 v0) (k0_pay32 v1) (k0_pay33 v2) v3
    = head q k0 k1 k2 k3 v0 v1 v2 v3 := by
  unfold k0_pay34 k0_pay30 k0_pay29 k0_pay31 k0_pay32 k0_pay33 head probs exps logits scores scaled vals
  rfl

/-- The arithmetic of head 7. -/
theorem head7 : k0_pay1 (k0_pay35 q k0 k1 k2 k3) v0 v1 v2 v3 = head q k0 k1 k2 k3 v0 v1 v2 v3 := by
  unfold k0_pay1 k0_pay35 head probs exps logits scores scaled vals
  rfl

end Cert.AttIdeal.Head

end
-- ==== Proof.AttBlock.lean ====
module

public import proofs.«01_k».proof.Proof.AttHead
public import Idealize.ShloMosaic.Lib.WholeRead
public import Idealize.ShloMosaic.Lib.Pipeline.ValueKit

@[expose] public section

set_option maxRecDepth 65536

noncomputable section

namespace Cert.AttIdeal.Block

open Cert.AttIdeal Cert.AttIdeal.Gen Cert.AttIdeal.Head Idealize.ShloMosaic Idealize.ShloMosaic.TcCoe Idealize.SL.Sem

variable {F : FTy → Type} [FloatOps F]

/-- Head `h` of a block of all eight. -/
def hd (x : Vec F S8x1x64x24 .f32) (h : Fin 8) : Vec F S1x1x64x24 .f32 := fun y => x (ix4 h (0 : Fin 1) (y 2 : Fin 64) (y 3 : Fin 24))

/-- A load of one head's slab reads that head. -/
theorem read_hd (a : Memref sig .tc .vmem S8x1x64x24 .f32) (ha : a.IsWhole) (x : Vec F S8x1x64x24 .f32) (k : Fin 8)
    (inb : ∀ b, (![k.val, 0, 0, 0] : Fin 4 → ℕ) b + (![1, 1, 64, 24] : Fin 4 → ℕ) b ≤ S8x1x64x24.size b) :
    View.readAt (Elt F) a.view (Rect.unit (s := S8x1x64x24) ![k.val, 0, 0, 0] ![1, 1, 64, 24] inb).toLoadRect (ha.unread x) = hd x k := by
  funext y
  refine (ha.readAt_unread x _ y).trans (congrArg x (funext fun b => Fin.ext ?_))
  match b with
  | ⟨0, _⟩ =>
    show k.val + 1 * (y 0).val = k.val
    have : (y 0).val < 1 := (y 0).isLt
    omega
  | ⟨1, _⟩ =>
    show 0 + 1 * (y 1).val = 0
    have : (y 1).val < 1 := (y 1).isLt
    omega
  | ⟨2, _⟩ => show 0 + 1 * (y 2).val = (y 2).val; omega
  | ⟨3, _⟩ => show 0 + 1 * (y 3).val = (y 3).val; omega

variable (c : Dev nD) (i : grid0.Coords) (arg2 : Memref sig .tc .vmem S8x1x64x24 .f32) (harg2 : arg2.IsWhole) (arg3 : Memref sig .tc .vmem S8x1x64x24 .f32) (harg3 : arg3.IsWhole) (arg4 : Memref sig .tc .vmem S8x1x64x24 .f32) (harg4 : arg4.IsWhole) (arg5 : Memref sig .tc .vmem S8x1x64x24 .f32) (harg5 : arg5.IsWhole) (arg6 : Memref sig .tc .vmem S8x1x64x24 .f32) (harg6 : arg6.IsWhole) (arg7 : Memref sig .tc .vmem S8x1x64x24 .f32) (harg7 : arg7.IsWhole) (arg8 : Memref sig .tc .vmem S8x1x64x24 .f32) (harg8 : arg8.IsWhole) (arg9 : Memref sig .tc .vmem S8x1x64x24 .f32) (harg9 : arg9.IsWhole) (arg10 : Memref sig .tc .vmem S8x1x64x24 .f32) (harg10 : arg10.IsWhole) (arg11 : Memref sig .tc .vmem S8x1x64x24 .f32) (harg11 : arg11.IsWhole)
  (x0 x1 x2 x3 x4 x5 x6 x7 x8 : Vec F S8x1x64x24 .f32) (xt0 : TbBuf0 (F := F) c tbM0_0)

/-- Where head `k`'s piece holds an index of head `h`, the two are the same and the piece is read at the index's row and column. -/
theorem at_piece (k h : Fin 8) (p : Fin 64) (e : Fin 24) (x : S1x1x64x24.Idx)
    (hx : ∀ a, ((ix4 h (0 : Fin 1) p e : S8x1x64x24.Idx) a : ℕ) = (![k.val, 0, 0, 0] : Fin 4 → ℕ) a + (x a).val) :
    k = h ∧ x = ix4 (0 : Fin 1) (0 : Fin 1) p e := by
  have h0 : (x 0).val < 1 := (x 0).isLt
  have h1 : (x 1).val < 1 := (x 1).isLt
  have e0 : h.val = k.val + (x 0).val := hx 0
  have e2 : p.val = 0 + (x 2).val := hx 2
  have e3 : e.val = 0 + (x 3).val := hx 3
  refine ⟨Fin.ext (by omega), funext fun b => Fin.ext ?_⟩
  match b with
  | ⟨0, _⟩ => show (x 0).val = 0; omega
  | ⟨1, _⟩ => show (x 1).val = 0; omega
  | ⟨2, _⟩ => show (x 2).val = p.val; omega
  | ⟨3, _⟩ => show (x 3).val = e.val; omega

/-- The head's arithmetic on the slabs loaded is the head's arithmetic on that head of the blocks. -/
theorem head_read (k : Fin 8) (inb : ∀ b, (![k.val, 0, 0, 0] : Fin 4 → ℕ) b + (![1, 1, 64, 24] : Fin 4 → ℕ) b ≤ S8x1x64x24.size b) :
    head (View.readAt (Elt F) arg2.view (Rect.unit (s := S8x1x64x24) ![k.val, 0, 0, 0] ![1, 1, 64, 24] inb).toLoadRect (harg2.unread x0))
      (View.readAt (Elt F) arg3.view (Rect.unit (s := S8x1x64x24) ![k.val, 0, 0, 0] ![1, 1, 64, 24] inb).toLoadRect (harg3.unread x1))
      (View.readAt (Elt F) arg4.view (Rect.unit (s := S8x1x64x24) ![k.val, 0, 0, 0] ![1, 1, 64, 24] inb).toLoadRect (harg4.unread x2))
      (View.readAt (Elt F) arg5.view (Rect.unit (s := S8x1x64x24) ![k.val, 0, 0, 0] ![1, 1, 64, 24] inb).toLoadRect (harg5.unread x3))
      (View.readAt (Elt F) arg6.view (Rect.unit (s := S8x1x64x24) ![k.val, 0, 0, 0] ![1, 1, 64, 24] inb).toLoadRect (harg6.unread x4))
      (View.readAt (Elt F) arg7.view (Rect.unit (s := S8x1x64x24) ![k.val, 0, 0, 0] ![1, 1, 64, 24] inb).toLoadRect (harg7.unread x5))
      (View.readAt (Elt F) arg8.view (Rect.unit (s := S8x1x64x24) ![k.val, 0, 0, 0] ![1, 1, 64, 24] inb).toLoadRect (harg8.unread x6))
      (View.readAt (Elt F) arg9.view (Rect.unit (s := S8x1x64x24) ![k.val, 0, 0, 0] ![1, 1, 64, 24] inb).toLoadRect (harg9.unread x7))
      (View.readAt (Elt F) arg10.view (Rect.unit (s := S8x1x64x24) ![k.val, 0, 0, 0] ![1, 1, 64, 24] inb).toLoadRect (harg10.unread x8))
      = head (hd x0 k) (hd x1 k) (hd x2 k) (hd x3 k) (hd x4 k) (hd x5 k) (hd x6 k) (hd x7 k) (hd x8 k) := by
  rw [read_hd arg2, read_hd arg3, read_hd arg4, read_hd arg5, read_hd arg6, read_hd arg7, read_hd arg8, read_hd arg9, read_hd arg10]

/-- What a grid point writes, read at head `h`: that head's attention of the blocks it was handed. -/
theorem out_apply (h : Fin 8) (p : Fin 64) (e : Fin 24) :
    out0_A_9 c i arg2 harg2 arg3 harg3 arg4 harg4 arg5 harg5 arg6 harg6 arg7 harg7 arg8 harg8 arg9 harg9 arg10 harg10 arg11 harg11 x0 x1 x2 x3 x4 x5 x6 x7 x8 xt0
        (ix4 h (0 : Fin 1) p e)
      = head (hd x0 h) (hd x1 h) (hd x2 h) (hd x3 h) (hd x4 h) (hd x5 h) (hd x6 h) (hd x7 h) (hd x8 h) (ix4 (0 : Fin 1) (0 : Fin 1) p e) := by
  have hc := cover0_A_9 c i arg2 harg2 arg3 harg3 arg4 harg4 arg5 harg5 arg6 harg6 arg7 harg7 arg8 harg8 arg9 harg9 arg10 harg10 arg11 harg11 x0 x1 x2 x3 x4 x5 x6 x7 x8 xt0 (ix4 h (0 : Fin 1) p e)
  unfold out0_A_9
  have slabs := head_read arg2 harg2 arg3 harg3 arg4 harg4 arg5 harg5 arg6 harg6 arg7 harg7 arg8 harg8 arg9 harg9 arg10 harg10
    x0 x1 x2 x3 x4 x5 x6 x7 x8
  refine (View.read_writes_apply_eq_canon _ _ _ _ hc).trans (View.canon_eq_of_allAt _ _ _ hc ?_)
  unfold kernelRun0_A
  refine View.allAt_cons_unit _ _ _ _ _ (fun x hx => ?_) <| View.allAt_cons_unit _ _ _ _ _ (fun x hx => ?_) <|
    View.allAt_cons_unit _ _ _ _ _ (fun x hx => ?_) <| View.allAt_cons_unit _ _ _ _ _ (fun x hx => ?_) <|
    View.allAt_cons_unit _ _ _ _ _ (fun x hx => ?_) <| View.allAt_cons_unit _ _ _ _ _ (fun x hx => ?_) <|
    View.allAt_cons_unit _ _ _ _ _ (fun x hx => ?_) <| View.allAt_cons_unit _ _ _ _ _ (fun x hx => ?_) <| View.allAt_nil _ _
  · obtain ⟨rfl, rfl⟩ := at_piece 7 h p e x hx
    exact congrFun ((head7 _ _ _ _ _ _ _ _ _).trans (slabs 7 inb_S8x1x64x24_S1x1x64x24_7_0_0_0)) _
  · obtain ⟨rfl, rfl⟩ := at_piece 6 h p e x hx
    exact congrFun ((head6 _ _ _ _ _ _ _ _ _).trans (slabs 6 inb_S8x1x64x24_S1x1x64x24_6_0_0_0)) _
  · obtain ⟨rfl, rfl⟩ := at_piece 5 h p e x hx
    exact congrFun ((head5 _ _ _ _ _ _ _ _ _).trans (slabs 5 inb_S8x1x64x24_S1x1x64x24_5_0_0_0)) _
  · obtain ⟨rfl, rfl⟩ := at_piece 4 h p e x hx
    exact congrFun ((head4 _ _ _ _ _ _ _ _ _).trans (slabs 4 inb_S8x1x64x24_S1x1x64x24_4_0_0_0)) _
  · obtain ⟨rfl, rfl⟩ := at_piece 3 h p e x hx
    exact congrFun ((head3 _ _ _ _ _ _ _ _ _).trans (slabs 3 inb_S8x1x64x24_S1x1x64x24_3_0_0_0)) _
  · obtain ⟨rfl, rfl⟩ := at_piece 2 h p e x hx
    exact congrFun ((head2 _ _ _ _ _ _ _ _ _).trans (slabs 2 inb_S8x1x64x24_S1x1x64x24_2_0_0_0)) _
  · obtain ⟨rfl, rfl⟩ := at_piece 1 h p e x hx
    exact congrFun ((head1 _ _ _ _ _ _ _ _ _).trans (slabs 1 inb_S8x1x64x24_S1x1x64x24_1_0_0_0)) _
  · obtain ⟨rfl, rfl⟩ := at_piece 0 h p e x hx
    exact congrFun ((head0 _ _ _ _ _ _ _ _ _).trans (slabs 0 inb_S8x1x64x24_S1x1x64x24_0_0_0_0)) _

end Cert.AttIdeal.Block

end
-- ==== Proof.AttSoft.lean ====
module

public import Idealize.ShloMosaic.Lib.Pointwise.Reshape
public import Idealize.ShloMosaic.Lib.Pointwise.Reduce

@[expose] public section

set_option maxRecDepth 65536

noncomputable section

namespace Cert.AttSoft

open Idealize.ShloMosaic

/-! ## Attention of one query to 256 keys, as both programs compute it -/

/-- The scale of the logits. -/
def scale : EReal := Ideal.ofBits .f32 0x3D93CD3A#32

/-- The greatest of the logits. -/
def top (l : Fin 256 → EReal) : EReal := (Finset.univ : Finset (Fin 256)).fold max ⊥ l

/-- The softmax of the logits, summed against the values. -/
def soft (l v : Fin 256 → EReal) : EReal :=
  ∑ n : Fin 256, Ideal.div (Ideal.exp (l n - top l)) (∑ n' : Fin 256, Ideal.exp (l n' - top l)) * v n

/-- The region, of a query's four, that a key lies in. -/
def part (n : Fin 256) : Fin 4 := ⟨n.val / 64, by omega⟩

/-- A key's place within its region. -/
def place (n : Fin 256) : Fin 64 := ⟨n.val % 64, by omega⟩

/-- An array's element for head `h`, region `r`, pixel `p` of the region and channel `e` of the head. -/
def pix (z : (⟨2, ![8192, 192]⟩ : Shape).Idx → EReal) (h : Fin 8) (r : Fin 128) (p : Fin 64) (e : Fin 24) : EReal :=
  z (ix2 (⟨r.val / 16 * 1024 + r.val / 4 % 4 * 256 + p.val / 8 * 32 + r.val % 4 * 8 + p.val % 8, by omega⟩ : Fin 8192)
    (⟨h.val * 24 + e.val, by omega⟩ : Fin 192))

/-- The attention of every query to the keys of the four regions that its region is given. -/
def att (q k v : (⟨2, ![8192, 192]⟩ : Shape).Idx → EReal) (s : Fin 128 → Fin 4 → Fin 128) (h : Fin 8) (r : Fin 128) (p : Fin 64) (d : Fin 24) :
    EReal :=
  soft (fun n => ∑ e : Fin 24, (pix q h r p e * scale) * pix k h (s r (part n)) (place n) e) (fun n => pix v h (s r (part n)) (place n) d)

end Cert.AttSoft

end
-- ==== Proof.AttRead.lean ====
module

public import proofs.«01_k».proof.Proof.AttHead
public import proofs.«01_k».proof.Proof.AttSoft
public import Idealize.ShloMosaic.Lib.MatmulPlain
public import Idealize.ShloMosaic.Lib.Pipeline.Value

@[expose] public section

set_option maxRecDepth 65536

noncomputable section

namespace Cert.AttIdeal.Read

open Cert.AttIdeal Cert.AttIdeal.Gen Cert.AttIdeal.Head Cert.AttSoft Idealize.ShloMosaic Idealize.ShloMosaic.TcCoe

/-! ## A head's attention, read at an entry -/

/-- A slab's two unit axes dropped. -/
theorem drop_apply (x : Vec Ideal S1x1x64x24 .f32) (p : Fin 64) (e : Fin 24) :
    shapeCast S64x24 x shapeCasts_S1x1x64x24_S64x24 (ix2 p e) = x (ix4 (0 : Fin 1) (0 : Fin 1) p e) := by
  refine shapeCast_apply _ _ _ _ ?_
  rw [Shape.rowMajor_val_two, Shape.rowMajor_val_four]
  show ((0 * 1 + 0) * 64 + p.val) * 24 + e.val = p.val * 24 + e.val
  omega

/-- The scaled queries at an entry. -/
theorem scaled_apply (q : Vec Ideal S1x1x64x24 .f32) (p : Fin 64) (e : Fin 24) :
    scaled q (ix2 p e) = (q (ix4 (0 : Fin 1) (0 : Fin 1) p e) * scale : EReal) := by
  show (shapeCast S64x24 q shapeCasts_S1x1x64x24_S64x24 (ix2 p e) : EReal) * scale = _
  rw [drop_apply]

/-- A product of a scaled query with a key. -/
def prod (q k : Vec Ideal S1x1x64x24 .f32) (p m : Fin 64) : EReal :=
  ∑ e : Fin 24, (q (ix4 (0 : Fin 1) (0 : Fin 1) p e) * scale : EReal) * k (ix4 (0 : Fin 1) (0 : Fin 1) m e)

/-- The products of queries and one region's keys at an entry. -/
theorem scores_apply (q k : Vec Ideal S1x1x64x24 .f32) (p m : Fin 64) : scores q k (ix2 p m) = prod q k p m := by
  refine (Ideal.matmul_transposedRhs_apply (M := 64) (K := 24) (N := 64) _ (scaled q) _ _ p m).trans ?_
  have h0 : (constant (F := Ideal) S64x64 .f32 0x00000000#32 (ix2 p m) : EReal) = 0 := Ideal.ofBits_zero_f32
  refine (congrArg₂ (· + ·) h0 rfl).trans ?_
  rw [zero_add]
  exact Finset.sum_congr rfl fun d _ => congrArg₂ (· * ·) (scaled_apply q p d) (drop_apply k m d)

/-- The logits at an entry: the products with the key that the column names. -/
theorem logits_apply (q k0 k1 k2 k3 : Vec Ideal S1x1x64x24 .f32) (p : Fin 64) (n : Fin 256) :
    logits q k0 k1 k2 k3 (ix2 p n) = prod q ((![k0, k1, k2, k3] : Fin 4 → Vec Ideal S1x1x64x24 .f32) (part n)) p (place n) := by
  refine Eq.trans ?_ (scores_apply q _ p (place n))
  exact concatenate_ofFn_apply (s₁ := S64x64) (t := S64x256) (1 : Fin 2)
    (fun c : Fin 4 => scores q ((![k0, k1, k2, k3] : Fin 4 → Vec Ideal S1x1x64x24 .f32) c)) _ rfl 64 rfl (ix2 p n) (part n) rfl
    (ix2 p (place n)) rfl (fun b hb => by
      match b with
      | ⟨0, _⟩ => rfl
      | ⟨1, _⟩ => exact absurd rfl hb)

/-- The values of the four regions, one after the other, at an entry. -/
theorem vals_apply (v0 v1 v2 v3 : Vec Ideal S1x1x64x24 .f32) (n : Fin 256) (e : Fin 24) :
    vals v0 v1 v2 v3 (ix2 n e) = (![v0, v1, v2, v3] : Fin 4 → Vec Ideal S1x1x64x24 .f32) (part n) (ix4 (0 : Fin 1) (0 : Fin 1) (place n) e) := by
  refine Eq.trans ?_ (drop_apply _ (place n) e)
  exact concatenate_ofFn_apply (s₁ := S64x24) (t := S256x24) (0 : Fin 2)
    (fun c : Fin 4 => shapeCast S64x24 ((![v0, v1, v2, v3] : Fin 4 → Vec Ideal S1x1x64x24 .f32) c) shapeCasts_S1x1x64x24_S64x24) _ rfl 64 rfl
    (ix2 n e) (part n) rfl (ix2 (place n) e) rfl (fun b hb => by
      match b with
      | ⟨0, _⟩ => exact absurd rfl hb
      | ⟨1, _⟩ => rfl)

/-- A column spread over 256. -/
theorem spread_apply (x : FVec Ideal S64 .f32) (p : Fin 64) (n : Fin 256) :
    broadcastTo S64x256 (shapeCast S64x1 x shapeCasts_S64_S64x1) broadcasts_S64x1_S64x256 (ix2 p n) = x (ix1 p) := by
  refine (broadcastTo_apply _ _ _ (ix2 p (0 : Fin 1)) (fun a => by
      match a with
      | ⟨0, _⟩ => rfl
      | ⟨1, _⟩ => rfl)).trans (shapeCast_apply _ _ _ _ ?_)
  rw [Shape.rowMajor_val_one, Shape.rowMajor_val_two]
  show p.val = p.val * 1 + 0
  omega

/-- The exponentials at an entry. -/
theorem exps_apply (l : FVec Ideal S64x256 .f32) (p : Fin 64) (n : Fin 256) :
    exps l (ix2 p n) = Ideal.exp ((l (ix2 p n) : EReal) - top fun m => l (ix2 p m)) := by
  show Ideal.exp ((l (ix2 p n) : EReal) - broadcastTo S64x256 (shapeCast S64x1 (multiReduction .maximumf [1] S64 l 0xFF800000#32
    reduces_S64x256_S64 (.inl rfl) rfl) shapeCasts_S64_S64x1) broadcasts_S64x1_S64x256 (ix2 p n)) = _
  have e := (spread_apply (multiReduction .maximumf [1] S64 l 0xFF800000#32 reduces_S64x256_S64 (.inl rfl) rfl) p n).trans
    ((multiReduction_maximumf_eq_fold l _ _ _ _ _).trans (Shape.Reduces.fold_fiber_r2_a1 _ _ _ _ _))
  have hb : (FloatOps.ofBits (F := Ideal) .f32 0xFF800000#32 : EReal) = ⊥ := by
    show Ideal.ofBits .f32 0xFF800000#32 = ⊥
    simp [Ideal.ofBits, Ideal.ieee]
  rw [hb] at e
  exact congrArg (fun z => Ideal.exp ((l (ix2 p n) : EReal) - z)) e

/-- The softmax along a row at an entry. -/
theorem probs_apply (l : FVec Ideal S64x256 .f32) (p : Fin 64) (n : Fin 256) :
    probs l (ix2 p n) = Ideal.div (Ideal.exp ((l (ix2 p n) : EReal) - top fun m => l (ix2 p m)))
      (∑ n' : Fin 256, Ideal.exp ((l (ix2 p n') : EReal) - top fun m => l (ix2 p m))) := by
  show Ideal.div (exps l (ix2 p n)) (broadcastTo S64x256 (shapeCast S64x1 (multiReduction .add [1] S64 (exps l) 0x00000000#32
    reduces_S64x256_S64 (.inl rfl) rfl) shapeCasts_S64_S64x1) broadcasts_S64x1_S64x256 (ix2 p n)) = _
  have e := (spread_apply (multiReduction .add [1] S64 (exps l) 0x00000000#32 reduces_S64x256_S64 (.inl rfl) rfl) p n).trans
    (Ideal.reduceAdd_r2_a1 reduces_S64x256_S64 (exps l) (ix1 p))
  exact congrArg₂ Ideal.div (exps_apply l p n) (e.trans (Finset.sum_congr rfl fun m _ => exps_apply l p m))

/-- A head's attention at an entry is the softmax of the query's logits, summed against the values. -/
theorem head_apply (q k0 k1 k2 k3 v0 v1 v2 v3 : Vec Ideal S1x1x64x24 .f32) (p : Fin 64) (e : Fin 24) :
    head q k0 k1 k2 k3 v0 v1 v2 v3 (ix4 (0 : Fin 1) (0 : Fin 1) p e) =
      soft (fun n => prod q ((![k0, k1, k2, k3] : Fin 4 → Vec Ideal S1x1x64x24 .f32) (part n)) p (place n))
        (fun n => (![v0, v1, v2, v3] : Fin 4 → Vec Ideal S1x1x64x24 .f32) (part n) (ix4 (0 : Fin 1) (0 : Fin 1) (place n) e)) := by
  have e1 : head q k0 k1 k2 k3 v0 v1 v2 v3 (ix4 (0 : Fin 1) (0 : Fin 1) p e) =
      matmul dot_S64x256_S256x24_S64x24_1_0_0_1_n_n none (probs (logits q k0 k1 k2 k3)) (vals v0 v1 v2 v3)
        (constant S64x24 .f32 0x00000000#32) (ix2 p e) := by
    unfold head
    refine shapeCast_apply _ _ _ _ ?_
    rw [Shape.rowMajor_val_two, Shape.rowMajor_val_four]
    show p.val * 24 + e.val = ((0 * 1 + 0) * 64 + p.val) * 24 + e.val
    omega
  refine e1.trans ((Ideal.matmul_plain_apply (M := 64) (K := 256) (N := 24) _ (probs (logits q k0 k1 k2 k3)) (vals v0 v1 v2 v3) _ p e).trans ?_)
  have h0 : (constant (F := Ideal) S64x24 .f32 0x00000000#32 (ix2 p e) : EReal) = 0 := Ideal.ofBits_zero_f32
  refine (congrArg₂ (· + ·) h0 rfl).trans ?_
  rw [zero_add]
  have hl : ∀ n : Fin 256, logits q k0 k1 k2 k3 (ix2 p n) = prod q ((![k0, k1, k2, k3] : Fin 4 → Vec Ideal S1x1x64x24 .f32) (part n)) p (place n) :=
    fun n => logits_apply q k0 k1 k2 k3 p n
  have hf := funext hl
  refine Finset.sum_congr rfl fun n _ => congrArg₂ (· * ·) ((probs_apply (logits q k0 k1 k2 k3) p n).trans ?_) (vals_apply v0 v1 v2 v3 n e)
  exact congrArg (fun f : Fin 256 → EReal => Ideal.div (Ideal.exp (f n - top f)) (∑ n' : Fin 256, Ideal.exp (f n' - top f))) hf

end Cert.AttIdeal.Read

end
-- ==== Proof.AttRange.lean ====
module

public import proofs.«01_k».proof.Defs
public import proofs.«01_k».proof.Proof.Gen.Pre_in_range
public import Idealize.ShloMosaic.Lib.Pointwise.ShapeOpsCore
public import Idealize.ShloMosaic.Lib.ReduceAll

@[expose] public section

set_option maxRecDepth 65536

noncomputable section

namespace Cert.AttRange

open Idealize.ShloMosaic

/-- An array without axes has one index. -/
instance : Subsingleton (⟨0, ![]⟩ : Shape).Idx := ⟨fun a b => funext fun i => i.elim0⟩

/-- A conjunction of two bits is one when both are. -/
theorem and_one (a b : BitVec 1) (h : IntOp.andi a b = 1#1) : a = 1#1 ∧ b = 1#1 := by
  revert a b; decide

/-- A word at least 0 and less than 128, as signed numbers, is less than 128 as a natural number. -/
theorem lt_of_cmp (w : BitVec 32) (h0 : IntOp.cmpi .sge w 0#32 = 1#1) (h1 : IntOp.cmpi .slt w 128#32 = 1#1) : w.toNat < 128 := by
  have ofBool_eq_one (p : Bool) : (BitVec.ofBool p = 1#1) ↔ p = true := by cases p <;> decide
  simp only [ofBool_eq_one, IntOp.cmpi, BitVec.sle, BitVec.slt, decide_eq_true_eq, BitVec.toInt, BitVec.toNat_ofNat] at h0 h1
  simp at h0 h1
  have := w.isLt
  split at h1 <;> split at h0 <;> omega

/-- The precondition says that every index is a region's. -/
theorem lt_of_in_range {F : FTy → Type} [FloatOps F] (idx : IVec Cert.Pre_in_range.S128x4 32) (q k v : FVec F Cert.Pre_in_range.S8192x192 .f32)
    (h : Cert.Pre_in_range.fn (F := F) idx q k v = fun _ => 1#1) (i : Cert.Pre_in_range.S128x4.Idx) : (idx i).toNat < 128 := by
  have e := congrFun h (fun a => a.elim0)
  have h1 := Host.reduce_andi_all _ _ _ _ _ e i
  obtain ⟨a, b⟩ := and_one _ _ h1
  exact lt_of_cmp _ a b

end Cert.AttRange

end
-- ==== Proof.AttOk.lean ====
module

public import proofs.«01_k».proof.Proof.AttRange
public import proofs.«01_k».proof.Proof.Gen.AttIdeal.Frame

@[expose] public section

set_option maxRecDepth 65536

noncomputable section

namespace Cert.AttIdeal.At

open Cert.AttIdeal Cert.AttIdeal.Gen Idealize.ShloMosaic Idealize.ShloMosaic.TcCoe Idealize.SL.Sem

variable {F : FTy → Type} [FloatOps F] (m : (ℓ : Loc nD τ sig) → Buf (Elt F) ℓ)

/-- The table the region is handed: the indices, laid out in one row. -/
def flat (i : IVec S128x4 32) : IVec S512 32 := shapeCast S512 i shapeCasts_S128x4_S512

/-- The region finds the indices laid out in one row. -/
theorem V_tbl (c : Dev nD) : V m c main_v0 = flat (m ((c : Thread nD τ).loc main_arg0)) := by
  show StableHlo.after (hostOps0 (F := F)) (fun b => m (c, b)) (Proc.devRef .tc main_v0) = _
  simp only [hostOps0]
  after_results
  rfl

/-- With every index a region's, each word of the table is a region's. -/
theorem tbl_lt (h : ∀ i, ((m (((0 : Dev nD) : Thread nD τ).loc main_arg0) : IVec S128x4 32) i).toNat < 128) (j : S512.Idx) : ((tbl m 0 : IVec S512 32) j).toNat < 128 := by
  have e : (tbl m 0 : IVec S512 32) = flat (m (((0 : Dev nD) : Thread nD τ).loc main_arg0)) := V_tbl m 0
  rw [e]
  exact h _

/-- A block of region number below 128 is inside the array. -/
theorem inside (v : BitVec 32) (h : v.toNat < 128) (a : Fin 4) :
    ((![(0#32 : BitVec 32).toNat, v.toNat, (0#32 : BitVec 32).toNat, (0#32 : BitVec 32).toNat] : Fin 4 → ℕ) a + 1) * S8x1x64x24.size a ≤ S8x128x64x24.size a := by
  fin_cases a
  · exact (by decide : (0 + 1) * 8 ≤ 8)
  · show (v.toNat + 1) * 1 ≤ 128
    omega
  · exact (by decide : (0 + 1) * 64 ≤ 64)
  · exact (by decide : (0 + 1) * 24 ≤ 24)

/-- With every index a region's, every block the table names is inside its array. -/
theorem ok (h : ∀ i, ((m (((0 : Dev nD) : Thread nD τ).loc main_arg0) : IVec S128x4 32) i).toNat < 128) : Ok m := by
  have g := tbl_lt m h
  exact ⟨fun i => ⟨inside _ (g _), .inl rfl⟩, fun i => ⟨inside _ (g _), .inl rfl⟩, fun i => ⟨inside _ (g _), .inl rfl⟩, fun i => ⟨inside _ (g _), .inl rfl⟩,
    fun i => ⟨inside _ (g _), .inl rfl⟩, fun i => ⟨inside _ (g _), .inl rfl⟩, fun i => ⟨inside _ (g _), .inl rfl⟩, fun i => ⟨inside _ (g _), .inl rfl⟩⟩

end Cert.AttIdeal.At

end
-- ==== Proof.AttBlocks.lean ====
module

public import proofs.«01_k».proof.Proof.AttBlock
public import proofs.«01_k».proof.Proof.AttRead
public import proofs.«01_k».proof.Proof.AttOk

@[expose] public section

set_option maxRecDepth 65536

noncomputable section

namespace Cert.AttIdeal.Blocks

open Cert.AttIdeal Cert.AttIdeal.Gen Cert.AttIdeal.Head Cert.AttIdeal.Block Cert.AttIdeal.Read Cert.AttSoft Idealize.ShloMosaic Idealize.ShloMosaic.TcCoe Idealize.SL.Sem
open Idealize.ShloMosaic.Pipeline (Dat)

variable {F : FTy → Type} [FloatOps F] (m : (ℓ : Loc nD τ sig) → Buf (Elt F) ℓ)

/-- The grid's points are the regions. -/
theorem coords_val (t : Fin grid0.N) : ((grid0.coords t) 0).val = t.val := by
  revert t
  decide +kernel

/-- The table's word at four times a region plus `j` is the `j`-th index of the region. -/
theorem word (r : Fin 128) (j : Fin 4) (o : ℕ) (ho : o = r.val * 4 + j.val) (hb : ∀ a, (![o] : Fin 1 → ℕ) a + S1.size a ≤ S512.size a)
    (hn : 0 < (Rect.unit (s := S512) ![o] S1.size hb).shape.numel) :
    (tbl m 0 : IVec S512 32) ((Rect.unit (s := S512) ![o] S1.size hb).emb (Shape.Idx.first hn))
      = (m (((0 : Dev nD) : Thread nD τ).loc main_arg0) : IVec S128x4 32) (ix2 r j) := by
  have e : (tbl m 0 : IVec S512 32) = At.flat (m (((0 : Dev nD) : Thread nD τ).loc main_arg0)) := At.V_tbl m 0
  rw [e]
  unfold At.flat
  refine shapeCast_apply _ _ _ _ ?_
  rw [Shape.rowMajor_val_one, Shape.rowMajor_val_two]
  subst ho
  show r.val * 4 + j.val = r.val * 4 + j.val + 1 * 0
  omega

/-- The word a window's index map reads. -/
theorem offset (t : Fin grid0.N) (j : Fin 4) :
    ((Scalar.addi (Scalar.muli 4#32 (BitVec.ofNat 32 ((grid0.coords t) 0).val)) (BitVec.ofNat 32 j.val)) : BitVec 32).toNat = t.val * 4 + j.val := by
  revert t j
  decide +kernel

variable (hO : Ok m) (c : Dev nD) (t : Fin grid0.N)

/-- The block of queries is the region's own. -/
theorem blk0 (h : Fin 8) (p : Fin 64) (e : Fin 24) :
    (iblk m hO c 0 t : Vec F S8x1x64x24 .f32) (ix4 h (0 : Fin 1) p e) = V m c main_v3 (ix4 h (⟨t.val, t.isLt⟩ : Fin 128) p e) := by
  unfold iblk
  show V m c main_v3 _ = _
  refine congrArg (V m c main_v3) (funext fun a => Fin.ext ?_)
  match a with
  | ⟨0, _⟩ =>
    show 0 * 8 + 1 * h.val = h.val
    omega
  | ⟨1, _⟩ =>
    show (BitVec.ofNat 32 ((grid0.coords t) 0).val).toNat * 1 + 1 * 0 = t.val
    rw [coords_val, BitVec.toNat_ofNat]
    have : t.val < 128 := t.isLt
    omega
  | ⟨2, _⟩ =>
    show 0 * 64 + 1 * p.val = p.val
    omega
  | ⟨3, _⟩ =>
    show 0 * 24 + 1 * e.val = e.val
    omega

/-- A block of keys is the region's that the table's word names. -/
theorem blk1 (h : Fin 8) (p : Fin 64) (e : Fin 24) (r : Fin 128)
   (hr : r.val = ((m (((0 : Dev nD) : Thread nD τ).loc main_arg0) : IVec S128x4 32) (ix2 (⟨t.val, t.isLt⟩ : Fin 128) (0 : Fin 4))).toNat) :
    (iblk m hO c 1 t : Vec F S8x1x64x24 .f32) (ix4 h (0 : Fin 1) p e) = V m c main_v6 (ix4 h r p e) := by
  unfold iblk
  show V m c main_v6 _ = _
  refine congrArg (V m c main_v6) (funext fun a => Fin.ext ?_)
  match a with
  | ⟨0, _⟩ =>
    show 0 * 8 + 1 * h.val = h.val
    omega
  | ⟨1, _⟩ =>
    show ((tbl m 0 : IVec S512 32) ((Rect.unit (s := S512) ![_] S1.size _).emb (Shape.Idx.first _))).toNat * 1 + 1 * 0 = r.val
    rw [hr]
    refine (congrArg (fun w : BitVec 32 => w.toNat * 1 + 1 * 0) (word m (⟨t.val, t.isLt⟩ : Fin 128) 0 _ (offset t 0) _ _)).trans ?_
    omega
  | ⟨2, _⟩ =>
    show 0 * 64 + 1 * p.val = p.val
    omega
  | ⟨3, _⟩ =>
    show 0 * 24 + 1 * e.val = e.val
    omega

/-- A block of keys is the region's that the table's word names. -/
theorem blk2 (h : Fin 8) (p : Fin 64) (e : Fin 24) (r : Fin 128)
   (hr : r.val = ((m (((0 : Dev nD) : Thread nD τ).loc main_arg0) : IVec S128x4 32) (ix2 (⟨t.val, t.isLt⟩ : Fin 128) (1 : Fin 4))).toNat) :
    (iblk m hO c 2 t : Vec F S8x1x64x24 .f32) (ix4 h (0 : Fin 1) p e) = V m c main_v6 (ix4 h r p e) := by
  unfold iblk
  show V m c main_v6 _ = _
  refine congrArg (V m c main_v6) (funext fun a => Fin.ext ?_)
  match a with
  | ⟨0, _⟩ =>
    show 0 * 8 + 1 * h.val = h.val
    omega
  | ⟨1, _⟩ =>
    show ((tbl m 0 : IVec S512 32) ((Rect.unit (s := S512) ![_] S1.size _).emb (Shape.Idx.first _))).toNat * 1 + 1 * 0 = r.val
    rw [hr]
    refine (congrArg (fun w : BitVec 32 => w.toNat * 1 + 1 * 0) (word m (⟨t.val, t.isLt⟩ : Fin 128) 1 _ (offset t 1) _ _)).trans ?_
    omega
  | ⟨2, _⟩ =>
    show 0 * 64 + 1 * p.val = p.val
    omega
  | ⟨3, _⟩ =>
    show 0 * 24 + 1 * e.val = e.val
    omega

/-- A block of keys is the region's that the table's word names. -/
theorem blk3 (h : Fin 8) (p : Fin 64) (e : Fin 24) (r : Fin 128)
   (hr : r.val = ((m (((0 : Dev nD) : Thread nD τ).loc main_arg0) : IVec S128x4 32) (ix2 (⟨t.val, t.isLt⟩ : Fin 128) (2 : Fin 4))).toNat) :
    (iblk m hO c 3 t : Vec F S8x1x64x24 .f32) (ix4 h (0 : Fin 1) p e) = V m c main_v6 (ix4 h r p e) := by
  unfold iblk
  show V m c main_v6 _ = _
  refine congrArg (V m c main_v6) (funext fun a => Fin.ext ?_)
  match a with
  | ⟨0, _⟩ =>
    show 0 * 8 + 1 * h.val = h.val
    omega
  | ⟨1, _⟩ =>
    show ((tbl m 0 : IVec S512 32) ((Rect.unit (s := S512) ![_] S1.size _).emb (Shape.Idx.first _))).toNat * 1 + 1 * 0 = r.val
    rw [hr]
    refine (congrArg (fun w : BitVec 32 => w.toNat * 1 + 1 * 0) (word m (⟨t.val, t.isLt⟩ : Fin 128) 2 _ (offset t 2) _ _)).trans ?_
    omega
  | ⟨2, _⟩ =>
    show 0 * 64 + 1 * p.val = p.val
    omega
  | ⟨3, _⟩ =>
    show 0 * 24 + 1 * e.val = e.val
    omega

/-- A block of keys is the region's that the table's word names. -/
theorem blk4 (h : Fin 8) (p : Fin 64) (e : Fin 24) (r : Fin 128)
   (hr : r.val = ((m (((0 : Dev nD) : Thread nD τ).loc main_arg0) : IVec S128x4 32) (ix2 (⟨t.val, t.isLt⟩ : Fin 128) (3 : Fin 4))).toNat) :
    (iblk m hO c 4 t : Vec F S8x1x64x24 .f32) (ix4 h (0 : Fin 1) p e) = V m c main_v6 (ix4 h r p e) := by
  unfold iblk
  show V m c main_v6 _ = _
  refine congrArg (V m c main_v6) (funext fun a => Fin.ext ?_)
  match a with
  | ⟨0, _⟩ =>
    show 0 * 8 + 1 * h.val = h.val
    omega
  | ⟨1, _⟩ =>
    show ((tbl m 0 : IVec S512 32) ((Rect.unit (s := S512) ![_] S1.size _).emb (Shape.Idx.first _))).toNat * 1 + 1 * 0 = r.val
    rw [hr]
    refine (congrArg (fun w : BitVec 32 => w.toNat * 1 + 1 * 0) (word m (⟨t.val, t.isLt⟩ : Fin 128) 3 _ (offset t 3) _ _)).trans ?_
    omega
  | ⟨2, _⟩ =>
    show 0 * 64 + 1 * p.val = p.val
    omega
  | ⟨3, _⟩ =>
    show 0 * 24 + 1 * e.val = e.val
    omega

/-- A block of values is the region's that the table's word names. -/
theorem blk5 (h : Fin 8) (p : Fin 64) (e : Fin 24) (r : Fin 128)
   (hr : r.val = ((m (((0 : Dev nD) : Thread nD τ).loc main_arg0) : IVec S128x4 32) (ix2 (⟨t.val, t.isLt⟩ : Fin 128) (0 : Fin 4))).toNat) :
    (iblk m hO c 5 t : Vec F S8x1x64x24 .f32) (ix4 h (0 : Fin 1) p e) = V m c main_v9 (ix4 h r p e) := by
  unfold iblk
  show V m c main_v9 _ = _
  refine congrArg (V m c main_v9) (funext fun a => Fin.ext ?_)
  match a with
  | ⟨0, _⟩ =>
    show 0 * 8 + 1 * h.val = h.val
    omega
  | ⟨1, _⟩ =>
    show ((tbl m 0 : IVec S512 32) ((Rect.unit (s := S512) ![_] S1.size _).emb (Shape.Idx.first _))).toNat * 1 + 1 * 0 = r.val
    rw [hr]
    refine (congrArg (fun w : BitVec 32 => w.toNat * 1 + 1 * 0) (word m (⟨t.val, t.isLt⟩ : Fin 128) 0 _ (offset t 0) _ _)).trans ?_
    omega
  | ⟨2, _⟩ =>
    show 0 * 64 + 1 * p.val = p.val
    omega
  | ⟨3, _⟩ =>
    show 0 * 24 + 1 * e.val = e.val
    omega

/-- A block of values is the region's that the table's word names. -/
theorem blk6 (h : Fin 8) (p : Fin 64) (e : Fin 24) (r : Fin 128)
   (hr : r.val = ((m (((0 : Dev nD) : Thread nD τ).loc main_arg0) : IVec S128x4 32) (ix2 (⟨t.val, t.isLt⟩ : Fin 128) (1 : Fin 4))).toNat) :
    (iblk m hO c 6 t : Vec F S8x1x64x24 .f32) (ix4 h (0 : Fin 1) p e) = V m c main_v9 (ix4 h r p e) := by
  unfold iblk
  show V m c main_v9 _ = _
  refine congrArg (V m c main_v9) (funext fun a => Fin.ext ?_)
  match a with
  | ⟨0, _⟩ =>
    show 0 * 8 + 1 * h.val = h.val
    omega
  | ⟨1, _⟩ =>
    show ((tbl m 0 : IVec S512 32) ((Rect.unit (s := S512) ![_] S1.size _).emb (Shape.Idx.first _))).toNat * 1 + 1 * 0 = r.val
    rw [hr]
    refine (congrArg (fun w : BitVec 32 => w.toNat * 1 + 1 * 0) (word m (⟨t.val, t.isLt⟩ : Fin 128) 1 _ (offset t 1) _ _)).trans ?_
    omega
  | ⟨2, _⟩ =>
    show 0 * 64 + 1 * p.val = p.val
    omega
  | ⟨3, _⟩ =>
    show 0 * 24 + 1 * e.val = e.val
    omega

/-- A block of values is the region's that the table's word names. -/
theorem blk7 (h : Fin 8) (p : Fin 64) (e : Fin 24) (r : Fin 128)
   (hr : r.val = ((m (((0 : Dev nD) : Thread nD τ).loc main_arg0) : IVec S128x4 32) (ix2 (⟨t.val, t.isLt⟩ : Fin 128) (2 : Fin 4))).toNat) :
    (iblk m hO c 7 t : Vec F S8x1x64x24 .f32) (ix4 h (0 : Fin 1) p e) = V m c main_v9 (ix4 h r p e) := by
  unfold iblk
  show V m c main_v9 _ = _
  refine congrArg (V m c main_v9) (funext fun a => Fin.ext ?_)
  match a with
  | ⟨0, _⟩ =>
    show 0 * 8 + 1 * h.val = h.val
    omega
  | ⟨1, _⟩ =>
    show ((tbl m 0 : IVec S512 32) ((Rect.unit (s := S512) ![_] S1.size _).emb (Shape.Idx.first _))).toNat * 1 + 1 * 0 = r.val
    rw [hr]
    refine (congrArg (fun w : BitVec 32 => w.toNat * 1 + 1 * 0) (word m (⟨t.val, t.isLt⟩ : Fin 128) 2 _ (offset t 2) _ _)).trans ?_
    omega
  | ⟨2, _⟩ =>
    show 0 * 64 + 1 * p.val = p.val
    omega
  | ⟨3, _⟩ =>
    show 0 * 24 + 1 * e.val = e.val
    omega

/-- A block of values is the region's that the table's word names. -/
theorem blk8 (h : Fin 8) (p : Fin 64) (e : Fin 24) (r : Fin 128)
   (hr : r.val = ((m (((0 : Dev nD) : Thread nD τ).loc main_arg0) : IVec S128x4 32) (ix2 (⟨t.val, t.isLt⟩ : Fin 128) (3 : Fin 4))).toNat) :
    (iblk m hO c 8 t : Vec F S8x1x64x24 .f32) (ix4 h (0 : Fin 1) p e) = V m c main_v9 (ix4 h r p e) := by
  unfold iblk
  show V m c main_v9 _ = _
  refine congrArg (V m c main_v9) (funext fun a => Fin.ext ?_)
  match a with
  | ⟨0, _⟩ =>
    show 0 * 8 + 1 * h.val = h.val
    omega
  | ⟨1, _⟩ =>
    show ((tbl m 0 : IVec S512 32) ((Rect.unit (s := S512) ![_] S1.size _).emb (Shape.Idx.first _))).toNat * 1 + 1 * 0 = r.val
    rw [hr]
    refine (congrArg (fun w : BitVec 32 => w.toNat * 1 + 1 * 0) (word m (⟨t.val, t.isLt⟩ : Fin 128) 3 _ (offset t 3) _ _)).trans ?_
    omega
  | ⟨2, _⟩ =>
    show 0 * 64 + 1 * p.val = p.val
    omega
  | ⟨3, _⟩ =>
    show 0 * 24 + 1 * e.val = e.val
    omega

/-! ## The arrays the region is handed -/

/-- An array of pixels and channels laid out by head and region. -/
def regions (z : FVec F S8192x192 .f32) : FVec F S8x128x64x24 .f32 :=
  shapeCast S8x128x64x24 (transpose S8x8x4x4x8x8x24 [5, 0, 1, 3, 2, 4, 6] (shapeCast S8x4x8x4x8x8x24 z shapeCasts_S8192x192_S8x4x8x4x8x8x24)
    transposes_S8x4x8x4x8x8x24_S8x8x4x4x8x8x24_5_0_1_3_2_4_6) shapeCasts_S8x8x4x4x8x8x24_S8x128x64x24

/-- The queries by head and region. -/
theorem V_q (c : Dev nD) : V m c main_v3 = regions (m ((c : Thread nD τ).loc main_arg1)) := by
  show StableHlo.after (hostOps0 (F := F)) (fun b => m (c, b)) (Proc.devRef .tc main_v3) = _
  simp only [hostOps0]
  after_results
  rfl

/-- The keys by head and region. -/
theorem V_k (c : Dev nD) : V m c main_v6 = regions (m ((c : Thread nD τ).loc main_arg2)) := by
  show StableHlo.after (hostOps0 (F := F)) (fun b => m (c, b)) (Proc.devRef .tc main_v6) = _
  simp only [hostOps0]
  after_results
  rfl

/-- The values by head and region. -/
theorem V_v (c : Dev nD) : V m c main_v9 = regions (m ((c : Thread nD τ).loc main_arg3)) := by
  show StableHlo.after (hostOps0 (F := F)) (fun b => m (c, b)) (Proc.devRef .tc main_v9) = _
  simp only [hostOps0]
  after_results
  rfl

/-- The array by head and region, element by element. -/
theorem regions_apply (z : FVec Ideal S8192x192 .f32) (h : Fin 8) (r : Fin 128) (p : Fin 64) (e : Fin 24) :
    regions (F := Ideal) z (ix4 h r p e) = pix z h r p e := by
  unfold regions
  refine (shapeCast_apply _ _ _ (ix7 h (⟨r.val / 16, by omega⟩ : Fin 8) (⟨r.val / 4 % 4, by omega⟩ : Fin 4) (⟨r.val % 4, by omega⟩ : Fin 4)
    (⟨p.val / 8, by omega⟩ : Fin 8) (⟨p.val % 8, by omega⟩ : Fin 8) e) (by
      rw [rowMajor_val7 _ 196608 24576 6144 1536 192 24 rfl rfl rfl rfl rfl rfl, Shape.rowMajor_val_four]
      show h.val * 196608 + r.val / 16 * 24576 + r.val / 4 % 4 * 6144 + r.val % 4 * 1536 + p.val / 8 * 192 + p.val % 8 * 24 + e.val =
        ((h.val * 128 + r.val) * 64 + p.val) * 24 + e.val
      omega)).trans ?_
  refine (transpose_apply _ _ _ _ (ix7 (⟨r.val / 16, by omega⟩ : Fin 8) (⟨r.val / 4 % 4, by omega⟩ : Fin 4) (⟨p.val / 8, by omega⟩ : Fin 8)
    (⟨r.val % 4, by omega⟩ : Fin 4) (⟨p.val % 8, by omega⟩ : Fin 8) h e) fun b => by
      match b with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl).trans ?_
  unfold pix
  refine shapeCast_apply _ _ _ _ ?_
  rw [rowMajor_val7 _ 196608 49152 6144 1536 192 24 rfl rfl rfl rfl rfl rfl, Shape.rowMajor_val_two]
  show (r.val / 16 * 1024 + r.val / 4 % 4 * 256 + p.val / 8 * 32 + r.val % 4 * 8 + p.val % 8) * 192 + (h.val * 24 + e.val) =
    r.val / 16 * 196608 + r.val / 4 % 4 * 49152 + p.val / 8 * 6144 + r.val % 4 * 1536 + p.val % 8 * 192 + h.val * 24 + e.val
  omega

end Cert.AttIdeal.Blocks
end
-- ==== Proof.AttFinal.lean ====
module

public import proofs.«01_k».proof.Proof.AttBlocks

@[expose] public section

set_option maxRecDepth 65536

noncomputable section

namespace Cert.AttIdeal.Final

open Cert.AttIdeal Cert.AttIdeal.Gen Cert.AttIdeal.Head Cert.AttIdeal.Block Cert.AttIdeal.Read Cert.AttIdeal.Blocks Cert.AttSoft
open Idealize.ShloMosaic Idealize.ShloMosaic.TcCoe Idealize.SL.Sem
open Idealize.ShloMosaic.Pipeline (Dat)

/-! ## The array the kernel leaves -/

/-- The regions that a table of indices below 128 gives each region. -/
def sel (i : IVec S128x4 32) (hi : ∀ j, (i j).toNat < 128) (r : Fin 128) (j : Fin 4) : Fin 128 := ⟨(i (ix2 r j)).toNat, hi _⟩

/-- The attention, by head, region, pixel of the region and channel of the head. -/
def res (i : IVec S128x4 32) (hi : ∀ j, (i j).toNat < 128) (q k v : FVec Ideal S8192x192 .f32) : FVec Ideal S8x128x64x24 .f32 :=
  fun y => att q k v (sel i hi) (y 0 : Fin 8) (y 1 : Fin 128) (y 2 : Fin 64) (y 3 : Fin 24)

/-- One of four things, by cases. -/
theorem four {α β : Type} (f : α → β) (a b c d : α) (g : Fin 4 → β) (h0 : f a = g 0) (h1 : f b = g 1) (h2 : f c = g 2) (h3 : f d = g 3) (j : Fin 4) :
    f ((![a, b, c, d] : Fin 4 → α) j) = g j := by
  match j with
  | 0 => exact h0
  | 1 => exact h1
  | 2 => exact h2
  | 3 => exact h3

variable (m : (ℓ : Loc nD τ sig) → Buf (Elt Ideal) ℓ) (hO : Ok m) (c : Dev nD) (t : Fin grid0.N)
  (hi : ∀ i, ((m (((0 : Dev nD) : Thread nD τ).loc main_arg0) : IVec S128x4 32) i).toNat < 128)

/-- What the body leaves at a point of the grid is that region's attention. -/
theorem out_eq (h : Fin 8) (p : Fin 64) (e : Fin 24) :
    (outsAt0 m hO c t : Vec Ideal S8x1x64x24 .f32) (ix4 h (0 : Fin 1) p e) =
      att (m ((c : Thread nD τ).loc main_arg1)) (m ((c : Thread nD τ).loc main_arg2)) (m ((c : Thread nD τ).loc main_arg3))
        (sel (m (((0 : Dev nD) : Thread nD τ).loc main_arg0)) hi) h (⟨t.val, t.isLt⟩ : Fin 128) p e := by
  have hq : ∀ e' : Fin 24, (hd (iblk m hO c 0 t : Vec Ideal S8x1x64x24 .f32) h (ix4 (0 : Fin 1) (0 : Fin 1) p e') : EReal) =
      pix (m ((c : Thread nD τ).loc main_arg1)) h (⟨t.val, t.isLt⟩ : Fin 128) p e' := fun e' =>
    (blk0 m hO c t h p e').trans ((congrFun (V_q m c) _).trans (regions_apply _ _ _ _ _))
  have hk := fun (p' : Fin 64) (e' : Fin 24) => four (fun x : Vec Ideal S1x1x64x24 .f32 => (x (ix4 (0 : Fin 1) (0 : Fin 1) p' e') : EReal))
    (hd (iblk m hO c 1 t : Vec Ideal S8x1x64x24 .f32) h) (hd (iblk m hO c 2 t : Vec Ideal S8x1x64x24 .f32) h)
    (hd (iblk m hO c 3 t : Vec Ideal S8x1x64x24 .f32) h) (hd (iblk m hO c 4 t : Vec Ideal S8x1x64x24 .f32) h)
    (fun j => pix (m ((c : Thread nD τ).loc main_arg2)) h (sel (m (((0 : Dev nD) : Thread nD τ).loc main_arg0)) hi (⟨t.val, t.isLt⟩ : Fin 128) j) p' e')
    ((blk1 m hO c t h p' e' _ rfl).trans ((congrFun (V_k m c) _).trans (regions_apply _ _ _ _ _)))
    ((blk2 m hO c t h p' e' _ rfl).trans ((congrFun (V_k m c) _).trans (regions_apply _ _ _ _ _)))
    ((blk3 m hO c t h p' e' _ rfl).trans ((congrFun (V_k m c) _).trans (regions_apply _ _ _ _ _)))
    ((blk4 m hO c t h p' e' _ rfl).trans ((congrFun (V_k m c) _).trans (regions_apply _ _ _ _ _)))
  have hv := fun (p' : Fin 64) (e' : Fin 24) => four (fun x : Vec Ideal S1x1x64x24 .f32 => (x (ix4 (0 : Fin 1) (0 : Fin 1) p' e') : EReal))
    (hd (iblk m hO c 5 t : Vec Ideal S8x1x64x24 .f32) h) (hd (iblk m hO c 6 t : Vec Ideal S8x1x64x24 .f32) h)
    (hd (iblk m hO c 7 t : Vec Ideal S8x1x64x24 .f32) h) (hd (iblk m hO c 8 t : Vec Ideal S8x1x64x24 .f32) h)
    (fun j => pix (m ((c : Thread nD τ).loc main_arg3)) h (sel (m (((0 : Dev nD) : Thread nD τ).loc main_arg0)) hi (⟨t.val, t.isLt⟩ : Fin 128) j) p' e')
    ((blk5 m hO c t h p' e' _ rfl).trans ((congrFun (V_v m c) _).trans (regions_apply _ _ _ _ _)))
    ((blk6 m hO c t h p' e' _ rfl).trans ((congrFun (V_v m c) _).trans (regions_apply _ _ _ _ _)))
    ((blk7 m hO c t h p' e' _ rfl).trans ((congrFun (V_v m c) _).trans (regions_apply _ _ _ _ _)))
    ((blk8 m hO c t h p' e' _ rfl).trans ((congrFun (V_v m c) _).trans (regions_apply _ _ _ _ _)))
  unfold outsAt0
  refine (out_apply _ _ _ _ _ _ _ _ _ _ _ _ _ _ _ _ _ _ _ _ _ _ _ _ _ _ _ _ _ _ _ _ h p e).trans ((head_apply _ _ _ _ _ _ _ _ _ p e).trans ?_)
  unfold att prod
  exact congrArg₂ soft (funext fun n => Finset.sum_congr rfl fun e' _ => congrArg₂ (fun a b : EReal => a * scale * b) (hq e') (hk (place n) e' (part n)))
    (funext fun n => hv (place n) e (part n))

/-- The block of a region's output lies at that region of the array. -/
theorem emb_out (h : Fin 8) (p : Fin 64) (e : Fin 24) :
    (((cfgM m hO).win 9).blk t).view.emb (ix4 h (0 : Fin 1) p e) = (ix4 h (⟨t.val, t.isLt⟩ : Fin 128) p e : S8x128x64x24.Idx) := by
  refine funext fun a => Fin.ext ?_
  match a with
  | ⟨0, _⟩ =>
    show 0 * 8 + 1 * h.val = h.val
    omega
  | ⟨1, _⟩ =>
    show (BitVec.ofNat 32 ((grid0.coords t) 0).val).toNat * 1 + 1 * 0 = t.val
    rw [coords_val, BitVec.toNat_ofNat]
    have : t.val < 128 := t.isLt
    omega
  | ⟨2, _⟩ =>
    show 0 * 64 + 1 * p.val = p.val
    omega
  | ⟨3, _⟩ =>
    show 0 * 24 + 1 * e.val = e.val
    omega

/-- An index of a block, by head, pixel and channel. -/
theorem ex (y : S8x1x64x24.Idx) : ∃ (h : Fin 8) (p : Fin 64) (e : Fin 24), y = ix4 h (0 : Fin 1) p e := by
  refine ⟨y 0, y 2, y 3, funext fun a => Fin.ext ?_⟩
  match a with
  | ⟨0, _⟩ => rfl
  | ⟨1, _⟩ =>
    have h1 : (y 1).val < 1 := (y 1).isLt
    show (y 1).val = 0
    omega
  | ⟨2, _⟩ => rfl
  | ⟨3, _⟩ => rfl

/-- An index of the array, by head, region, pixel and channel. -/
theorem ex4 (i : S8x128x64x24.Idx) : ∃ (h : Fin 8) (r : Fin 128) (p : Fin 64) (e : Fin 24), i = ix4 h r p e := by
  refine ⟨i 0, i 1, i 2, i 3, funext fun a => ?_⟩
  match a with
  | ⟨0, _⟩ => rfl
  | ⟨1, _⟩ => rfl
  | ⟨2, _⟩ => rfl
  | ⟨3, _⟩ => rfl

/-- An index of the array is in the block of its region. -/
theorem mem_out (i : S8x128x64x24.Idx) : ∃ t : Fin grid0.N, i ∈ (((cfgM m hO).win 9).blk t).view.set := by
  obtain ⟨h, r, p, e, rfl⟩ := ex4 i
  have h2 := View.emb_mem_set (((cfgM m hO).win 9).blk r).view (ix4 h (0 : Fin 1) p e)
  rw [emb_out m hO r h p e] at h2
  exact ⟨r, h2⟩

/-- What the body leaves, at an index of the block, is the array's element there. -/
theorem out_emb (y : S8x1x64x24.Idx) : (outsAt0 m hO c t : Vec Ideal S8x1x64x24 .f32) y =
    res (m (((0 : Dev nD) : Thread nD τ).loc main_arg0)) hi (m ((c : Thread nD τ).loc main_arg1)) (m ((c : Thread nD τ).loc main_arg2))
      (m ((c : Thread nD τ).loc main_arg3)) ((((cfgM m hO).win 9).blk t).view.emb y) := by
  obtain ⟨h, p, e, rfl⟩ := ex y
  rw [emb_out m hO t h p e]
  exact out_eq m hO c t hi h p e

/-- The array after the run. -/
theorem final : (dats m hO 0 c).arrAt 9 (cfgM m hO).N =
    res (m (((0 : Dev nD) : Thread nD τ).loc main_arg0)) hi (m ((c : Thread nD τ).loc main_arg1)) (m ((c : Thread nD τ).loc main_arg2))
      (m ((c : Thread nD τ).loc main_arg3)) := by
  refine (dats m hO 0 c).arrAt_eq_of_emb 9 _ (fun t hf y => ?_) (fun i => ?_)
  · rw [after0_9]
    exact out_emb m hO c t hi y
  · obtain ⟨t, ht⟩ := mem_out m hO i
    exact ⟨t, flush0_9 (adm m hO) t, ht⟩

end Cert.AttIdeal.Final

end
-- ==== Proof.AttRefTake.lean ====
module

public import proofs.«01_k».proof.Proof.AttSoft
public import proofs.«01_k».proof.Proof.Gen.AttRefIdeal.Run
public import Idealize.ShloMosaic.Lib.Pointwise.Reshape
public import Idealize.ShloMosaic.Lib.Pointwise.Reduce
public import Idealize.ShloMosaic.Lib.ReduceAll
public import Idealize.ShloMosaic.Lib.ValueIdxCore
public import Idealize.ShloMosaic.Lib.Pipeline.Value

@[expose] public section

set_option maxRecDepth 65536

noncomputable section

namespace Cert.AttRefIdeal.Take

open Cert.AttRefIdeal Cert.AttRefIdeal.Gen Cert.AttSoft Idealize.ShloMosaic Idealize.ShloMosaic.TcCoe

/-! ## The reference's layout of an array, and the regions it takes -/

/-- An array of pixels and channels laid out by head and region. -/
def lay (z : FVec Ideal S8192x192 .f32) : FVec Ideal S1x8x128x64x24 .f32 :=
  shapeCast S1x8x128x64x24 (transpose S1x8x8x4x4x1x8x8x24 [0, 1, 3, 5, 7, 4, 6, 8, 2]
    (shapeCast S1x8x24x8x1x4x8x4x8 (shapeCast S1x192x8x32x32 (transpose S192x8192 [1, 0] z transposes_S8192x192_S192x8192_1_0)
      shapeCasts_S192x8192_S1x192x8x32x32) shapeCasts_S1x192x8x32x32_S1x8x24x8x1x4x8x4x8)
    transposes_S1x8x24x8x1x4x8x4x8_S1x8x8x4x4x1x8x8x24_0_1_3_5_7_4_6_8_2) shapeCasts_S1x8x8x4x4x1x8x8x24_S1x8x128x64x24

/-- The array by head and region, element by element. -/
theorem lay_apply (z : FVec Ideal S8192x192 .f32) (h : Fin 8) (r : Fin 128) (p : Fin 64) (e : Fin 24) :
    lay z (ix5 (0 : Fin 1) h r p e) = pix z h r p e := by
  unfold lay
  refine (shapeCast_apply _ _ _ (ix9 (0 : Fin 1) h (⟨r.val / 16, by omega⟩ : Fin 8) (⟨r.val / 4 % 4, by omega⟩ : Fin 4) (⟨r.val % 4, by omega⟩ : Fin 4)
    (0 : Fin 1) (⟨p.val / 8, by omega⟩ : Fin 8) (⟨p.val % 8, by omega⟩ : Fin 8) e) (by
      rw [rowMajor_val9 _ 1572864 196608 24576 6144 1536 1536 192 24 rfl rfl rfl rfl rfl rfl rfl rfl, Shape.rowMajor_val_five]
      show 0 * 1572864 + h.val * 196608 + r.val / 16 * 24576 + r.val / 4 % 4 * 6144 + r.val % 4 * 1536 + 0 * 1536 + p.val / 8 * 192 + p.val % 8 * 24 + e.val =
        (((0 * 8 + h.val) * 128 + r.val) * 64 + p.val) * 24 + e.val
      omega)).trans ?_
  refine (transpose_apply _ _ _ _ (ix9 (0 : Fin 1) h e (⟨r.val / 16, by omega⟩ : Fin 8) (0 : Fin 1) (⟨r.val / 4 % 4, by omega⟩ : Fin 4)
    (⟨p.val / 8, by omega⟩ : Fin 8) (⟨r.val % 4, by omega⟩ : Fin 4) (⟨p.val % 8, by omega⟩ : Fin 8)) fun b => by
      match b with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => rfl
      | ⟨8, _⟩ => rfl).trans ?_
  refine (shapeCast_apply _ _ _ (ix5 (0 : Fin 1) (⟨h.val * 24 + e.val, by omega⟩ : Fin 192) (⟨r.val / 16, by omega⟩ : Fin 8)
    (⟨r.val / 4 % 4 * 8 + p.val / 8, by omega⟩ : Fin 32) (⟨r.val % 4 * 8 + p.val % 8, by omega⟩ : Fin 32)) (by
      rw [rowMajor_val9 _ 1572864 196608 8192 1024 1024 256 32 8 rfl rfl rfl rfl rfl rfl rfl rfl, Shape.rowMajor_val_five]
      show (((0 * 192 + (h.val * 24 + e.val)) * 8 + r.val / 16) * 32 + (r.val / 4 % 4 * 8 + p.val / 8)) * 32 + (r.val % 4 * 8 + p.val % 8) =
        0 * 1572864 + h.val * 196608 + e.val * 8192 + r.val / 16 * 1024 + 0 * 1024 + r.val / 4 % 4 * 256 + p.val / 8 * 32 + r.val % 4 * 8 + p.val % 8
      omega)).trans ?_
  unfold pix
  refine (shapeCast_apply _ _ _ (ix2 (⟨h.val * 24 + e.val, by omega⟩ : Fin 192)
    (⟨r.val / 16 * 1024 + r.val / 4 % 4 * 256 + p.val / 8 * 32 + r.val % 4 * 8 + p.val % 8, by omega⟩ : Fin 8192)) (by
      rw [Shape.rowMajor_val_two, Shape.rowMajor_val_five]
      show (h.val * 24 + e.val) * 8192 + (r.val / 16 * 1024 + r.val / 4 % 4 * 256 + p.val / 8 * 32 + r.val % 4 * 8 + p.val % 8) =
        (((0 * 192 + (h.val * 24 + e.val)) * 8 + r.val / 16) * 32 + (r.val / 4 % 4 * 8 + p.val / 8)) * 32 + (r.val % 4 * 8 + p.val % 8)
      omega)).trans ?_
  exact transpose_apply _ _ _ _ _ fun b => by
    match b with
    | ⟨0, _⟩ => rfl
    | ⟨1, _⟩ => rfl

/-- The indices, one row for each head. -/
def rows (i : IVec S128x4 32) : IVec S1x8x512x1x1 32 :=
  shapeCast S1x8x512x1x1 (broadcastInDim S1x8x128x4 ![0, 1, 2, 3] bcast_S1x1x128x4_S1x8x128x4_0_1_2_3
    (broadcastInDim S1x1x128x4 ![2, 3] bcast_S128x4_S1x1x128x4_2_3 i)) shapeCasts_S1x8x128x4_S1x8x512x1x1

/-- A head's row of indices lists the table row by row. -/
theorem rows_apply (i : IVec S128x4 32) (h : Fin 8) (n : Fin 512) :
    rows i (ix5 (0 : Fin 1) h n (0 : Fin 1) (0 : Fin 1)) = i (ix2 (⟨n.val / 4, by omega⟩ : Fin 128) (⟨n.val % 4, by omega⟩ : Fin 4)) := by
  unfold rows
  refine (shapeCast_apply _ _ _ (ix4 (0 : Fin 1) h (⟨n.val / 4, by omega⟩ : Fin 128) (⟨n.val % 4, by omega⟩ : Fin 4)) (by
    rw [Shape.rowMajor_val_four, Shape.rowMajor_val_five]
    show ((0 * 8 + h.val) * 128 + n.val / 4) * 4 + n.val % 4 = (((0 * 8 + h.val) * 512 + n.val) * 1 + 0) * 1 + 0
    omega)).trans ?_
  refine (broadcastInDim_apply _ _ _ _ (ix4 (0 : Fin 1) (0 : Fin 1) (⟨n.val / 4, by omega⟩ : Fin 128) (⟨n.val % 4, by omega⟩ : Fin 4)) (fun a => by
    match a with
    | ⟨0, _⟩ => rfl
    | ⟨1, _⟩ => rfl
    | ⟨2, _⟩ => rfl
    | ⟨3, _⟩ => rfl)).trans ?_
  exact broadcastInDim_apply _ _ _ _ _ (fun a => by
    match a with
    | ⟨0, _⟩ => rfl
    | ⟨1, _⟩ => rfl)

/-- The indices with the negative ones counted from the end. -/
def wrap (i : IVec S128x4 32) : IVec S8x512x1 32 :=
  shapeCast S8x512x1 (select (cmpi .slt (rows i) (broadcastInDim S1x8x512x1x1 ![] bcast_S_S1x8x512x1x1 (constantI S_ 32 0#32)))
    (addi (rows i) (broadcastInDim S1x8x512x1x1 ![] bcast_S_S1x8x512x1x1 (constantI S_ 32 128#32))) (rows i)) shapeCasts_S1x8x512x1x1_S8x512x1

variable (i : IVec S128x4 32) (hi : ∀ j, (i j).toNat < 128)
include hi

/-- No index of a region counts from the end. -/
theorem wrap_apply (h : Fin 8) (n : Fin 512) :
    wrap i (ix3 h n (0 : Fin 1)) = i (ix2 (⟨n.val / 4, by omega⟩ : Fin 128) (⟨n.val % 4, by omega⟩ : Fin 4)) := by
  unfold wrap
  refine (shapeCast_apply _ _ _ (ix5 (0 : Fin 1) h n (0 : Fin 1) (0 : Fin 1)) (by
    rw [Shape.rowMajor_val_three, Shape.rowMajor_val_five]
    show (((0 * 8 + h.val) * 512 + n.val) * 1 + 0) * 1 + 0 = (h.val * 512 + n.val) * 1 + 0
    omega)).trans ?_
  show (if IntOp.cmpi .slt (rows i (ix5 (0 : Fin 1) h n (0 : Fin 1) (0 : Fin 1))) 0#32 = 1#1 then _ else rows i (ix5 (0 : Fin 1) h n (0 : Fin 1) (0 : Fin 1))) = _
  rw [rows_apply]
  refine if_neg ?_
  have hlt := hi (ix2 (⟨n.val / 4, by omega⟩ : Fin 128) (⟨n.val % 4, by omega⟩ : Fin 4))
  generalize i (ix2 (⟨n.val / 4, by omega⟩ : Fin 128) (⟨n.val % 4, by omega⟩ : Fin 4)) = w at hlt ⊢
  have hf : BitVec.slt w 0#32 = false := by
    rw [BitVec.slt, decide_eq_false_iff_not, BitVec.toInt_eq_toNat_of_lt (by omega)]
    simp
  show ¬ BitVec.ofBool (BitVec.slt w 0#32) = 1#1
  rw [hf]
  decide

/-- Whether each index is a region's: the bits. -/
def bits (i : IVec S128x4 32) : IVec S8x512x1 1 :=
  andi (cmpi .sge (wrap i) (broadcastInDim S8x512x1 ![] bcast_S_S8x512x1 (constantI S_ 32 0#32)))
    (cmpi .sle (wrap i) (broadcastInDim S8x512x1 ![0, 1, 2] bcast_S1x1x1_S8x512x1_0_1_2 (broadcastInDim S1x1x1 ![2] bcast_S1_S1x1x1_2 (constantI S1 32 127#32))))

/-- Every index is a region's. -/
theorem bits_eq : bits i = fun _ => 1#1 := by
  funext y
  obtain ⟨h, n, rfl⟩ : ∃ (h : Fin 8) (n : Fin 512), y = ix3 h n (0 : Fin 1) := ⟨y 0, y 1, funext fun a => Fin.ext (by
    match a with
    | ⟨0, _⟩ => rfl
    | ⟨1, _⟩ => rfl
    | ⟨2, _⟩ =>
      have h2 : (y 2).val < 1 := (y 2).isLt
      show (y 2).val = 0
      omega)⟩
  show IntOp.andi (IntOp.cmpi .sge (wrap i (ix3 h n (0 : Fin 1))) 0#32) (IntOp.cmpi .sle (wrap i (ix3 h n (0 : Fin 1))) 127#32) = 1#1
  rw [wrap_apply i hi]
  have hlt := hi (ix2 (⟨n.val / 4, by omega⟩ : Fin 128) (⟨n.val % 4, by omega⟩ : Fin 4))
  generalize i (ix2 (⟨n.val / 4, by omega⟩ : Fin 128) (⟨n.val % 4, by omega⟩ : Fin 4)) = w at hlt ⊢
  have e := BitVec.toInt_eq_toNat_of_lt (x := w) (by omega)
  have h0 : BitVec.sle 0#32 w = true := by
    rw [BitVec.sle, decide_eq_true_eq, e]
    simp
  have h1 : BitVec.sle w 127#32 = true := by
    rw [BitVec.sle, decide_eq_true_eq, e]
    have : (127#32 : BitVec 32).toInt = 127 := by decide
    omega
  show IntOp.andi (BitVec.ofBool (BitVec.sle 0#32 w)) (BitVec.ofBool (BitVec.sle w 127#32)) = 1#1
  rw [h0, h1]
  decide

/-- Whether each index is a region's. -/
def inside (i : IVec S128x4 32) : IVec S8x512 1 :=
  Host.reduce IntOp.andi (bits i) (constantI S_ 1 1#1) reducesTo_S8x512x1_S8x512_d2 h_S_

/-- Every index is a region's, after the test along the last axis. -/
theorem inside_apply (y : S8x512.Idx) : inside i y = 1#1 := by
  unfold inside
  rw [bits_eq i hi, Host.reduce_eq_fold]
  refine (Finset.fold_const (op := IntOp.andi) (b := (1#1 : BitVec 1)) (c := (1#1 : BitVec 1)) (by decide)).trans ?_
  split <;> decide

/-- The regions that the indices name. -/
def take (i : IVec S128x4 32) (x : FVec Ideal S1x8x128x64x24 .f32) : FVec Ideal S1x8x512x64x24 .f32 :=
  select (broadcastInDim S1x8x512x64x24 ![1, 2] bcast_S8x512_S1x8x512x64x24_1_2 (inside i))
    (Host.gather gather_S1x8x128x64x24_S8x512x1_S1x8x512x64x24_034_2_1_0_2_2_1116424 x (wrap i))
    (broadcastInDim S1x8x512x64x24 ![] bcast_S_S1x8x512x64x24 (constant S_ .f32 0x7FC00000#32))

/-- What is taken at an entry: the region that the index names. -/
theorem take_apply (x : FVec Ideal S1x8x128x64x24 .f32) (h : Fin 8) (n : Fin 512) (p : Fin 64) (e : Fin 24) :
    take i x (ix5 (0 : Fin 1) h n p e) =
      x (ix5 (0 : Fin 1) h (⟨(i (ix2 (⟨n.val / 4, by omega⟩ : Fin 128) (⟨n.val % 4, by omega⟩ : Fin 4))).toNat, hi _⟩ : Fin 128) p e) := by
  unfold take
  show (if inside i _ = 1#1 then Host.gather gather_S1x8x128x64x24_S8x512x1_S1x8x512x64x24_034_2_1_0_2_2_1116424 x (wrap i) (ix5 (0 : Fin 1) h n p e)
    else _) = _
  refine (if_pos (inside_apply i hi _)).trans ?_
  have hlt := hi (ix2 (⟨n.val / 4, by omega⟩ : Fin 128) (⟨n.val % 4, by omega⟩ : Fin 4))
  unfold Host.gather
  refine congrArg x (funext fun a => Fin.ext ?_)
  set d := gather_S1x8x128x64x24_S8x512x1_S1x8x512x64x24_034_2_1_0_2_2_1116424 with hd
  match a with
  | ⟨0, _⟩ => rfl
  | ⟨1, _⟩ =>
    show 0 + h.val + 0 = h.val
    omega
  | ⟨2, _⟩ =>
    have hsi : d.siIdx (ix5 (0 : Fin 1) h n p e) ⟨0, by decide⟩ = ix3 h n (0 : Fin 1) := by
      funext b
      refine Fin.ext ?_
      match b with
      | ⟨0, _⟩ => rfl
      | ⟨1, _⟩ => rfl
      | ⟨2, _⟩ => rfl
    show min (wrap i (d.siIdx (ix5 (0 : Fin 1) h n p e) ⟨0, _⟩)).toInt.toNat 127 + 0 + 0 = (i (ix2 (⟨n.val / 4, _⟩ : Fin 128) (⟨n.val % 4, _⟩ : Fin 4))).toNat
    rw [hsi, wrap_apply i hi, BitVec.toInt_eq_toNat_of_lt (by omega), Int.toNat_natCast]
    omega
  | ⟨3, _⟩ =>
    show 0 + 0 + p.val = p.val
    omega
  | ⟨4, _⟩ =>
    show 0 + 0 + e.val = e.val
    omega

/-- The four regions of each region, one after the other. -/
def quads (i : IVec S128x4 32) (x : FVec Ideal S1x8x128x64x24 .f32) : FVec Ideal S1x8x128x256x24 .f32 :=
  shapeCast S1x8x128x256x24 (take i x) shapeCasts_S1x8x512x64x24_S1x8x128x256x24

/-- The four regions of a region at an entry. -/
theorem quads_apply (x : FVec Ideal S1x8x128x64x24 .f32) (h : Fin 8) (r : Fin 128) (n : Fin 256) (e : Fin 24) :
    quads i x (ix5 (0 : Fin 1) h r n e) = x (ix5 (0 : Fin 1) h (⟨(i (ix2 r (part n))).toNat, hi _⟩ : Fin 128) (place n) e) := by
  unfold quads
  refine (shapeCast_apply _ _ _ (ix5 (0 : Fin 1) h (⟨r.val * 4 + n.val / 64, by omega⟩ : Fin 512) (place n) e) (by
    rw [Shape.rowMajor_val_five, Shape.rowMajor_val_five]
    show (((0 * 8 + h.val) * 512 + (r.val * 4 + n.val / 64)) * 64 + n.val % 64) * 24 + e.val = (((0 * 8 + h.val) * 128 + r.val) * 256 + n.val) * 24 + e.val
    omega)).trans ?_
  refine (take_apply i hi x h _ (place n) e).trans ?_
  have e1 : (ix2 (⟨(r.val * 4 + n.val / 64) / 4, by omega⟩ : Fin 128) (⟨(r.val * 4 + n.val / 64) % 4, by omega⟩ : Fin 4) : S128x4.Idx) = ix2 r (part n) :=
    funext fun a => Fin.ext (by
      match a with
      | ⟨0, _⟩ =>
        show (r.val * 4 + n.val / 64) / 4 = r.val
        omega
      | ⟨1, _⟩ =>
        show (r.val * 4 + n.val / 64) % 4 = n.val / 64
        omega)
  have e2 : (⟨(i (ix2 (⟨(r.val * 4 + n.val / 64) / 4, by omega⟩ : Fin 128) (⟨(r.val * 4 + n.val / 64) % 4, by omega⟩ : Fin 4))).toNat, hi _⟩ : Fin 128) =
      ⟨(i (ix2 r (part n))).toNat, hi _⟩ := Fin.ext (congrArg (fun y => (i y).toNat) e1)
  exact congrArg (fun z : Fin 128 => x (ix5 (0 : Fin 1) h z (place n) e)) e2

end Cert.AttRefIdeal.Take

end
-- ==== Proof.AttRefRead.lean ====
module

public import proofs.«01_k».proof.Proof.AttRefTake
public import Idealize.ShloMosaic.Lib.MatmulPlain
public import Idealize.ShloMosaic.Lib.StackMember

@[expose] public section

set_option maxRecDepth 65536

noncomputable section

namespace Cert.AttRefIdeal.At

open Cert.AttRefIdeal Cert.AttRefIdeal.Gen Cert.AttRefIdeal.Take Cert.AttSoft Idealize.ShloMosaic Idealize.ShloMosaic.TcCoe

/-! ## The reference's attention, read at an entry -/

/-- A product of stacks of matrices over two leading axes, read at an entry: the queries' with the keys'. -/
theorem dot1_apply (A : FVec Ideal S8x128x64x24 .f32) (B : FVec Ideal S8x128x24x256 .f32) (h : Fin 8) (r : Fin 128) (p : Fin 64) (n : Fin 256) :
    Host.dotGeneral dot_S8x128x64x24_S8x128x24x256_S8x128x64x256_3_2_2_3_01_01 none A B (ix4 h r p n) =
      ∑ e : Fin 24, (A (ix4 h r p e) : EReal) * B (ix4 h r e n) := by
  show FloatOps.dotGeneral _ none _ A B (ix4 h r p n) = _
  rw [Ideal.dotGeneral_apply, ← Equiv.sum_comp (ValueIdx.contrEquiv1 dot_S8x128x64x24_S8x128x24x256_S8x128x64x256_3_2_2_3_01_01 24 rfl rfl).symm]
  refine Finset.sum_congr rfl fun c _ => ?_
  have hc := ValueIdx.contrEquiv1_symm_val dot_S8x128x64x24_S8x128x24x256_S8x128x64x256_3_2_2_3_01_01 24 rfl rfl c
  have el : dot_S8x128x64x24_S8x128x24x256_S8x128x64x256_3_2_2_3_01_01.lhsIdx (ix4 h r p n) ((ValueIdx.contrEquiv1 _ 24 rfl rfl).symm c) = ix4 h r p c := by
    funext a; apply Fin.ext
    match a with
    | ⟨0, _⟩ => rfl
    | ⟨1, _⟩ => rfl
    | ⟨2, _⟩ => rfl
    | ⟨3, _⟩ => exact hc
  have er : dot_S8x128x64x24_S8x128x24x256_S8x128x64x256_3_2_2_3_01_01.rhsIdx (ix4 h r p n) ((ValueIdx.contrEquiv1 _ 24 rfl rfl).symm c) = ix4 h r c n := by
    funext a; apply Fin.ext
    match a with
    | ⟨0, _⟩ => rfl
    | ⟨1, _⟩ => rfl
    | ⟨2, _⟩ => exact hc
    | ⟨3, _⟩ => rfl
  rw [el, er]

/-- A product of stacks of matrices over two leading axes, read at an entry: the probabilities' with the values'. -/
theorem dot2_apply (A : FVec Ideal S8x128x64x256 .f32) (B : FVec Ideal S8x128x256x24 .f32) (h : Fin 8) (r : Fin 128) (p : Fin 64) (e : Fin 24) :
    Host.dotGeneral dot_S8x128x64x256_S8x128x256x24_S8x128x64x24_3_2_2_3_01_01 none A B (ix4 h r p e) =
      ∑ n : Fin 256, (A (ix4 h r p n) : EReal) * B (ix4 h r n e) := by
  show FloatOps.dotGeneral _ none _ A B (ix4 h r p e) = _
  rw [Ideal.dotGeneral_apply, ← Equiv.sum_comp (ValueIdx.contrEquiv1 dot_S8x128x64x256_S8x128x256x24_S8x128x64x24_3_2_2_3_01_01 256 rfl rfl).symm]
  refine Finset.sum_congr rfl fun c _ => ?_
  have hc := ValueIdx.contrEquiv1_symm_val dot_S8x128x64x256_S8x128x256x24_S8x128x64x24_3_2_2_3_01_01 256 rfl rfl c
  have el : dot_S8x128x64x256_S8x128x256x24_S8x128x64x24_3_2_2_3_01_01.lhsIdx (ix4 h r p e) ((ValueIdx.contrEquiv1 _ 256 rfl rfl).symm c) = ix4 h r p c := by
    funext a; apply Fin.ext
    match a with
    | ⟨0, _⟩ => rfl
    | ⟨1, _⟩ => rfl
    | ⟨2, _⟩ => rfl
    | ⟨3, _⟩ => exact hc
  have er : dot_S8x128x64x256_S8x128x256x24_S8x128x64x24_3_2_2_3_01_01.rhsIdx (ix4 h r p e) ((ValueIdx.contrEquiv1 _ 256 rfl rfl).symm c) = ix4 h r c e := by
    funext a; apply Fin.ext
    match a with
    | ⟨0, _⟩ => rfl
    | ⟨1, _⟩ => rfl
    | ⟨2, _⟩ => exact hc
    | ⟨3, _⟩ => rfl
  rw [el, er]

/-- The queries times the scale. -/
def scaled (q : FVec Ideal S1x8x128x64x24 .f32) : FVec Ideal S8x128x64x24 .f32 :=
  shapeCast S8x128x64x24 (mulf q (broadcastInDim S1x8x128x64x24 ![] bcast_S_S1x8x128x64x24 (constant S_ .f32 0x3D93CD3A#32)))
    shapeCasts_S1x8x128x64x24_S8x128x64x24

/-- The scaled queries at an entry. -/
theorem scaled_apply (q : FVec Ideal S1x8x128x64x24 .f32) (h : Fin 8) (r : Fin 128) (p : Fin 64) (e : Fin 24) :
    scaled q (ix4 h r p e) = (q (ix5 (0 : Fin 1) h r p e) * scale : EReal) := by
  unfold scaled
  refine (shapeCast_apply _ _ _ (ix5 (0 : Fin 1) h r p e) (by
    rw [Shape.rowMajor_val_four, Shape.rowMajor_val_five]
    show (((0 * 8 + h.val) * 128 + r.val) * 64 + p.val) * 24 + e.val = ((h.val * 128 + r.val) * 64 + p.val) * 24 + e.val
    omega)).trans ?_
  rfl

/-- The keys, turned. -/
def turned (k : FVec Ideal S1x8x128x256x24 .f32) : FVec Ideal S8x128x24x256 .f32 :=
  shapeCast S8x128x24x256 (transpose S1x8x128x24x256 [0, 1, 2, 4, 3] k transposes_S1x8x128x256x24_S1x8x128x24x256_0_1_2_4_3)
    shapeCasts_S1x8x128x24x256_S8x128x24x256

/-- The turned keys at an entry. -/
theorem turned_apply (k : FVec Ideal S1x8x128x256x24 .f32) (h : Fin 8) (r : Fin 128) (e : Fin 24) (n : Fin 256) :
    turned k (ix4 h r e n) = k (ix5 (0 : Fin 1) h r n e) := by
  unfold turned
  refine (shapeCast_apply _ _ _ (ix5 (0 : Fin 1) h r e n) (by
    rw [Shape.rowMajor_val_four, Shape.rowMajor_val_five]
    show (((0 * 8 + h.val) * 128 + r.val) * 24 + e.val) * 256 + n.val = ((h.val * 128 + r.val) * 24 + e.val) * 256 + n.val
    omega)).trans ?_
  exact transpose_apply _ _ _ _ _ fun b => by
    match b with
    | ⟨0, _⟩ => rfl
    | ⟨1, _⟩ => rfl
    | ⟨2, _⟩ => rfl
    | ⟨3, _⟩ => rfl
    | ⟨4, _⟩ => rfl

/-- The logits. -/
def logits (q : FVec Ideal S1x8x128x64x24 .f32) (k : FVec Ideal S1x8x128x256x24 .f32) : FVec Ideal S1x8x128x64x256 .f32 :=
  broadcastInDim S1x8x128x64x256 ![1, 2, 3, 4] bcast_S8x128x64x256_S1x8x128x64x256_1_2_3_4
    (Host.dotGeneral dot_S8x128x64x24_S8x128x24x256_S8x128x64x256_3_2_2_3_01_01 none (scaled q) (turned k))

/-- A logit is the sum over the channels of the scaled query times the key. -/
theorem logits_apply (q : FVec Ideal S1x8x128x64x24 .f32) (k : FVec Ideal S1x8x128x256x24 .f32) (h : Fin 8) (r : Fin 128) (p : Fin 64) (n : Fin 256) :
    logits q k (ix5 (0 : Fin 1) h r p n) =
      ∑ e : Fin 24, ((q (ix5 (0 : Fin 1) h r p e) : EReal) * scale) * k (ix5 (0 : Fin 1) h r n e) := by
  unfold logits
  refine (broadcastInDim_apply _ _ _ _ (ix4 h r p n) (fun a => by
    match a with
    | ⟨0, _⟩ => rfl
    | ⟨1, _⟩ => rfl
    | ⟨2, _⟩ => rfl
    | ⟨3, _⟩ => rfl)).trans ((dot1_apply _ _ h r p n).trans ?_)
  exact Finset.sum_congr rfl fun e _ => congrArg₂ (· * ·) (scaled_apply q h r p e) (turned_apply k h r e n)

/-- A row's number spread along the row. -/
def spread (x : FVec Ideal S1x8x128x64 .f32) : FVec Ideal S1x8x128x64x256 .f32 :=
  broadcastInDim S1x8x128x64x256 ![0, 1, 2, 3, 4] bcast_S1x8x128x64x1_S1x8x128x64x256_0_1_2_3_4
    (broadcastInDim S1x8x128x64x1 ![0, 1, 2, 3] bcast_S1x8x128x64_S1x8x128x64x1_0_1_2_3 x)

/-- The spread numbers at an entry: the row's. -/
theorem spread_apply (x : FVec Ideal S1x8x128x64 .f32) (h : Fin 8) (r : Fin 128) (p : Fin 64) (n : Fin 256) :
    spread x (ix5 (0 : Fin 1) h r p n) = x (ix4 (0 : Fin 1) h r p) := by
  unfold spread
  refine (broadcastInDim_apply _ _ _ _ (ix5 (0 : Fin 1) h r p (0 : Fin 1)) (fun a => by
    match a with
    | ⟨0, _⟩ => rfl
    | ⟨1, _⟩ => rfl
    | ⟨2, _⟩ => rfl
    | ⟨3, _⟩ => rfl
    | ⟨4, _⟩ => rfl)).trans ?_
  exact broadcastInDim_apply _ _ _ _ _ (fun a => by
    match a with
    | ⟨0, _⟩ => rfl
    | ⟨1, _⟩ => rfl
    | ⟨2, _⟩ => rfl
    | ⟨3, _⟩ => rfl)

/-- The greatest of each row, from a number given as an array of one entry. -/
def mostOf (z : FVec Ideal S_ .f32) (l : FVec Ideal S1x8x128x64x256 .f32) : FVec Ideal S1x8x128x64 .f32 :=
  maximumf (broadcastInDim S1x8x128x64 ![] bcast_S_S1x8x128x64 z)
    (Host.reduce FloatOps.maximumf l z reducesTo_S1x8x128x64x256_S1x8x128x64_d4 h_S_)

/-- A row's fold by the greater of two numbers. -/
theorem peak (z : FVec Ideal S_ .f32) (l : FVec Ideal S1x8x128x64x256 .f32) (h : Fin 8) (r : Fin 128) (p : Fin 64) :
    Host.reduce FloatOps.maximumf l z reducesTo_S1x8x128x64x256_S1x8x128x64_d4 h_S_ (ix4 (0 : Fin 1) h r p) =
      (Finset.univ : Finset (Fin 256)).fold (FloatOps.maximumf (F := Ideal) (φ := .f32)) (z (fun a => a.elim0))
        (fun n => l (ix5 (0 : Fin 1) h r p n)) := by
  refine (Host.reduce_eq_fold (FloatOps.maximumf (F := Ideal)) l _ _ _ _).trans ?_
  refine (Shape.ReducesTo.fold_fiber_r5_a4 reducesTo_S1x8x128x64x256_S1x8x128x64_d4 _ _ _ _).trans ?_
  congr 2
  exact funext fun a => a.elim0

/-- The greater of two arrays, read at an entry. -/
theorem max_apply {s : Shape} (x y : FVec Ideal s .f32) (i : s.Idx) : maximumf x y i = FloatOps.maximumf (F := Ideal) (φ := .f32) (x i) (y i) := rfl

/-- The greatest of each row is the greater of the number and the row's fold. -/
theorem mostOf_eq (z : FVec Ideal S_ .f32) (hz : z (fun a => a.elim0) = (⊥ : EReal)) (l : FVec Ideal S1x8x128x64x256 .f32)
    (i : S1x8x128x64.Idx) (b : EReal) (hb : Host.reduce FloatOps.maximumf l z reducesTo_S1x8x128x64x256_S1x8x128x64_d4 h_S_ i = b) :
    mostOf z l i = FloatOps.maximumf (F := Ideal) (φ := .f32) (⊥ : EReal) b := by
  have e : broadcastInDim S1x8x128x64 ![] bcast_S_S1x8x128x64 z i = (⊥ : EReal) :=
    (broadcastInDim_apply _ _ _ _ (fun a => a.elim0) (fun a => a.elim0)).trans hz
  unfold mostOf
  rw [max_apply, e, hb]

/-- The greater of the least number and a fold from it is the greatest of the row. -/
theorem top_of (z : EReal) (hz : z = (⊥ : EReal)) (f : Fin 256 → EReal) :
    FloatOps.maximumf (F := Ideal) (φ := .f32) (⊥ : EReal)
      ((Finset.univ : Finset (Fin 256)).fold (FloatOps.maximumf (F := Ideal) (φ := .f32)) z f) = top f := by
  subst hz
  exact max_bot_left _

/-- From the least number, it is the greatest of the row's numbers. -/
theorem mostOf_apply (z : FVec Ideal S_ .f32) (hz : z (fun a => a.elim0) = (⊥ : EReal)) (l : FVec Ideal S1x8x128x64x256 .f32)
    (h : Fin 8) (r : Fin 128) (p : Fin 64) : mostOf z l (ix4 (0 : Fin 1) h r p) = top fun n => l (ix5 (0 : Fin 1) h r p n) :=
  (mostOf_eq z hz l _ _ (peak z l h r p)).trans (top_of _ hz _)

/-- The word of the least number is the bottom of the extended reals. -/
theorem bot : (constant S_ .f32 0xFF800000#32 : FVec Ideal S_ .f32) (fun a => a.elim0) = (⊥ : EReal) := by
  show (Ideal.ofBits .f32 0xFF800000#32 : EReal) = ⊥
  simp [Ideal.ofBits, Ideal.ieee]

/-- The greatest of each row. -/
def most (l : FVec Ideal S1x8x128x64x256 .f32) : FVec Ideal S1x8x128x64 .f32 := mostOf (constant S_ .f32 0xFF800000#32) l

/-- The greatest of a row at an entry. -/
theorem most_apply (l : FVec Ideal S1x8x128x64x256 .f32) (h : Fin 8) (r : Fin 128) (p : Fin 64) :
    most l (ix4 (0 : Fin 1) h r p) = top fun n => l (ix5 (0 : Fin 1) h r p n) :=
  mostOf_apply _ bot l h r p

/-- The exponentials of the logits less the greatest of their row. -/
def exps (l : FVec Ideal S1x8x128x64x256 .f32) : FVec Ideal S1x8x128x64x256 .f32 := Host.exp (subf l (spread (most l)))

/-- The exponentials at an entry. -/
theorem exps_apply (l : FVec Ideal S1x8x128x64x256 .f32) (h : Fin 8) (r : Fin 128) (p : Fin 64) (n : Fin 256) :
    exps l (ix5 (0 : Fin 1) h r p n) =
      Ideal.exp ((l (ix5 (0 : Fin 1) h r p n) : EReal) - top fun m => l (ix5 (0 : Fin 1) h r p m)) :=
  congrArg (fun z => Ideal.exp ((l (ix5 (0 : Fin 1) h r p n) : EReal) - z)) ((spread_apply _ h r p n).trans (most_apply l h r p))

/-- The softmax along the rows. -/
def probs (l : FVec Ideal S1x8x128x64x256 .f32) : FVec Ideal S8x128x64x256 .f32 :=
  shapeCast S8x128x64x256 (Host.divf (exps l)
    (spread (Host.reduceAdd (exps l) (constant S_ .f32 0x00000000#32) reducesTo_S1x8x128x64x256_S1x8x128x64_d4 h_S_)))
    shapeCasts_S1x8x128x64x256_S8x128x64x256

/-- The softmax along a row at an entry. -/
theorem probs_apply (l : FVec Ideal S1x8x128x64x256 .f32) (h : Fin 8) (r : Fin 128) (p : Fin 64) (n : Fin 256) :
    probs l (ix4 h r p n) = Ideal.div (Ideal.exp ((l (ix5 (0 : Fin 1) h r p n) : EReal) - top fun m => l (ix5 (0 : Fin 1) h r p m)))
      (∑ n' : Fin 256, Ideal.exp ((l (ix5 (0 : Fin 1) h r p n') : EReal) - top fun m => l (ix5 (0 : Fin 1) h r p m))) := by
  unfold probs
  refine (shapeCast_apply _ _ _ (ix5 (0 : Fin 1) h r p n) (by
    rw [Shape.rowMajor_val_four, Shape.rowMajor_val_five]
    show (((0 * 8 + h.val) * 128 + r.val) * 64 + p.val) * 256 + n.val = ((h.val * 128 + r.val) * 64 + p.val) * 256 + n.val
    omega)).trans ?_
  have e : spread (Host.reduceAdd (exps l) (constant S_ .f32 0x00000000#32) reducesTo_S1x8x128x64x256_S1x8x128x64_d4 h_S_) (ix5 (0 : Fin 1) h r p n) =
      (Ideal.ofBits .f32 0x00000000#32 : EReal) + ∑ n' : Fin 256, (exps l (ix5 (0 : Fin 1) h r p n') : EReal) :=
    (spread_apply _ h r p n).trans (Ideal.hostReduceAdd_r5_a4 reducesTo_S1x8x128x64x256_S1x8x128x64_d4 (exps l) _ _)
  rw [Ideal.ofBits_zero_f32, zero_add] at e
  exact congrArg₂ Ideal.div (exps_apply l h r p n) (e.trans (Finset.sum_congr rfl fun m _ => exps_apply l h r p m))

/-- The attention of the queries to the keys and values of their regions. -/
def out (l : FVec Ideal S1x8x128x64x256 .f32) (v : FVec Ideal S1x8x128x256x24 .f32) : FVec Ideal S8x128x64x24 .f32 :=
  shapeCast S8x128x64x24 (broadcastInDim S1x8x128x64x24 ![1, 2, 3, 4] bcast_S8x128x64x24_S1x8x128x64x24_1_2_3_4
    (Host.dotGeneral dot_S8x128x64x256_S8x128x256x24_S8x128x64x24_3_2_2_3_01_01 none (probs l)
      (shapeCast S8x128x256x24 v shapeCasts_S1x8x128x256x24_S8x128x256x24))) shapeCasts_S1x8x128x64x24_S8x128x64x24

/-- The attention at an entry: the softmax of the row's logits, summed against the values. -/
theorem out_apply (l : FVec Ideal S1x8x128x64x256 .f32) (v : FVec Ideal S1x8x128x256x24 .f32) (h : Fin 8) (r : Fin 128) (p : Fin 64) (d : Fin 24) :
    out l v (ix4 h r p d) = soft (fun n => l (ix5 (0 : Fin 1) h r p n)) (fun n => v (ix5 (0 : Fin 1) h r n d)) := by
  unfold out
  refine (shapeCast_apply _ _ _ (ix5 (0 : Fin 1) h r p d) (by
    rw [Shape.rowMajor_val_four, Shape.rowMajor_val_five]
    show (((0 * 8 + h.val) * 128 + r.val) * 64 + p.val) * 24 + d.val = ((h.val * 128 + r.val) * 64 + p.val) * 24 + d.val
    omega)).trans ?_
  refine (broadcastInDim_apply _ _ _ _ (ix4 h r p d) (fun a => by
    match a with
    | ⟨0, _⟩ => rfl
    | ⟨1, _⟩ => rfl
    | ⟨2, _⟩ => rfl
    | ⟨3, _⟩ => rfl)).trans ((dot2_apply _ _ h r p d).trans ?_)
  refine Finset.sum_congr rfl fun n _ => congrArg₂ (· * ·) (probs_apply l h r p n) ?_
  refine shapeCast_apply _ _ _ _ ?_
  rw [Shape.rowMajor_val_four, Shape.rowMajor_val_five]
  show (((0 * 8 + h.val) * 128 + r.val) * 256 + n.val) * 24 + d.val = ((h.val * 128 + r.val) * 256 + n.val) * 24 + d.val
  omega

/-- The reference's result. -/
def res (i : IVec S128x4 32) (q k v : FVec Ideal S8192x192 .f32) : FVec Ideal S8x128x64x24 .f32 :=
  out (logits (lay q) (quads i (lay k))) (quads i (lay v))

/-- What the reference leaves is that array of its arguments. -/
theorem run_eq (m : (ℓ : Loc nD τ sig) → Buf (Elt Ideal) ℓ) (c : Dev nD) :
    Value.res_main_v44 (F := Ideal) m c = res (m (c.tc.loc main_arg0)) (m (c.tc.loc main_arg1)) (m (c.tc.loc main_arg2)) (m (c.tc.loc main_arg3)) := rfl

/-- The reference's result at an entry, where every index is a region's. -/
theorem res_apply (i : IVec S128x4 32) (hi : ∀ j, (i j).toNat < 128) (q k v : FVec Ideal S8192x192 .f32)
    (h : Fin 8) (r : Fin 128) (p : Fin 64) (d : Fin 24) :
    res i q k v (ix4 h r p d) = att q k v (fun r j => ⟨(i (ix2 r j)).toNat, hi _⟩) h r p d := by
  unfold res att
  refine (out_apply _ _ h r p d).trans (congrArg₂ soft (funext fun n => (logits_apply _ _ h r p n).trans ?_)
    (funext fun n => (quads_apply i hi _ h r n d).trans (lay_apply _ _ _ _ _)))
  exact Finset.sum_congr rfl fun e _ => congrArg₂ (fun a b : EReal => a * scale * b) (lay_apply _ _ _ _ _)
    ((quads_apply i hi _ h r n e).trans (lay_apply _ _ _ _ _))

end Cert.AttRefIdeal.At

end
-- ==== Proof.AttClaim.lean ====
module

public import proofs.«01_k».proof.Defs
public import proofs.«01_k».proof.Proof.AttFinal
public import proofs.«01_k».proof.Proof.AttRefRead
public import proofs.«01_k».proof.Proof.AttRange
public import proofs.«01_k».proof.Proof.AttOk
public import Idealize.ShloMosaic.Lib.Pipeline.ValueKit
public import Idealize.ShloMosaic.Init

@[expose] public section

set_option maxRecDepth 65536

noncomputable section

namespace Cert.AttClaim

open Cert.AttIdeal Cert.AttIdeal.Gen Cert.AttIdeal.Final Idealize.ShloMosaic Idealize.ShloMosaic.TcCoe Idealize.SL.Sem
open Idealize.ShloMosaic.Pipeline (Dat)

/-- The array the kernel leaves is the reference's result, for any arguments whose indices are regions'. -/
theorem out_res (i : IVec S128x4 32) (hi : ∀ j, (i j).toNat < 128) (q k v : FVec Ideal S8192x192 .f32) :
    res i hi q k v = Cert.AttRefIdeal.At.res i q k v := by
  funext y
  obtain ⟨h, r, p, e, rfl⟩ := ex4 y
  exact (Cert.AttRefIdeal.At.res_apply i hi q k v h r p e).symm

/-- Where every index is a region's, the kernel's array is the reference's result, exactly. -/
theorem algebraic : @Cert.algebraic_AttIdeal_AttRefIdeal Cert.AttIdeal.Gen.facts Cert.AttRefIdeal.Gen.facts Cert.Pre_in_range.Gen.facts := by
  intro m g m' g' hpre hag
  have hi := Cert.AttRange.lt_of_in_range _ _ _ _ (hpre 0)
  have hO := Cert.AttIdeal.At.ok m hi
  refine ⟨fun c => (dats m hO 0 c).arrAt 9 (cfgM m hO).N, ?_, ?_⟩
  · refine (θ_run defs _ _).mono (fun r h c => ?_) (run_main m g hO)
    exact ⟨(h c).1 9, ((h c).2 main_arg0 (by decide : main_arg0 ∈ Pipeline.restRefs sig spec0)).trans (V_main_arg0 m c), ((h c).2 main_arg1 (by decide : main_arg1 ∈ Pipeline.restRefs sig spec0)).trans (V_main_arg1 m c),
      ((h c).2 main_arg2 (by decide : main_arg2 ∈ Pipeline.restRefs sig spec0)).trans (V_main_arg2 m c), ((h c).2 main_arg3 (by decide : main_arg3 ∈ Pipeline.restRefs sig spec0)).trans (V_main_arg3 m c)⟩
  · refine (θ_run Cert.AttRefIdeal.defs _ _).mono (fun r h c => ⟨?_, (h c).2⟩) (Cert.AttRefIdeal.Value.run (F := Ideal) m' g')
    obtain rfl : c = 0 := Subsingleton.elim _ _
    obtain ⟨h0, h1, h2, h3⟩ := hag 0
    refine (h 0).1.trans ((Cert.AttRefIdeal.At.run_eq m' 0).trans ?_)
    rw [h0, h1, h2, h3]
    exact ((final m hO 0 hi).trans (out_res _ hi _ _ _)).symm

end Cert.AttClaim

end
-- ==== Proof.lean ====
module

public import proofs.«01_k».proof.Defs
public import proofs.«01_k».proof.Proof.QkvClaim
public import proofs.«01_k».proof.Proof.LepeClaim
public import proofs.«01_k».proof.Proof.TopKClaim
public import proofs.«01_k».proof.Proof.AttClaim
public import proofs.«01_k».proof.Proof.AttOk
public import proofs.«01_k».proof.Proof.AttOkBits
public import proofs.«01_k».proof.Proof.Gen.Qkv.Frame
public import proofs.«01_k».proof.Proof.Gen.QkvIdeal.Frame
public import proofs.«01_k».proof.Proof.Gen.TopK.Frame
public import proofs.«01_k».proof.Proof.Gen.TopKIdeal.Frame
public import proofs.«01_k».proof.Proof.Gen.TopKIdeal.Value
public import proofs.«01_k».proof.Proof.Gen.TopKRefIdeal.Run
public import proofs.«01_k».proof.Proof.Gen.Pre_finite2
public import proofs.«01_k».proof.Proof.Gen.Att.Frame
public import proofs.«01_k».proof.Proof.Gen.AttIdeal.Frame
public import proofs.«01_k».proof.Proof.Gen.AttRefIdeal.Run
public import proofs.«01_k».proof.Proof.Gen.Lepe.Frame
public import proofs.«01_k».proof.Proof.Gen.LepeIdeal.Frame
public import proofs.«01_k».proof.Proof.Gen.Pre_in_range
public import Idealize.ShloMosaic.Adequacy
public import Idealize.ShloMosaic.Init

@[expose] public section

noncomputable section

namespace Cert.Proof

open Idealize.ShloMosaic Idealize.SL.Sem

/-- The scores' reference ends, its arguments as launched. -/
theorem topk_ref : Cert.quiescent_TopKRefIdeal (hTopKRefIdeal := Cert.TopKRefIdeal.Gen.facts) :=
  fun m ρ _ => (θ_run Cert.TopKRefIdeal.defs _ _).mono (fun r h => ⟨fun c => (h c).2, sem_eq_zero_of_no_sems (by decide) r.2⟩)
    (Cert.TopKRefIdeal.Value.run (F := Ideal) m ρ)

/-- The attention's reference ends, its arguments as launched. -/
theorem att_ref : Cert.quiescent_AttRefIdeal (hAttRefIdeal := Cert.AttRefIdeal.Gen.facts) :=
  fun m ρ _ => (θ_run Cert.AttRefIdeal.defs _ _).mono (fun r h => ⟨fun c => (h c).2, sem_eq_zero_of_no_sems (by decide) r.2⟩)
    (Cert.AttRefIdeal.Value.run (F := Ideal) m ρ)

/-- The attention ends under the precondition, as the chip computes it. -/
theorem att : Cert.quiescent_Att (hAtt := Cert.Att.Gen.facts) (hPre_in_range := Cert.Pre_in_range.Gen.facts) :=
  fun m ρ h => Cert.Att.Gen.frame m ρ (Cert.Att.At.ok m (Cert.AttRange.lt_of_in_range _ _ _ _ (h 0)))

/-- The attention ends under the precondition, over exact numbers. -/
theorem att_ideal : Cert.quiescent_AttIdeal (hAttIdeal := Cert.AttIdeal.Gen.facts) (hPre_in_range := Cert.Pre_in_range.Gen.facts) :=
  fun m ρ h => Cert.AttIdeal.Gen.frame m ρ (Cert.AttIdeal.At.ok m (Cert.AttRange.lt_of_in_range _ _ _ _ (h 0)))

/-- Every claim of this certificate. -/
theorem claim : Cert.Claim :=
  ⟨Cert.Qkv.Gen.facts, Cert.QkvIdeal.Gen.facts, Cert.QkvRefIdeal.Gen.facts,
    Cert.TopK.Gen.facts, Cert.TopKIdeal.Gen.facts, Cert.TopKRefIdeal.Gen.facts,
    Cert.Att.Gen.facts, Cert.AttIdeal.Gen.facts, Cert.AttRefIdeal.Gen.facts,
    Cert.Lepe.Gen.facts, Cert.LepeIdeal.Gen.facts, Cert.LepeRefIdeal.Gen.facts,
    Cert.Pre_finite.Gen.facts, Cert.Pre_finite2.Gen.facts, Cert.Pre_in_range.Gen.facts,
    fun m ρ _ => Cert.Qkv.Gen.frame m ρ, fun m ρ _ => Cert.QkvIdeal.Gen.frame m ρ, fun m ρ _ => Cert.QkvIdeal.Gen.frame m ρ,
    Cert.QkvClaim.frame_ref, fun m ρ _ => Cert.QkvClaim.frame_ref m ρ trivial,
    fun m ρ _ => Cert.TopK.Gen.frame m ρ, fun m ρ _ => Cert.TopKIdeal.Gen.frame m ρ,
    fun m ρ _ => Cert.TopKIdeal.Gen.frame m ρ, topk_ref, fun m ρ _ => topk_ref m ρ trivial,
    att, att_ideal, att_ref, fun m ρ _ => att_ref m ρ trivial,
    fun m ρ _ => Cert.Lepe.Gen.frame m ρ, fun m ρ _ => Cert.LepeIdeal.Gen.frame m ρ, Cert.LepeClaim.frame_ref,
    trivial, Cert.QkvClaim.algebraic, trivial, Cert.TopKClaim.algebraic, trivial, Cert.AttClaim.algebraic, trivial, Cert.LepeClaim.algebraic⟩

end Cert.Proof

end
